-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2.2.2.2.2.2 = (fun _ => 1#1)

def Pre_Lin (m : (ℓ : Loc Cert.Lin.nD Cert.Lin.τ Cert.Lin.sig) → Buf (Elt Bits) ℓ) : Prop :=
  True

def Pre_LinIdeal (m : (ℓ : Loc Cert.LinIdeal.nD Cert.LinIdeal.τ Cert.LinIdeal.sig) → Buf (Elt Ideal) ℓ) : Prop :=
  True

def Pre_LinReferenceIdeal (m : (ℓ : Loc Cert.LinReferenceIdeal.nD Cert.LinReferenceIdeal.τ Cert.LinReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_Lin [hLin : Cert.Lin.Facts] : Prop :=
  ∀ (m : (ℓ : Loc Cert.Lin.nD Cert.Lin.τ Cert.Lin.sig) → Buf (Elt Bits) ℓ) (g : Dev Cert.Lin.nD → PrngReg), Pre_Lin m →
    θ_run (Cert.Lin.defs (F := Bits)) (onTc (τ := Cert.Lin.τ) (Cert.Lin.main (F := Bits))) ⟨m, fun _ => 0, g⟩ (fun r => (∀ c : Dev Cert.Lin.nD,
      r.2.mem ((c.tc : Thread Cert.Lin.nD Cert.Lin.τ).loc Cert.Lin.main_arg0) = m ((c.tc : Thread Cert.Lin.nD Cert.Lin.τ).loc Cert.Lin.main_arg0)
      ∧ r.2.mem ((c.tc : Thread Cert.Lin.nD Cert.Lin.τ).loc Cert.Lin.main_arg1) = m ((c.tc : Thread Cert.Lin.nD Cert.Lin.τ).loc Cert.Lin.main_arg1)
      ∧ r.2.mem ((c.tc : Thread Cert.Lin.nD Cert.Lin.τ).loc Cert.Lin.main_arg2) = m ((c.tc : Thread Cert.Lin.nD Cert.Lin.τ).loc Cert.Lin.main_arg2))
      ∧ r.2.sem = fun _ => 0)

def quiescent_LinIdeal [hLinIdeal : Cert.LinIdeal.Facts] : Prop :=
  ∀ (m : (ℓ : Loc Cert.LinIdeal.nD Cert.LinIdeal.τ Cert.LinIdeal.sig) → Buf (Elt Ideal) ℓ) (g : Dev Cert.LinIdeal.nD → PrngReg), Pre_LinIdeal m →
    θ_run (Cert.LinIdeal.defs (F := Ideal)) (onTc (τ := Cert.LinIdeal.τ) (Cert.LinIdeal.main (F := Ideal))) ⟨m, fun _ => 0, g⟩ (fun r => (∀ c : Dev Cert.LinIdeal.nD,
      r.2.mem ((c.tc : Thread Cert.LinIdeal.nD Cert.LinIdeal.τ).loc Cert.LinIdeal.main_arg0) = m ((c.tc : Thread Cert.LinIdeal.nD Cert.LinIdeal.τ).loc Cert.LinIdeal.main_arg0)
      ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
      ∧ r.2.mem ((c.tc : Thread Cert.LinIdeal.nD Cert.LinIdeal.τ).loc Cert.LinIdeal.main_arg2) = m ((c.tc : Thread Cert.LinIdeal.nD Cert.LinIdeal.τ).loc Cert.LinIdeal.main_arg2))
      ∧ r.2.sem = fun _ => 0)

def quiescent_LinReferenceIdeal [hLinReferenceIdeal : Cert.LinReferenceIdeal.Facts] : Prop :=
  ∀ (m : (ℓ : Loc Cert.LinReferenceIdeal.nD Cert.LinReferenceIdeal.τ Cert.LinReferenceIdeal.sig) → Buf (Elt Ideal) ℓ) (g : Dev Cert.LinReferenceIdeal.nD → PrngReg), Pre_LinReferenceIdeal m →
    θ_run (Cert.LinReferenceIdeal.defs (F := Ideal)) (onTc (τ := Cert.LinReferenceIdeal.τ) (Cert.LinReferenceIdeal.main (F := Ideal))) ⟨m, fun _ => 0, g⟩ (fun r => (∀ c : Dev Cert.LinReferenceIdeal.nD,
      r.2.mem ((c.tc : Thread Cert.LinReferenceIdeal.nD Cert.LinReferenceIdeal.τ).loc Cert.LinReferenceIdeal.main_arg0) = m ((c.tc : Thread Cert.LinReferenceIdeal.nD Cert.LinReferenceIdeal.τ).loc Cert.LinReferenceIdeal.main_arg0)
      ∧ r.2.mem ((c.tc : Thread Cert.LinReferenceIdeal.nD Cert.LinReferenceIdeal.τ).loc Cert.LinReferenceIdeal.main_arg1) = m ((c.tc : Thread Cert.LinReferenceIdeal.nD Cert.LinReferenceIdeal.τ).loc Cert.LinReferenceIdeal.main_arg1)
      ∧ r.2.mem ((c.tc : Thread Cert.LinReferenceIdeal.nD Cert.LinReferenceIdeal.τ).loc Cert.LinReferenceIdeal.main_arg2) = m ((c.tc : Thread Cert.LinReferenceIdeal.nD Cert.LinReferenceIdeal.τ).loc Cert.LinReferenceIdeal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "scale" .f32 0x3E3504F3#32 (((Real.sqrt 32)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v694) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def preserves_Lin_LinIdeal : Prop :=
  True

def algebraic_LinIdeal_LinReferenceIdeal [hLinIdeal : Cert.LinIdeal.Facts] [hLinReferenceIdeal : Cert.LinReferenceIdeal.Facts] : Prop :=
  ∀ (m : (ℓ : Loc Cert.LinIdeal.nD Cert.LinIdeal.τ Cert.LinIdeal.sig) → Buf (Elt Ideal) ℓ) (g : Dev Cert.LinIdeal.nD → PrngReg)
    (m' : (ℓ : Loc Cert.LinReferenceIdeal.nD Cert.LinReferenceIdeal.τ Cert.LinReferenceIdeal.sig) → Buf (Elt Ideal) ℓ) (g' : Dev Cert.LinReferenceIdeal.nD → PrngReg), Pre_LinIdeal m →
    (∀ c : Dev Cert.LinIdeal.nD,
      m' ((c.tc : Thread Cert.LinReferenceIdeal.nD Cert.LinReferenceIdeal.τ).loc Cert.LinReferenceIdeal.main_arg0) = m ((c.tc : Thread Cert.LinIdeal.nD Cert.LinIdeal.τ).loc Cert.LinIdeal.main_arg0)
      ∧ m' ((c.tc : Thread Cert.LinReferenceIdeal.nD Cert.LinReferenceIdeal.τ).loc Cert.LinReferenceIdeal.main_arg1) = m ((c.tc : Thread Cert.LinIdeal.nD Cert.LinIdeal.τ).loc Cert.LinIdeal.main_arg1)
      ∧ m' ((c.tc : Thread Cert.LinReferenceIdeal.nD Cert.LinReferenceIdeal.τ).loc Cert.LinReferenceIdeal.main_arg2) = m ((c.tc : Thread Cert.LinIdeal.nD Cert.LinIdeal.τ).loc Cert.LinIdeal.main_arg2)) →
    ∃ (v0 : (c : Dev Cert.LinIdeal.nD) → Buf (Elt Ideal) ((c.tc : Thread Cert.LinIdeal.nD Cert.LinIdeal.τ).loc Cert.LinIdeal.main_v2)),
      θ_run (Cert.LinIdeal.defs (F := Ideal)) (onTc (τ := Cert.LinIdeal.τ) (Cert.LinIdeal.main (F := Ideal))) ⟨m, fun _ => 0, g⟩ (fun r => ∀ c : Dev Cert.LinIdeal.nD,
          r.2.mem ((c.tc : Thread Cert.LinIdeal.nD Cert.LinIdeal.τ).loc Cert.LinIdeal.main_v2) = v0 c
          ∧ r.2.mem ((c.tc : Thread Cert.LinIdeal.nD Cert.LinIdeal.τ).loc Cert.LinIdeal.main_arg0) = m ((c.tc : Thread Cert.LinIdeal.nD Cert.LinIdeal.τ).loc Cert.LinIdeal.main_arg0)
          ∧ r.2.mem ((c.tc : Thread Cert.LinIdeal.nD Cert.LinIdeal.τ).loc Cert.LinIdeal.main_arg1) = m ((c.tc : Thread Cert.LinIdeal.nD Cert.LinIdeal.τ).loc Cert.LinIdeal.main_arg1)
          ∧ r.2.mem ((c.tc : Thread Cert.LinIdeal.nD Cert.LinIdeal.τ).loc Cert.LinIdeal.main_arg2) = m ((c.tc : Thread Cert.LinIdeal.nD Cert.LinIdeal.τ).loc Cert.LinIdeal.main_arg2))
      ∧ θ_run (Cert.LinReferenceIdeal.defs (F := Ideal)) (onTc (τ := Cert.LinReferenceIdeal.τ) (Cert.LinReferenceIdeal.main (F := Ideal))) ⟨m', fun _ => 0, g'⟩ (fun r => ∀ c : Dev Cert.LinReferenceIdeal.nD,
          r.2.mem ((c.tc : Thread Cert.LinReferenceIdeal.nD Cert.LinReferenceIdeal.τ).loc Cert.LinReferenceIdeal.main_v5) = v0 c
          ∧ r.2.mem ((c.tc : Thread Cert.LinReferenceIdeal.nD Cert.LinReferenceIdeal.τ).loc Cert.LinReferenceIdeal.main_arg0) = m' ((c.tc : Thread Cert.LinReferenceIdeal.nD Cert.LinReferenceIdeal.τ).loc Cert.LinReferenceIdeal.main_arg0)
          ∧ r.2.mem ((c.tc : Thread Cert.LinReferenceIdeal.nD Cert.LinReferenceIdeal.τ).loc Cert.LinReferenceIdeal.main_arg1) = m' ((c.tc : Thread Cert.LinReferenceIdeal.nD Cert.LinReferenceIdeal.τ).loc Cert.LinReferenceIdeal.main_arg1)
          ∧ r.2.mem ((c.tc : Thread Cert.LinReferenceIdeal.nD Cert.LinReferenceIdeal.τ).loc Cert.LinReferenceIdeal.main_arg2) = m' ((c.tc : Thread Cert.LinReferenceIdeal.nD Cert.LinReferenceIdeal.τ).loc Cert.LinReferenceIdeal.main_arg2))

def Claim : Prop :=
  ∃ (hKernel : Cert.Kernel.Facts) (hKernelIdeal : Cert.KernelIdeal.Facts) (hReferenceIdeal : Cert.ReferenceIdeal.Facts) (hLin : Cert.Lin.Facts) (hLinIdeal : Cert.LinIdeal.Facts) (hLinReferenceIdeal : Cert.LinReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Lin (hLin := hLin)
    ∧ quiescent_LinIdeal (hLinIdeal := hLinIdeal)
    ∧ quiescent_LinReferenceIdeal (hLinReferenceIdeal := hLinReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Lin_LinIdeal
    ∧ algebraic_LinIdeal_LinReferenceIdeal (hLinIdeal := hLinIdeal) (hLinReferenceIdeal := hLinReferenceIdeal)
-- ==== Pre_finite.lean ====
abbrev S32x12x100 : Shape := ⟨3, ![32, 12, 100]⟩
abbrev S64 : Shape := ⟨1, ![64]⟩
abbrev S192x1 : Shape := ⟨2, ![192, 1]⟩
abbrev S192x64 : Shape := ⟨2, ![192, 64]⟩
abbrev S192 : Shape := ⟨1, ![192]⟩
abbrev S32x64 : Shape := ⟨2, ![32, 64]⟩
abbrev S32 : Shape := ⟨1, ![32]⟩
abbrev S3x12x64x64 : Shape := ⟨4, ![3, 12, 64, 64]⟩
abbrev S3x12x64 : Shape := ⟨3, ![3, 12, 64]⟩
abbrev S64x64x3 : Shape := ⟨3, ![64, 64, 3]⟩
abbrev S64x64x5 : Shape := ⟨3, ![64, 64, 5]⟩
abbrev S64x64x7 : Shape := ⟨3, ![64, 64, 7]⟩
abbrev S_ : Shape := ⟨0, ![]⟩

class Facts : Prop where
  bcast_S_S32x12x100 : S_.BroadcastsInDim S32x12x100 (![] : Fin 0 → Fin S32x12x100.rank)
  bcast_S_S64 : S_.BroadcastsInDim S64 (![] : Fin 0 → Fin S64.rank)
  bcast_S_S3x12x64x64 : S_.BroadcastsInDim S3x12x64x64 (![] : Fin 0 → Fin S3x12x64x64.rank)
  bcast_S_S3x12x64 : S_.BroadcastsInDim S3x12x64 (![] : Fin 0 → Fin S3x12x64.rank)
  bcast_S_S64x64x3 : S_.BroadcastsInDim S64x64x3 (![] : Fin 0 → Fin S64x64x3.rank)
  bcast_S_S64x64x5 : S_.BroadcastsInDim S64x64x5 (![] : Fin 0 → Fin S64x64x5.rank)
  bcast_S_S64x64x7 : S_.BroadcastsInDim S64x64x7 (![] : Fin 0 → Fin S64x64x7.rank)

variable [Facts]

def fn_part1 {F : FTy → Type} [FloatOps F] (main_arg14 : FVec F S64 .f32) (main_arg15 : FVec F S64x64x5 .f32) (main_arg16 : FVec F S64 .f32) (main_arg17 : FVec F S64x64x7 .f32) (main_v2 : IVec S32x12x100 1) (main_v5 : IVec S64 1) (main_v8 : IVec S64 1) (main_v11 : IVec S3x12x64x64 1) (main_v14 : IVec S3x12x64 1) (main_v17 : IVec S64x64x3 1) : IVec S32x12x100 1 × IVec S64 1 × IVec S64 1 × IVec S3x12x64x64 1 × IVec S3x12x64 1 × IVec S64x64x3 1 × IVec S64 1 × IVec S64x64x5 1 × IVec S64 1 × IVec S64x64x7 1 :=
  let main_v18 : FVec F S64 .f32 := Host.absf main_arg14
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64x64x5 .f32 := Host.absf main_arg15
  let main_cst_6 : FVec F S_ .f32 := constant S_ .f32 0x7F800000#32
  let main_v22 : FVec F S64x64x5 .f32 := broadcastInDim S64x64x5 ![] bcast_S_S64x64x5 main_cst_6
  let main_v23 : IVec S64x64x5 1 := cmpf .olt main_v21 main_v22
  let main_v24 : FVec F S64 .f32 := Host.absf main_arg16
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  let main_v27 : FVec F S64x64x7 .f32 := Host.absf main_arg17
  let main_cst_8 : FVec F S_ .f32 := constant S_ .f32 0x7F800000#32
  let main_v28 : FVec F S64x64x7 .f32 := broadcastInDim S64x64x7 ![] bcast_S_S64x64x7 main_cst_8
  let main_v29 : IVec S64x64x7 1 := cmpf .olt main_v27 main_v28
  (main_v2, main_v5, main_v8, main_v11, main_v14, main_v17, main_v20, main_v23, main_v26, main_v29)

def fn {F : FTy → Type} [FloatOps F] (main_arg0 : FVec F S32x12x100 .f32) (main_arg1 : FVec F S64 .f32) (main_arg2 : FVec F S64 .f32) (main_arg3 : FVec F S192x1 .f32) (main_arg4 : FVec F S192x64 .f32) (main_arg5 : FVec F S192 .f32) (main_arg6 : FVec F S192 .f32) (main_arg7 : FVec F S32x64 .f32) (main_arg8 : FVec F S32 .f32) (main_arg9 : FVec F S32x64 .f32) (main_arg10 : FVec F S32 .f32) (main_arg11 : FVec F S3x12x64x64 .f32) (main_arg12 : FVec F S3x12x64 .f32) (main_arg13 : FVec F S64x64x3 .f32) (main_arg14 : FVec F S64 .f32) (main_arg15 : FVec F S64x64x5 .f32) (main_arg16 : FVec F S64 .f32) (main_arg17 : FVec F S64x64x7 .f32) (main_arg18 : FVec F S64 .f32) : IVec S32x12x100 1 × IVec S64 1 × IVec S64 1 × IVec S3x12x64x64 1 × IVec S3x12x64 1 × IVec S64x64x3 1 × IVec S64 1 × IVec S64x64x5 1 × IVec S64 1 × IVec S64x64x7 1 :=
  let main_v0 : FVec F S32x12x100 .f32 := Host.absf main_arg0
  let main_cst : FVec F S_ .f32 := constant S_ .f32 0x7F800000#32
  let main_v1 : FVec F S32x12x100 .f32 := broadcastInDim S32x12x100 ![] bcast_S_S32x12x100 main_cst
  let main_v2 : IVec S32x12x100 1 := cmpf .olt main_v0 main_v1
  let main_v3 : FVec F S64 .f32 := Host.absf main_arg1
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S3x12x64x64 .f32 := Host.absf main_arg11
  let main_cst_2 : FVec F S_ .f32 := constant S_ .f32 0x7F800000#32
  let main_v10 : FVec F S3x12x64x64 .f32 := broadcastInDim S3x12x64x64 ![] bcast_S_S3x12x64x64 main_cst_2
  let main_v11 : IVec S3x12x64x64 1 := cmpf .olt main_v9 main_v10
  let main_v12 : FVec F S3x12x64 .f32 := Host.absf main_arg12
  let main_cst_3 : FVec F S_ .f32 := constant S_ .f32 0x7F800000#32
  let main_v13 : FVec F S3x12x64 .f32 := broadcastInDim S3x12x64 ![] bcast_S_S3x12x64 main_cst_3
  let main_v14 : IVec S3x12x64 1 := cmpf .olt main_v12 main_v13
  let main_v15 : FVec F S64x64x3 .f32 := Host.absf main_arg13
  let main_cst_4 : FVec F S_ .f32 := constant S_ .f32 0x7F800000#32
  let main_v16 : FVec F S64x64x3 .f32 := broadcastInDim S64x64x3 ![] bcast_S_S64x64x3 main_cst_4
  let main_v17 : IVec S64x64x3 1 := cmpf .olt main_v15 main_v16
  fn_part1 (F := F) main_arg14 main_arg15 main_arg16 main_arg17 main_v2 main_v5 main_v8 main_v11 main_v14 main_v17
-- ==== Kernel.lean ====
abbrev S32x12x100 : Shape := ⟨3, ![32, 12, 100]⟩
abbrev S64 : Shape := ⟨1, ![64]⟩
abbrev S192x1 : Shape := ⟨2, ![192, 1]⟩
abbrev S192x64 : Shape := ⟨2, ![192, 64]⟩
abbrev S192 : Shape := ⟨1, ![192]⟩
abbrev S32x64 : Shape := ⟨2, ![32, 64]⟩
abbrev S32 : Shape := ⟨1, ![32]⟩
abbrev S3x12x64x64 : Shape := ⟨4, ![3, 12, 64, 64]⟩
abbrev S3x12x64 : Shape := ⟨3, ![3, 12, 64]⟩
abbrev S64x64x3 : Shape := ⟨3, ![64, 64, 3]⟩
abbrev S64x64x5 : Shape := ⟨3, ![64, 64, 5]⟩
abbrev S64x64x7 : Shape := ⟨3, ![64, 64, 7]⟩
abbrev S32x100x12 : Shape := ⟨3, ![32, 100, 12]⟩
abbrev S_ : Shape := ⟨0, ![]⟩
abbrev S32x104x12 : Shape := ⟨3, ![32, 104, 12]⟩
abbrev S3328x12 : Shape := ⟨2, ![3328, 12]⟩
abbrev S1x192 : Shape := ⟨2, ![1, 192]⟩
abbrev S64x32 : Shape := ⟨2, ![64, 32]⟩
abbrev S1x32 : Shape := ⟨2, ![1, 32]⟩
abbrev S1x64 : Shape := ⟨2, ![1, 64]⟩
abbrev S64x3x64 : Shape := ⟨3, ![64, 3, 64]⟩
abbrev S64x192 : Shape := ⟨2, ![64, 192]⟩
abbrev S64x5x64 : Shape := ⟨3, ![64, 5, 64]⟩
abbrev S64x320 : Shape := ⟨2, ![64, 320]⟩
abbrev S64x7x64 : Shape := ⟨3, ![64, 7, 64]⟩
abbrev S64x448 : Shape := ⟨2, ![64, 448]⟩
abbrev S1x12x64 : Shape := ⟨3, ![1, 12, 64]⟩
abbrev S12x64 : Shape := ⟨2, ![12, 64]⟩
abbrev S3x64x64 : Shape := ⟨3, ![3, 64, 64]⟩
abbrev S64x64 : Shape := ⟨2, ![64, 64]⟩
abbrev S1x64x64 : Shape := ⟨3, ![1, 64, 64]⟩
abbrev S4x64x64 : Shape := ⟨3, ![4, 64, 64]⟩
abbrev S12 : Shape := ⟨1, ![12]⟩
abbrev S12x1 : Shape := ⟨2, ![12, 1]⟩
abbrev S1x12 : Shape := ⟨2, ![1, 12]⟩
abbrev S12x12 : Shape := ⟨2, ![12, 12]⟩
abbrev S12x12x1 : Shape := ⟨3, ![12, 12, 1]⟩
abbrev S12x12x64x64 : Shape := ⟨4, ![12, 12, 64, 64]⟩
abbrev S12x64x12x64 : Shape := ⟨4, ![12, 64, 12, 64]⟩
abbrev S1x768 : Shape := ⟨2, ![1, 768]⟩
abbrev S768 : Shape := ⟨1, ![768]⟩
abbrev S5x64x64 : Shape := ⟨3, ![5, 64, 64]⟩
abbrev S6x64x64 : Shape := ⟨3, ![6, 64, 64]⟩
abbrev S7x64x64 : Shape := ⟨3, ![7, 64, 64]⟩
abbrev S8x64x64 : Shape := ⟨3, ![8, 64, 64]⟩
abbrev S1x1x768 : Shape := ⟨3, ![1, 1, 768]⟩
abbrev S3x1x768 : Shape := ⟨3, ![3, 1, 768]⟩
abbrev S104 : Shape := ⟨1, ![104]⟩
abbrev S104x1 : Shape := ⟨2, ![104, 1]⟩
abbrev S32x100x768 : Shape := ⟨3, ![32, 100, 768]⟩
abbrev S3328x768 : Shape := ⟨2, ![3328, 768]⟩
abbrev S3328x104 : Shape := ⟨2, ![3328, 104]⟩
abbrev S768x768 : Shape := ⟨2, ![768, 768]⟩
abbrev S3328x64 : Shape := ⟨2, ![3328, 64]⟩
abbrev S3328x1 : Shape := ⟨2, ![3328, 1]⟩
abbrev S3328x192 : Shape := ⟨2, ![3328, 192]⟩
abbrev S3328x32 : Shape := ⟨2, ![3328, 32]⟩
abbrev S1x104 : Shape := ⟨2, ![1, 104]⟩
abbrev S104x32 : Shape := ⟨2, ![104, 32]⟩
abbrev S104x104 : Shape := ⟨2, ![104, 104]⟩
abbrev S3328 : Shape := ⟨1, ![3328]⟩
abbrev S64x128 : Shape := ⟨2, ![64, 128]⟩
abbrev S1x1x64x64 : Shape := ⟨4, ![1, 1, 64, 64]⟩
abbrev S104x768 : Shape := ⟨2, ![104, 768]⟩
abbrev S64x256 : Shape := ⟨2, ![64, 256]⟩
abbrev S64x384 : Shape := ⟨2, ![64, 384]⟩
abbrev S100x768 : Shape := ⟨2, ![100, 768]⟩
abbrev S1x100x768 : Shape := ⟨3, ![1, 100, 768]⟩

abbrev nBuf : Space → Nat
  | .hbm => 194
  | .vmem => 22
  | .smem => 0
  | _ => 0

abbrev hbmTy0_0 (i : Nat) : BufTy := match i % 128 with
  | 0 => ⟨S32x12x100, .f32⟩
  | 1 => ⟨S64, .f32⟩
  | 2 => ⟨S64, .f32⟩
  | 3 => ⟨S192x1, .f32⟩
  | 4 => ⟨S192x64, .f32⟩
  | 5 => ⟨S192, .f32⟩
  | 6 => ⟨S192, .f32⟩
  | 7 => ⟨S32x64, .f32⟩
  | 8 => ⟨S32, .f32⟩
  | 9 => ⟨S32x64, .f32⟩
  | 10 => ⟨S32, .f32⟩
  | 11 => ⟨S3x12x64x64, .f32⟩
  | 12 => ⟨S3x12x64, .f32⟩
  | 13 => ⟨S64x64x3, .f32⟩
  | 14 => ⟨S64, .f32⟩
  | 15 => ⟨S64x64x5, .f32⟩
  | 16 => ⟨S64, .f32⟩
  | 17 => ⟨S64x64x7, .f32⟩
  | 18 => ⟨S64, .f32⟩
  | 19 => ⟨S32x100x12, .f32⟩
  | 20 => ⟨S_, .i32⟩
  | 21 => ⟨S_, .f32⟩
  | 22 => ⟨S32x104x12, .f32⟩
  | 23 => ⟨S3328x12, .f32⟩
  | 24 => ⟨S1x192, .f32⟩
  | 25 => ⟨S1x192, .f32⟩
  | 26 => ⟨S1x192, .f32⟩
  | 27 => ⟨S64x32, .f32⟩
  | 28 => ⟨S64x32, .f32⟩
  | 29 => ⟨S1x32, .f32⟩
  | 30 => ⟨S1x32, .f32⟩
  | 31 => ⟨S1x64, .f32⟩
  | 32 => ⟨S1x64, .f32⟩
  | 33 => ⟨S3x12x64x64, .f32⟩
  | 34 => ⟨S64x3x64, .f32⟩
  | 35 => ⟨S64x3x64, .f32⟩
  | 36 => ⟨S64x192, .f32⟩
  | 37 => ⟨S64x5x64, .f32⟩
  | 38 => ⟨S64x5x64, .f32⟩
  | 39 => ⟨S64x320, .f32⟩
  | 40 => ⟨S64x7x64, .f32⟩
  | 41 => ⟨S64x7x64, .f32⟩
  | 42 => ⟨S64x448, .f32⟩
  | 43 => ⟨S1x12x64, .f32⟩
  | 44 => ⟨S12x64, .f32⟩
  | 45 => ⟨S3x64x64, .f32⟩
  | 46 => ⟨S_, .f32⟩
  | 47 => ⟨S64x64, .f32⟩
  | 48 => ⟨S1x64x64, .f32⟩
  | 49 => ⟨S4x64x64, .f32⟩
  | 50 => ⟨S12, .i32⟩
  | 51 => ⟨S12x1, .i32⟩
  | 52 => ⟨S12, .i32⟩
  | 53 => ⟨S1x12, .i32⟩
  | 54 => ⟨S12x12, .i32⟩
  | 55 => ⟨S12x12, .i32⟩
  | 56 => ⟨S12x12, .i32⟩
  | 57 => ⟨S_, .i32⟩
  | 58 => ⟨S12x12, .i32⟩
  | 59 => ⟨S12x12, .i32⟩
  | 60 => ⟨S_, .i32⟩
  | 61 => ⟨S12x12, .i32⟩
  | 62 => ⟨S12x12, .i1⟩
  | 63 => ⟨S_, .i32⟩
  | 64 => ⟨S12x12, .i32⟩
  | 65 => ⟨S12x12, .i1⟩
  | 66 => ⟨S12x12, .i1⟩
  | 67 => ⟨S_, .i32⟩
  | 68 => ⟨S_, .i32⟩
  | 69 => ⟨S12x12, .i32⟩
  | 70 => ⟨S12x12, .i32⟩
  | 71 => ⟨S_, .i32⟩
  | 72 => ⟨S12x12, .i32⟩
  | 73 => ⟨S12x12, .i1⟩
  | 74 => ⟨S_, .i32⟩
  | 75 => ⟨S12x12, .i32⟩
  | 76 => ⟨S12x12, .i32⟩
  | 77 => ⟨S12x12, .i32⟩
  | 78 => ⟨S12x12x1, .i32⟩
  | 79 => ⟨S12x12x64x64, .f32⟩
  | 80 => ⟨S12x64x12x64, .f32⟩
  | 81 => ⟨S12x64, .f32⟩
  | 82 => ⟨S1x768, .f32⟩
  | 83 => ⟨S1x64, .f32⟩
  | 84 => ⟨S12x64, .f32⟩
  | 85 => ⟨S768, .f32⟩
  | 86 => ⟨S1x768, .f32⟩
  | 87 => ⟨S1x768, .f32⟩
  | 88 => ⟨S1x12x64, .f32⟩
  | 89 => ⟨S12x64, .f32⟩
  | 90 => ⟨S5x64x64, .f32⟩
  | 91 => ⟨S_, .f32⟩
  | 92 => ⟨S64x64, .f32⟩
  | 93 => ⟨S1x64x64, .f32⟩
  | 94 => ⟨S6x64x64, .f32⟩
  | 95 => ⟨S12, .i32⟩
  | 96 => ⟨S12x1, .i32⟩
  | 97 => ⟨S12, .i32⟩
  | 98 => ⟨S1x12, .i32⟩
  | 99 => ⟨S12x12, .i32⟩
  | 100 => ⟨S12x12, .i32⟩
  | 101 => ⟨S12x12, .i32⟩
  | 102 => ⟨S_, .i32⟩
  | 103 => ⟨S12x12, .i32⟩
  | 104 => ⟨S12x12, .i32⟩
  | 105 => ⟨S_, .i32⟩
  | 106 => ⟨S12x12, .i32⟩
  | 107 => ⟨S12x12, .i1⟩
  | 108 => ⟨S_, .i32⟩
  | 109 => ⟨S12x12, .i32⟩
  | 110 => ⟨S12x12, .i1⟩
  | 111 => ⟨S12x12, .i1⟩
  | 112 => ⟨S_, .i32⟩
  | 113 => ⟨S_, .i32⟩
  | 114 => ⟨S12x12, .i32⟩
  | 115 => ⟨S12x12, .i32⟩
  | 116 => ⟨S_, .i32⟩
  | 117 => ⟨S12x12, .i32⟩
  | 118 => ⟨S12x12, .i1⟩
  | 119 => ⟨S_, .i32⟩
  | 120 => ⟨S12x12, .i32⟩
  | 121 => ⟨S12x12, .i32⟩
  | 122 => ⟨S12x12, .i32⟩
  | 123 => ⟨S12x12x1, .i32⟩
  | 124 => ⟨S12x12x64x64, .f32⟩
  | 125 => ⟨S12x64x12x64, .f32⟩
  | 126 => ⟨S12x64, .f32⟩
  | 127 => ⟨S1x768, .f32⟩
  | _ => ⟨S32x12x100, .f32⟩

abbrev hbmTy0_1 (i : Nat) : BufTy := match i % 128 with
  | 0 => ⟨S1x64, .f32⟩
  | 1 => ⟨S12x64, .f32⟩
  | 2 => ⟨S768, .f32⟩
  | 3 => ⟨S1x768, .f32⟩
  | 4 => ⟨S1x768, .f32⟩
  | 5 => ⟨S1x12x64, .f32⟩
  | 6 => ⟨S12x64, .f32⟩
  | 7 => ⟨S7x64x64, .f32⟩
  | 8 => ⟨S_, .f32⟩
  | 9 => ⟨S64x64, .f32⟩
  | 10 => ⟨S1x64x64, .f32⟩
  | 11 => ⟨S8x64x64, .f32⟩
  | 12 => ⟨S12, .i32⟩
  | 13 => ⟨S12x1, .i32⟩
  | 14 => ⟨S12, .i32⟩
  | 15 => ⟨S1x12, .i32⟩
  | 16 => ⟨S12x12, .i32⟩
  | 17 => ⟨S12x12, .i32⟩
  | 18 => ⟨S12x12, .i32⟩
  | 19 => ⟨S_, .i32⟩
  | 20 => ⟨S12x12, .i32⟩
  | 21 => ⟨S12x12, .i32⟩
  | 22 => ⟨S_, .i32⟩
  | 23 => ⟨S12x12, .i32⟩
  | 24 => ⟨S12x12, .i1⟩
  | 25 => ⟨S_, .i32⟩
  | 26 => ⟨S12x12, .i32⟩
  | 27 => ⟨S12x12, .i1⟩
  | 28 => ⟨S12x12, .i1⟩
  | 29 => ⟨S_, .i32⟩
  | 30 => ⟨S_, .i32⟩
  | 31 => ⟨S12x12, .i32⟩
  | 32 => ⟨S12x12, .i32⟩
  | 33 => ⟨S_, .i32⟩
  | 34 => ⟨S12x12, .i32⟩
  | 35 => ⟨S12x12, .i1⟩
  | 36 => ⟨S_, .i32⟩
  | 37 => ⟨S12x12, .i32⟩
  | 38 => ⟨S12x12, .i32⟩
  | 39 => ⟨S12x12, .i32⟩
  | 40 => ⟨S12x12x1, .i32⟩
  | 41 => ⟨S12x12x64x64, .f32⟩
  | 42 => ⟨S12x64x12x64, .f32⟩
  | 43 => ⟨S12x64, .f32⟩
  | 44 => ⟨S1x768, .f32⟩
  | 45 => ⟨S1x64, .f32⟩
  | 46 => ⟨S12x64, .f32⟩
  | 47 => ⟨S768, .f32⟩
  | 48 => ⟨S1x768, .f32⟩
  | 49 => ⟨S1x768, .f32⟩
  | 50 => ⟨S1x1x768, .f32⟩
  | 51 => ⟨S1x1x768, .f32⟩
  | 52 => ⟨S1x1x768, .f32⟩
  | 53 => ⟨S3x1x768, .f32⟩
  | 54 => ⟨S104, .i32⟩
  | 55 => ⟨S_, .i32⟩
  | 56 => ⟨S104, .i32⟩
  | 57 => ⟨S104, .i1⟩
  | 58 => ⟨S_, .f32⟩
  | 59 => ⟨S_, .f32⟩
  | 60 => ⟨S104, .f32⟩
  | 61 => ⟨S104, .f32⟩
  | 62 => ⟨S104, .f32⟩
  | 63 => ⟨S104x1, .f32⟩
  | 64 => ⟨S104x1, .f32⟩
  | 65 => ⟨S32x100x768, .f32⟩
  | _ => ⟨S32x12x100, .f32⟩

abbrev hbmTy (i : Nat) : BufTy := match i / 128 with
  | 0 => hbmTy0_0 i
  | 1 => hbmTy0_1 i
  | _ => ⟨S32x12x100, .f32⟩

abbrev bufTy : (tb : Table) → Fin (tcTables nBuf tb) → BufTy
  | .hbm, ⟨i, _⟩ => hbmTy i
  | .local _ .vmem, ⟨0, _⟩ => ⟨S3328x12, .f32⟩
  | .local _ .vmem, ⟨1, _⟩ => ⟨S1x192, .f32⟩
  | .local _ .vmem, ⟨2, _⟩ => ⟨S192x64, .f32⟩
  | .local _ .vmem, ⟨3, _⟩ => ⟨S1x192, .f32⟩
  | .local _ .vmem, ⟨4, _⟩ => ⟨S1x192, .f32⟩
  | .local _ .vmem, ⟨5, _⟩ => ⟨S64x32, .f32⟩
  | .local _ .vmem, ⟨6, _⟩ => ⟨S1x32, .f32⟩
  | .local _ .vmem, ⟨7, _⟩ => ⟨S64x32, .f32⟩
  | .local _ .vmem, ⟨8, _⟩ => ⟨S1x32, .f32⟩
  | .local _ .vmem, ⟨9, _⟩ => ⟨S1x64, .f32⟩
  | .local _ .vmem, ⟨10, _⟩ => ⟨S1x64, .f32⟩
  | .local _ .vmem, ⟨11, _⟩ => ⟨S3x12x64x64, .f32⟩
  | .local _ .vmem, ⟨12, _⟩ => ⟨S64x192, .f32⟩
  | .local _ .vmem, ⟨13, _⟩ => ⟨S64x320, .f32⟩
  | .local _ .vmem, ⟨14, _⟩ => ⟨S64x448, .f32⟩
  | .local _ .vmem, ⟨15, _⟩ => ⟨S3x1x768, .f32⟩
  | .local _ .vmem, ⟨16, _⟩ => ⟨S104x1, .f32⟩
  | .local _ .vmem, ⟨17, _⟩ => ⟨S32x100x768, .f32⟩
  | .local _ .vmem, ⟨18, _⟩ => ⟨S3328x768, .f32⟩
  | .local _ .vmem, ⟨19, _⟩ => ⟨S3328x768, .f32⟩
  | .local _ .vmem, ⟨20, _⟩ => ⟨S3328x104, .f32⟩
  | .local _ .vmem, ⟨21, _⟩ => ⟨S768x768, .f32⟩
  | _, _ => ⟨S32x12x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_call0_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_c_0 : Ref sig .tc := ⟨.hbm, 57, rfl⟩
abbrev main_v35 : Ref sig .tc := ⟨.hbm, 58, rfl⟩
abbrev main_v36 : Ref sig .tc := ⟨.hbm, 59, rfl⟩
abbrev main_c_1 : Ref sig .tc := ⟨.hbm, 60, rfl⟩
abbrev main_v37 : Ref sig .tc := ⟨.hbm, 61, rfl⟩
abbrev main_v38 : Ref sig .tc := ⟨.hbm, 62, rfl⟩
abbrev main_c_2 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_c_3 : Ref sig .tc := ⟨.hbm, 67, rfl⟩
abbrev main_call1_v0 : Ref sig .tc := ⟨.hbm, 68, rfl⟩
abbrev main_call1_v1 : Ref sig .tc := ⟨.hbm, 69, rfl⟩
abbrev main_v42 : Ref sig .tc := ⟨.hbm, 70, rfl⟩
abbrev main_c_4 : Ref sig .tc := ⟨.hbm, 71, rfl⟩
abbrev main_v43 : Ref sig .tc := ⟨.hbm, 72, rfl⟩
abbrev main_v44 : Ref sig .tc := ⟨.hbm, 73, rfl⟩
abbrev main_c_5 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_6 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_7 : Ref sig .tc := ⟨.hbm, 102, rfl⟩
abbrev main_v71 : Ref sig .tc := ⟨.hbm, 103, rfl⟩
abbrev main_v72 : Ref sig .tc := ⟨.hbm, 104, rfl⟩
abbrev main_c_8 : Ref sig .tc := ⟨.hbm, 105, rfl⟩
abbrev main_v73 : Ref sig .tc := ⟨.hbm, 106, rfl⟩
abbrev main_v74 : Ref sig .tc := ⟨.hbm, 107, rfl⟩
abbrev main_c_9 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_c_10 : Ref sig .tc := ⟨.hbm, 112, rfl⟩
abbrev main_call2_v0 : Ref sig .tc := ⟨.hbm, 113, rfl⟩
abbrev main_call2_v1 : Ref sig .tc := ⟨.hbm, 114, rfl⟩
abbrev main_v78 : Ref sig .tc := ⟨.hbm, 115, rfl⟩
abbrev main_c_11 : Ref sig .tc := ⟨.hbm, 116, rfl⟩
abbrev main_v79 : Ref sig .tc := ⟨.hbm, 117, rfl⟩
abbrev main_v80 : Ref sig .tc := ⟨.hbm, 118, rfl⟩
abbrev main_c_12 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_cst_13 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_c_14 : Ref sig .tc := ⟨.hbm, 147, rfl⟩
abbrev main_v107 : Ref sig .tc := ⟨.hbm, 148, rfl⟩
abbrev main_v108 : Ref sig .tc := ⟨.hbm, 149, rfl⟩
abbrev main_c_15 : Ref sig .tc := ⟨.hbm, 150, rfl⟩
abbrev main_v109 : Ref sig .tc := ⟨.hbm, 151, rfl⟩
abbrev main_v110 : Ref sig .tc := ⟨.hbm, 152, rfl⟩
abbrev main_c_16 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_c_17 : Ref sig .tc := ⟨.hbm, 157, rfl⟩
abbrev main_call3_v0 : Ref sig .tc := ⟨.hbm, 158, rfl⟩
abbrev main_call3_v1 : Ref sig .tc := ⟨.hbm, 159, rfl⟩
abbrev main_v114 : Ref sig .tc := ⟨.hbm, 160, rfl⟩
abbrev main_c_18 : Ref sig .tc := ⟨.hbm, 161, rfl⟩
abbrev main_v115 : Ref sig .tc := ⟨.hbm, 162, rfl⟩
abbrev main_v116 : Ref sig .tc := ⟨.hbm, 163, rfl⟩
abbrev main_c_19 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_c_20 : Ref sig .tc := ⟨.hbm, 183, rfl⟩
abbrev main_v135 : Ref sig .tc := ⟨.hbm, 184, rfl⟩
abbrev main_v136 : Ref sig .tc := ⟨.hbm, 185, rfl⟩
abbrev main_cst_21 : Ref sig .tc := ⟨.hbm, 186, rfl⟩
abbrev main_cst_22 : Ref sig .tc := ⟨.hbm, 187, rfl⟩
abbrev main_call4_v0 : Ref sig .tc := ⟨.hbm, 188, rfl⟩
abbrev main_call4_v1 : Ref sig .tc := ⟨.hbm, 189, rfl⟩
abbrev main_v137 : Ref sig .tc := ⟨.hbm, 190, rfl⟩
abbrev main_v138 : Ref sig .tc := ⟨.hbm, 191, rfl⟩
abbrev main_v139 : Ref sig .tc := ⟨.hbm, 192, rfl⟩
abbrev main_v140 : Ref sig .tc := ⟨.hbm, 193, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17

abbrev nD : Nat := 1
abbrev τ : Topo := Topo.v7x

variable {F : FTy → Type} [FloatOps F]

abbrev grid0 : Pipeline.Grid := .none

abbrev stage0_0 : Fin 1 → Memref sig .tc .vmem S3328x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3x12x64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x320 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x448 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x1x768 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S104x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S32x100x768 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | "scale" => some (((Real.sqrt 32)⁻¹ : ℝ) : EReal)
  | _ => none
-- ==== ReferenceIdeal.lean ====
abbrev S32x12x100 : Shape := ⟨3, ![32, 12, 100]⟩
abbrev S64 : Shape := ⟨1, ![64]⟩
abbrev S192x1 : Shape := ⟨2, ![192, 1]⟩
abbrev S192x64 : Shape := ⟨2, ![192, 64]⟩
abbrev S192 : Shape := ⟨1, ![192]⟩
abbrev S32x64 : Shape := ⟨2, ![32, 64]⟩
abbrev S32 : Shape := ⟨1, ![32]⟩
abbrev S3x12x64x64 : Shape := ⟨4, ![3, 12, 64, 64]⟩
abbrev S3x12x64 : Shape := ⟨3, ![3, 12, 64]⟩
abbrev S64x64x3 : Shape := ⟨3, ![64, 64, 3]⟩
abbrev S64x64x5 : Shape := ⟨3, ![64, 64, 5]⟩
abbrev S64x64x7 : Shape := ⟨3, ![64, 64, 7]⟩
abbrev S_ : Shape := ⟨0, ![]⟩
abbrev S32x100x64 : Shape := ⟨3, ![32, 100, 64]⟩
abbrev S32x1x100 : Shape := ⟨3, ![32, 1, 100]⟩
abbrev S32x100 : Shape := ⟨2, ![32, 100]⟩
abbrev S32x100x1 : Shape := ⟨3, ![32, 100, 1]⟩
abbrev S1x192 : Shape := ⟨2, ![1, 192]⟩
abbrev S32x100x192 : Shape := ⟨3, ![32, 100, 192]⟩
abbrev S1x1x192 : Shape := ⟨3, ![1, 1, 192]⟩
abbrev S64x192 : Shape := ⟨2, ![64, 192]⟩
abbrev S64x32 : Shape := ⟨2, ![64, 32]⟩
abbrev S32x100x32 : Shape := ⟨3, ![32, 100, 32]⟩
abbrev S1x1x32 : Shape := ⟨3, ![1, 1, 32]⟩
abbrev S32x32x100 : Shape := ⟨3, ![32, 32, 100]⟩
abbrev S32x100x100 : Shape := ⟨3, ![32, 100, 100]⟩
abbrev S32x12x100x1 : Shape := ⟨4, ![32, 12, 100, 1]⟩
abbrev S1x1x1x64 : Shape := ⟨4, ![1, 1, 1, 64]⟩
abbrev S32x12x100x64 : Shape := ⟨4, ![32, 12, 100, 64]⟩
abbrev S1x12x64x64 : Shape := ⟨4, ![1, 12, 64, 64]⟩
abbrev S12x64x64 : Shape := ⟨3, ![12, 64, 64]⟩
abbrev S12x64x32x100 : Shape := ⟨4, ![12, 64, 32, 100]⟩
abbrev S32x12x64x100 : Shape := ⟨4, ![32, 12, 64, 100]⟩
abbrev S1x12x64 : Shape := ⟨3, ![1, 12, 64]⟩
abbrev S12x64 : Shape := ⟨2, ![12, 64]⟩
abbrev S12x1x64 : Shape := ⟨3, ![12, 1, 64]⟩
abbrev S1x12x1x64 : Shape := ⟨4, ![1, 12, 1, 64]⟩
abbrev S32x14x100x64 : Shape := ⟨4, ![32, 14, 100, 64]⟩
abbrev S64x64x1 : Shape := ⟨3, ![64, 64, 1]⟩
abbrev S64x64 : Shape := ⟨2, ![64, 64]⟩
abbrev S32x16x100x64 : Shape := ⟨4, ![32, 16, 100, 64]⟩
abbrev S32x18x100x64 : Shape := ⟨4, ![32, 18, 100, 64]⟩
abbrev S32x100x12x64 : Shape := ⟨4, ![32, 100, 12, 64]⟩
abbrev S32x100x768 : Shape := ⟨3, ![32, 100, 768]⟩

abbrev nBuf : Space → Nat
  | .hbm => 801
  | .vmem => 0
  | .smem => 0
  | _ => 0

abbrev hbmTy0_0 (i : Nat) : BufTy := match i % 128 with
  | 0 => ⟨S32x12x100, .f32⟩
  | 1 => ⟨S64, .f32⟩
  | 2 => ⟨S64, .f32⟩
  | 3 => ⟨S192x1, .f32⟩
  | 4 => ⟨S192x64, .f32⟩
  | 5 => ⟨S192, .f32⟩
  | 6 => ⟨S192, .f32⟩
  | 7 => ⟨S32x64, .f32⟩
  | 8 => ⟨S32, .f32⟩
  | 9 => ⟨S32x64, .f32⟩
  | 10 => ⟨S32, .f32⟩
  | 11 => ⟨S3x12x64x64, .f32⟩
  | 12 => ⟨S3x12x64, .f32⟩
  | 13 => ⟨S64x64x3, .f32⟩
  | 14 => ⟨S64, .f32⟩
  | 15 => ⟨S64x64x5, .f32⟩
  | 16 => ⟨S64, .f32⟩
  | 17 => ⟨S64x64x7, .f32⟩
  | 18 => ⟨S64, .f32⟩
  | 19 => ⟨S_, .f32⟩
  | 20 => ⟨S32x100x64, .f32⟩
  | 21 => ⟨S32x1x100, .f32⟩
  | 22 => ⟨S32x100, .f32⟩
  | 23 => ⟨S32x100x1, .f32⟩
  | 24 => ⟨S1x192, .f32⟩
  | 25 => ⟨S32x100x192, .f32⟩
  | 26 => ⟨S1x1x192, .f32⟩
  | 27 => ⟨S32x100x192, .f32⟩
  | 28 => ⟨S32x100x192, .f32⟩
  | 29 => ⟨S64x192, .f32⟩
  | 30 => ⟨S32x100x192, .f32⟩
  | 31 => ⟨S1x1x192, .f32⟩
  | 32 => ⟨S32x100x192, .f32⟩
  | 33 => ⟨S32x100x192, .f32⟩
  | 34 => ⟨S32x100x64, .f32⟩
  | 35 => ⟨S32x100x64, .f32⟩
  | 36 => ⟨S32x100x64, .f32⟩
  | 37 => ⟨S32x100x64, .f32⟩
  | 38 => ⟨S32x100x64, .f32⟩
  | 39 => ⟨S32x100x64, .f32⟩
  | 40 => ⟨S32x100x64, .f32⟩
  | 41 => ⟨S32x100x64, .f32⟩
  | 42 => ⟨S32x100x64, .f32⟩
  | 43 => ⟨S_, .f32⟩
  | 44 => ⟨S32x100x64, .f32⟩
  | 45 => ⟨S32x100x64, .f32⟩
  | 46 => ⟨S_, .f32⟩
  | 47 => ⟨S32x100x64, .f32⟩
  | 48 => ⟨S32x100x64, .f32⟩
  | 49 => ⟨S32x100x64, .f32⟩
  | 50 => ⟨S32x100x64, .f32⟩
  | 51 => ⟨S32x100x64, .f32⟩
  | 52 => ⟨S_, .f32⟩
  | 53 => ⟨S32x100x64, .f32⟩
  | 54 => ⟨S32x100x64, .f32⟩
  | 55 => ⟨S_, .f32⟩
  | 56 => ⟨S32x100x64, .f32⟩
  | 57 => ⟨S32x100x64, .f32⟩
  | 58 => ⟨S32x100x64, .f32⟩
  | 59 => ⟨S32x100x64, .f32⟩
  | 60 => ⟨S32x100x64, .f32⟩
  | 61 => ⟨S_, .f32⟩
  | 62 => ⟨S32x100x64, .f32⟩
  | 63 => ⟨S32x100x64, .f32⟩
  | 64 => ⟨S32x100x64, .f32⟩
  | 65 => ⟨S32x100x64, .f32⟩
  | 66 => ⟨S32x100x64, .f32⟩
  | 67 => ⟨S32x1x100, .f32⟩
  | 68 => ⟨S32x100, .f32⟩
  | 69 => ⟨S32x100x1, .f32⟩
  | 70 => ⟨S1x192, .f32⟩
  | 71 => ⟨S32x100x192, .f32⟩
  | 72 => ⟨S1x1x192, .f32⟩
  | 73 => ⟨S32x100x192, .f32⟩
  | 74 => ⟨S32x100x192, .f32⟩
  | 75 => ⟨S64x192, .f32⟩
  | 76 => ⟨S32x100x192, .f32⟩
  | 77 => ⟨S1x1x192, .f32⟩
  | 78 => ⟨S32x100x192, .f32⟩
  | 79 => ⟨S32x100x192, .f32⟩
  | 80 => ⟨S32x100x64, .f32⟩
  | 81 => ⟨S32x100x64, .f32⟩
  | 82 => ⟨S32x100x64, .f32⟩
  | 83 => ⟨S32x100x64, .f32⟩
  | 84 => ⟨S32x100x64, .f32⟩
  | 85 => ⟨S32x100x64, .f32⟩
  | 86 => ⟨S32x100x64, .f32⟩
  | 87 => ⟨S32x100x64, .f32⟩
  | 88 => ⟨S32x100x64, .f32⟩
  | 89 => ⟨S_, .f32⟩
  | 90 => ⟨S32x100x64, .f32⟩
  | 91 => ⟨S32x100x64, .f32⟩
  | 92 => ⟨S_, .f32⟩
  | 93 => ⟨S32x100x64, .f32⟩
  | 94 => ⟨S32x100x64, .f32⟩
  | 95 => ⟨S32x100x64, .f32⟩
  | 96 => ⟨S32x100x64, .f32⟩
  | 97 => ⟨S32x100x64, .f32⟩
  | 98 => ⟨S_, .f32⟩
  | 99 => ⟨S32x100x64, .f32⟩
  | 100 => ⟨S32x100x64, .f32⟩
  | 101 => ⟨S_, .f32⟩
  | 102 => ⟨S32x100x64, .f32⟩
  | 103 => ⟨S32x100x64, .f32⟩
  | 104 => ⟨S32x100x64, .f32⟩
  | 105 => ⟨S32x100x64, .f32⟩
  | 106 => ⟨S32x100x64, .f32⟩
  | 107 => ⟨S_, .f32⟩
  | 108 => ⟨S32x100x64, .f32⟩
  | 109 => ⟨S32x100x64, .f32⟩
  | 110 => ⟨S32x100x64, .f32⟩
  | 111 => ⟨S32x100x64, .f32⟩
  | 112 => ⟨S32x100x64, .f32⟩
  | 113 => ⟨S32x1x100, .f32⟩
  | 114 => ⟨S32x100, .f32⟩
  | 115 => ⟨S32x100x1, .f32⟩
  | 116 => ⟨S1x192, .f32⟩
  | 117 => ⟨S32x100x192, .f32⟩
  | 118 => ⟨S1x1x192, .f32⟩
  | 119 => ⟨S32x100x192, .f32⟩
  | 120 => ⟨S32x100x192, .f32⟩
  | 121 => ⟨S64x192, .f32⟩
  | 122 => ⟨S32x100x192, .f32⟩
  | 123 => ⟨S1x1x192, .f32⟩
  | 124 => ⟨S32x100x192, .f32⟩
  | 125 => ⟨S32x100x192, .f32⟩
  | 126 => ⟨S32x100x64, .f32⟩
  | 127 => ⟨S32x100x64, .f32⟩
  | _ => ⟨S32x12x100, .f32⟩

abbrev hbmTy0_1 (i : Nat) : BufTy := match i % 128 with
  | 0 => ⟨S32x100x64, .f32⟩
  | 1 => ⟨S32x100x64, .f32⟩
  | 2 => ⟨S32x100x64, .f32⟩
  | 3 => ⟨S32x100x64, .f32⟩
  | 4 => ⟨S32x100x64, .f32⟩
  | 5 => ⟨S32x100x64, .f32⟩
  | 6 => ⟨S32x100x64, .f32⟩
  | 7 => ⟨S_, .f32⟩
  | 8 => ⟨S32x100x64, .f32⟩
  | 9 => ⟨S32x100x64, .f32⟩
  | 10 => ⟨S_, .f32⟩
  | 11 => ⟨S32x100x64, .f32⟩
  | 12 => ⟨S32x100x64, .f32⟩
  | 13 => ⟨S32x100x64, .f32⟩
  | 14 => ⟨S32x100x64, .f32⟩
  | 15 => ⟨S32x100x64, .f32⟩
  | 16 => ⟨S_, .f32⟩
  | 17 => ⟨S32x100x64, .f32⟩
  | 18 => ⟨S32x100x64, .f32⟩
  | 19 => ⟨S_, .f32⟩
  | 20 => ⟨S32x100x64, .f32⟩
  | 21 => ⟨S32x100x64, .f32⟩
  | 22 => ⟨S32x100x64, .f32⟩
  | 23 => ⟨S32x100x64, .f32⟩
  | 24 => ⟨S32x100x64, .f32⟩
  | 25 => ⟨S_, .f32⟩
  | 26 => ⟨S32x100x64, .f32⟩
  | 27 => ⟨S32x100x64, .f32⟩
  | 28 => ⟨S32x100x64, .f32⟩
  | 29 => ⟨S32x100x64, .f32⟩
  | 30 => ⟨S32x100x64, .f32⟩
  | 31 => ⟨S32x1x100, .f32⟩
  | 32 => ⟨S32x100, .f32⟩
  | 33 => ⟨S32x100x1, .f32⟩
  | 34 => ⟨S1x192, .f32⟩
  | 35 => ⟨S32x100x192, .f32⟩
  | 36 => ⟨S1x1x192, .f32⟩
  | 37 => ⟨S32x100x192, .f32⟩
  | 38 => ⟨S32x100x192, .f32⟩
  | 39 => ⟨S64x192, .f32⟩
  | 40 => ⟨S32x100x192, .f32⟩
  | 41 => ⟨S1x1x192, .f32⟩
  | 42 => ⟨S32x100x192, .f32⟩
  | 43 => ⟨S32x100x192, .f32⟩
  | 44 => ⟨S32x100x64, .f32⟩
  | 45 => ⟨S32x100x64, .f32⟩
  | 46 => ⟨S32x100x64, .f32⟩
  | 47 => ⟨S32x100x64, .f32⟩
  | 48 => ⟨S32x100x64, .f32⟩
  | 49 => ⟨S32x100x64, .f32⟩
  | 50 => ⟨S32x100x64, .f32⟩
  | 51 => ⟨S32x100x64, .f32⟩
  | 52 => ⟨S32x100x64, .f32⟩
  | 53 => ⟨S_, .f32⟩
  | 54 => ⟨S32x100x64, .f32⟩
  | 55 => ⟨S32x100x64, .f32⟩
  | 56 => ⟨S_, .f32⟩
  | 57 => ⟨S32x100x64, .f32⟩
  | 58 => ⟨S32x100x64, .f32⟩
  | 59 => ⟨S32x100x64, .f32⟩
  | 60 => ⟨S32x100x64, .f32⟩
  | 61 => ⟨S32x100x64, .f32⟩
  | 62 => ⟨S_, .f32⟩
  | 63 => ⟨S32x100x64, .f32⟩
  | 64 => ⟨S32x100x64, .f32⟩
  | 65 => ⟨S_, .f32⟩
  | 66 => ⟨S32x100x64, .f32⟩
  | 67 => ⟨S32x100x64, .f32⟩
  | 68 => ⟨S32x100x64, .f32⟩
  | 69 => ⟨S32x100x64, .f32⟩
  | 70 => ⟨S32x100x64, .f32⟩
  | 71 => ⟨S_, .f32⟩
  | 72 => ⟨S32x100x64, .f32⟩
  | 73 => ⟨S32x100x64, .f32⟩
  | 74 => ⟨S32x100x64, .f32⟩
  | 75 => ⟨S32x100x64, .f32⟩
  | 76 => ⟨S32x100x64, .f32⟩
  | 77 => ⟨S32x1x100, .f32⟩
  | 78 => ⟨S32x100, .f32⟩
  | 79 => ⟨S32x100x1, .f32⟩
  | 80 => ⟨S1x192, .f32⟩
  | 81 => ⟨S32x100x192, .f32⟩
  | 82 => ⟨S1x1x192, .f32⟩
  | 83 => ⟨S32x100x192, .f32⟩
  | 84 => ⟨S32x100x192, .f32⟩
  | 85 => ⟨S64x192, .f32⟩
  | 86 => ⟨S32x100x192, .f32⟩
  | 87 => ⟨S1x1x192, .f32⟩
  | 88 => ⟨S32x100x192, .f32⟩
  | 89 => ⟨S32x100x192, .f32⟩
  | 90 => ⟨S32x100x64, .f32⟩
  | 91 => ⟨S32x100x64, .f32⟩
  | 92 => ⟨S32x100x64, .f32⟩
  | 93 => ⟨S32x100x64, .f32⟩
  | 94 => ⟨S32x100x64, .f32⟩
  | 95 => ⟨S32x100x64, .f32⟩
  | 96 => ⟨S32x100x64, .f32⟩
  | 97 => ⟨S32x100x64, .f32⟩
  | 98 => ⟨S32x100x64, .f32⟩
  | 99 => ⟨S_, .f32⟩
  | 100 => ⟨S32x100x64, .f32⟩
  | 101 => ⟨S32x100x64, .f32⟩
  | 102 => ⟨S_, .f32⟩
  | 103 => ⟨S32x100x64, .f32⟩
  | 104 => ⟨S32x100x64, .f32⟩
  | 105 => ⟨S32x100x64, .f32⟩
  | 106 => ⟨S32x100x64, .f32⟩
  | 107 => ⟨S32x100x64, .f32⟩
  | 108 => ⟨S_, .f32⟩
  | 109 => ⟨S32x100x64, .f32⟩
  | 110 => ⟨S32x100x64, .f32⟩
  | 111 => ⟨S_, .f32⟩
  | 112 => ⟨S32x100x64, .f32⟩
  | 113 => ⟨S32x100x64, .f32⟩
  | 114 => ⟨S32x100x64, .f32⟩
  | 115 => ⟨S32x100x64, .f32⟩
  | 116 => ⟨S32x100x64, .f32⟩
  | 117 => ⟨S_, .f32⟩
  | 118 => ⟨S32x100x64, .f32⟩
  | 119 => ⟨S32x100x64, .f32⟩
  | 120 => ⟨S32x100x64, .f32⟩
  | 121 => ⟨S32x100x64, .f32⟩
  | 122 => ⟨S32x100x64, .f32⟩
  | 123 => ⟨S32x1x100, .f32⟩
  | 124 => ⟨S32x100, .f32⟩
  | 125 => ⟨S32x100x1, .f32⟩
  | 126 => ⟨S1x192, .f32⟩
  | 127 => ⟨S32x100x192, .f32⟩
  | _ => ⟨S32x12x100, .f32⟩

abbrev hbmTy0_2 (i : Nat) : BufTy := match i % 128 with
  | 0 => ⟨S1x1x192, .f32⟩
  | 1 => ⟨S32x100x192, .f32⟩
  | 2 => ⟨S32x100x192, .f32⟩
  | 3 => ⟨S64x192, .f32⟩
  | 4 => ⟨S32x100x192, .f32⟩
  | 5 => ⟨S1x1x192, .f32⟩
  | 6 => ⟨S32x100x192, .f32⟩
  | 7 => ⟨S32x100x192, .f32⟩
  | 8 => ⟨S32x100x64, .f32⟩
  | 9 => ⟨S32x100x64, .f32⟩
  | 10 => ⟨S32x100x64, .f32⟩
  | 11 => ⟨S32x100x64, .f32⟩
  | 12 => ⟨S32x100x64, .f32⟩
  | 13 => ⟨S32x100x64, .f32⟩
  | 14 => ⟨S32x100x64, .f32⟩
  | 15 => ⟨S32x100x64, .f32⟩
  | 16 => ⟨S32x100x64, .f32⟩
  | 17 => ⟨S_, .f32⟩
  | 18 => ⟨S32x100x64, .f32⟩
  | 19 => ⟨S32x100x64, .f32⟩
  | 20 => ⟨S_, .f32⟩
  | 21 => ⟨S32x100x64, .f32⟩
  | 22 => ⟨S32x100x64, .f32⟩
  | 23 => ⟨S32x100x64, .f32⟩
  | 24 => ⟨S32x100x64, .f32⟩
  | 25 => ⟨S32x100x64, .f32⟩
  | 26 => ⟨S_, .f32⟩
  | 27 => ⟨S32x100x64, .f32⟩
  | 28 => ⟨S32x100x64, .f32⟩
  | 29 => ⟨S_, .f32⟩
  | 30 => ⟨S32x100x64, .f32⟩
  | 31 => ⟨S32x100x64, .f32⟩
  | 32 => ⟨S32x100x64, .f32⟩
  | 33 => ⟨S32x100x64, .f32⟩
  | 34 => ⟨S32x100x64, .f32⟩
  | 35 => ⟨S_, .f32⟩
  | 36 => ⟨S32x100x64, .f32⟩
  | 37 => ⟨S32x100x64, .f32⟩
  | 38 => ⟨S32x100x64, .f32⟩
  | 39 => ⟨S32x100x64, .f32⟩
  | 40 => ⟨S32x100x64, .f32⟩
  | 41 => ⟨S32x1x100, .f32⟩
  | 42 => ⟨S32x100, .f32⟩
  | 43 => ⟨S32x100x1, .f32⟩
  | 44 => ⟨S1x192, .f32⟩
  | 45 => ⟨S32x100x192, .f32⟩
  | 46 => ⟨S1x1x192, .f32⟩
  | 47 => ⟨S32x100x192, .f32⟩
  | 48 => ⟨S32x100x192, .f32⟩
  | 49 => ⟨S64x192, .f32⟩
  | 50 => ⟨S32x100x192, .f32⟩
  | 51 => ⟨S1x1x192, .f32⟩
  | 52 => ⟨S32x100x192, .f32⟩
  | 53 => ⟨S32x100x192, .f32⟩
  | 54 => ⟨S32x100x64, .f32⟩
  | 55 => ⟨S32x100x64, .f32⟩
  | 56 => ⟨S32x100x64, .f32⟩
  | 57 => ⟨S32x100x64, .f32⟩
  | 58 => ⟨S32x100x64, .f32⟩
  | 59 => ⟨S32x100x64, .f32⟩
  | 60 => ⟨S32x100x64, .f32⟩
  | 61 => ⟨S32x100x64, .f32⟩
  | 62 => ⟨S32x100x64, .f32⟩
  | 63 => ⟨S_, .f32⟩
  | 64 => ⟨S32x100x64, .f32⟩
  | 65 => ⟨S32x100x64, .f32⟩
  | 66 => ⟨S_, .f32⟩
  | 67 => ⟨S32x100x64, .f32⟩
  | 68 => ⟨S32x100x64, .f32⟩
  | 69 => ⟨S32x100x64, .f32⟩
  | 70 => ⟨S32x100x64, .f32⟩
  | 71 => ⟨S32x100x64, .f32⟩
  | 72 => ⟨S_, .f32⟩
  | 73 => ⟨S32x100x64, .f32⟩
  | 74 => ⟨S32x100x64, .f32⟩
  | 75 => ⟨S_, .f32⟩
  | 76 => ⟨S32x100x64, .f32⟩
  | 77 => ⟨S32x100x64, .f32⟩
  | 78 => ⟨S32x100x64, .f32⟩
  | 79 => ⟨S32x100x64, .f32⟩
  | 80 => ⟨S32x100x64, .f32⟩
  | 81 => ⟨S_, .f32⟩
  | 82 => ⟨S32x100x64, .f32⟩
  | 83 => ⟨S32x100x64, .f32⟩
  | 84 => ⟨S32x100x64, .f32⟩
  | 85 => ⟨S32x100x64, .f32⟩
  | 86 => ⟨S32x100x64, .f32⟩
  | 87 => ⟨S32x1x100, .f32⟩
  | 88 => ⟨S32x100, .f32⟩
  | 89 => ⟨S32x100x1, .f32⟩
  | 90 => ⟨S1x192, .f32⟩
  | 91 => ⟨S32x100x192, .f32⟩
  | 92 => ⟨S1x1x192, .f32⟩
  | 93 => ⟨S32x100x192, .f32⟩
  | 94 => ⟨S32x100x192, .f32⟩
  | 95 => ⟨S64x192, .f32⟩
  | 96 => ⟨S32x100x192, .f32⟩
  | 97 => ⟨S1x1x192, .f32⟩
  | 98 => ⟨S32x100x192, .f32⟩
  | 99 => ⟨S32x100x192, .f32⟩
  | 100 => ⟨S32x100x64, .f32⟩
  | 101 => ⟨S32x100x64, .f32⟩
  | 102 => ⟨S32x100x64, .f32⟩
  | 103 => ⟨S32x100x64, .f32⟩
  | 104 => ⟨S32x100x64, .f32⟩
  | 105 => ⟨S32x100x64, .f32⟩
  | 106 => ⟨S32x100x64, .f32⟩
  | 107 => ⟨S32x100x64, .f32⟩
  | 108 => ⟨S32x100x64, .f32⟩
  | 109 => ⟨S_, .f32⟩
  | 110 => ⟨S32x100x64, .f32⟩
  | 111 => ⟨S32x100x64, .f32⟩
  | 112 => ⟨S_, .f32⟩
  | 113 => ⟨S32x100x64, .f32⟩
  | 114 => ⟨S32x100x64, .f32⟩
  | 115 => ⟨S32x100x64, .f32⟩
  | 116 => ⟨S32x100x64, .f32⟩
  | 117 => ⟨S32x100x64, .f32⟩
  | 118 => ⟨S_, .f32⟩
  | 119 => ⟨S32x100x64, .f32⟩
  | 120 => ⟨S32x100x64, .f32⟩
  | 121 => ⟨S_, .f32⟩
  | 122 => ⟨S32x100x64, .f32⟩
  | 123 => ⟨S32x100x64, .f32⟩
  | 124 => ⟨S32x100x64, .f32⟩
  | 125 => ⟨S32x100x64, .f32⟩
  | 126 => ⟨S32x100x64, .f32⟩
  | 127 => ⟨S_, .f32⟩
  | _ => ⟨S32x12x100, .f32⟩

abbrev hbmTy0_3 (i : Nat) : BufTy := match i % 128 with
  | 0 => ⟨S32x100x64, .f32⟩
  | 1 => ⟨S32x100x64, .f32⟩
  | 2 => ⟨S32x100x64, .f32⟩
  | 3 => ⟨S32x100x64, .f32⟩
  | 4 => ⟨S32x100x64, .f32⟩
  | 5 => ⟨S32x1x100, .f32⟩
  | 6 => ⟨S32x100, .f32⟩
  | 7 => ⟨S32x100x1, .f32⟩
  | 8 => ⟨S1x192, .f32⟩
  | 9 => ⟨S32x100x192, .f32⟩
  | 10 => ⟨S1x1x192, .f32⟩
  | 11 => ⟨S32x100x192, .f32⟩
  | 12 => ⟨S32x100x192, .f32⟩
  | 13 => ⟨S64x192, .f32⟩
  | 14 => ⟨S32x100x192, .f32⟩
  | 15 => ⟨S1x1x192, .f32⟩
  | 16 => ⟨S32x100x192, .f32⟩
  | 17 => ⟨S32x100x192, .f32⟩
  | 18 => ⟨S32x100x64, .f32⟩
  | 19 => ⟨S32x100x64, .f32⟩
  | 20 => ⟨S32x100x64, .f32⟩
  | 21 => ⟨S32x100x64, .f32⟩
  | 22 => ⟨S32x100x64, .f32⟩
  | 23 => ⟨S32x100x64, .f32⟩
  | 24 => ⟨S32x100x64, .f32⟩
  | 25 => ⟨S32x100x64, .f32⟩
  | 26 => ⟨S32x100x64, .f32⟩
  | 27 => ⟨S_, .f32⟩
  | 28 => ⟨S32x100x64, .f32⟩
  | 29 => ⟨S32x100x64, .f32⟩
  | 30 => ⟨S_, .f32⟩
  | 31 => ⟨S32x100x64, .f32⟩
  | 32 => ⟨S32x100x64, .f32⟩
  | 33 => ⟨S32x100x64, .f32⟩
  | 34 => ⟨S32x100x64, .f32⟩
  | 35 => ⟨S32x100x64, .f32⟩
  | 36 => ⟨S_, .f32⟩
  | 37 => ⟨S32x100x64, .f32⟩
  | 38 => ⟨S32x100x64, .f32⟩
  | 39 => ⟨S_, .f32⟩
  | 40 => ⟨S32x100x64, .f32⟩
  | 41 => ⟨S32x100x64, .f32⟩
  | 42 => ⟨S32x100x64, .f32⟩
  | 43 => ⟨S32x100x64, .f32⟩
  | 44 => ⟨S32x100x64, .f32⟩
  | 45 => ⟨S_, .f32⟩
  | 46 => ⟨S32x100x64, .f32⟩
  | 47 => ⟨S32x100x64, .f32⟩
  | 48 => ⟨S32x100x64, .f32⟩
  | 49 => ⟨S32x100x64, .f32⟩
  | 50 => ⟨S32x100x64, .f32⟩
  | 51 => ⟨S32x1x100, .f32⟩
  | 52 => ⟨S32x100, .f32⟩
  | 53 => ⟨S32x100x1, .f32⟩
  | 54 => ⟨S1x192, .f32⟩
  | 55 => ⟨S32x100x192, .f32⟩
  | 56 => ⟨S1x1x192, .f32⟩
  | 57 => ⟨S32x100x192, .f32⟩
  | 58 => ⟨S32x100x192, .f32⟩
  | 59 => ⟨S64x192, .f32⟩
  | 60 => ⟨S32x100x192, .f32⟩
  | 61 => ⟨S1x1x192, .f32⟩
  | 62 => ⟨S32x100x192, .f32⟩
  | 63 => ⟨S32x100x192, .f32⟩
  | 64 => ⟨S32x100x64, .f32⟩
  | 65 => ⟨S32x100x64, .f32⟩
  | 66 => ⟨S32x100x64, .f32⟩
  | 67 => ⟨S32x100x64, .f32⟩
  | 68 => ⟨S32x100x64, .f32⟩
  | 69 => ⟨S32x100x64, .f32⟩
  | 70 => ⟨S32x100x64, .f32⟩
  | 71 => ⟨S32x100x64, .f32⟩
  | 72 => ⟨S32x100x64, .f32⟩
  | 73 => ⟨S_, .f32⟩
  | 74 => ⟨S32x100x64, .f32⟩
  | 75 => ⟨S32x100x64, .f32⟩
  | 76 => ⟨S_, .f32⟩
  | 77 => ⟨S32x100x64, .f32⟩
  | 78 => ⟨S32x100x64, .f32⟩
  | 79 => ⟨S32x100x64, .f32⟩
  | 80 => ⟨S32x100x64, .f32⟩
  | 81 => ⟨S32x100x64, .f32⟩
  | 82 => ⟨S_, .f32⟩
  | 83 => ⟨S32x100x64, .f32⟩
  | 84 => ⟨S32x100x64, .f32⟩
  | 85 => ⟨S_, .f32⟩
  | 86 => ⟨S32x100x64, .f32⟩
  | 87 => ⟨S32x100x64, .f32⟩
  | 88 => ⟨S32x100x64, .f32⟩
  | 89 => ⟨S32x100x64, .f32⟩
  | 90 => ⟨S32x100x64, .f32⟩
  | 91 => ⟨S_, .f32⟩
  | 92 => ⟨S32x100x64, .f32⟩
  | 93 => ⟨S32x100x64, .f32⟩
  | 94 => ⟨S32x100x64, .f32⟩
  | 95 => ⟨S32x100x64, .f32⟩
  | 96 => ⟨S32x100x64, .f32⟩
  | 97 => ⟨S32x1x100, .f32⟩
  | 98 => ⟨S32x100, .f32⟩
  | 99 => ⟨S32x100x1, .f32⟩
  | 100 => ⟨S1x192, .f32⟩
  | 101 => ⟨S32x100x192, .f32⟩
  | 102 => ⟨S1x1x192, .f32⟩
  | 103 => ⟨S32x100x192, .f32⟩
  | 104 => ⟨S32x100x192, .f32⟩
  | 105 => ⟨S64x192, .f32⟩
  | 106 => ⟨S32x100x192, .f32⟩
  | 107 => ⟨S1x1x192, .f32⟩
  | 108 => ⟨S32x100x192, .f32⟩
  | 109 => ⟨S32x100x192, .f32⟩
  | 110 => ⟨S32x100x64, .f32⟩
  | 111 => ⟨S32x100x64, .f32⟩
  | 112 => ⟨S32x100x64, .f32⟩
  | 113 => ⟨S32x100x64, .f32⟩
  | 114 => ⟨S32x100x64, .f32⟩
  | 115 => ⟨S32x100x64, .f32⟩
  | 116 => ⟨S32x100x64, .f32⟩
  | 117 => ⟨S32x100x64, .f32⟩
  | 118 => ⟨S32x100x64, .f32⟩
  | 119 => ⟨S_, .f32⟩
  | 120 => ⟨S32x100x64, .f32⟩
  | 121 => ⟨S32x100x64, .f32⟩
  | 122 => ⟨S_, .f32⟩
  | 123 => ⟨S32x100x64, .f32⟩
  | 124 => ⟨S32x100x64, .f32⟩
  | 125 => ⟨S32x100x64, .f32⟩
  | 126 => ⟨S32x100x64, .f32⟩
  | 127 => ⟨S32x100x64, .f32⟩
  | _ => ⟨S32x12x100, .f32⟩

abbrev hbmTy0_4 (i : Nat) : BufTy := match i % 128 with
  | 0 => ⟨S_, .f32⟩
  | 1 => ⟨S32x100x64, .f32⟩
  | 2 => ⟨S32x100x64, .f32⟩
  | 3 => ⟨S_, .f32⟩
  | 4 => ⟨S32x100x64, .f32⟩
  | 5 => ⟨S32x100x64, .f32⟩
  | 6 => ⟨S32x100x64, .f32⟩
  | 7 => ⟨S32x100x64, .f32⟩
  | 8 => ⟨S32x100x64, .f32⟩
  | 9 => ⟨S_, .f32⟩
  | 10 => ⟨S32x100x64, .f32⟩
  | 11 => ⟨S32x100x64, .f32⟩
  | 12 => ⟨S32x100x64, .f32⟩
  | 13 => ⟨S32x100x64, .f32⟩
  | 14 => ⟨S32x100x64, .f32⟩
  | 15 => ⟨S32x1x100, .f32⟩
  | 16 => ⟨S32x100, .f32⟩
  | 17 => ⟨S32x100x1, .f32⟩
  | 18 => ⟨S1x192, .f32⟩
  | 19 => ⟨S32x100x192, .f32⟩
  | 20 => ⟨S1x1x192, .f32⟩
  | 21 => ⟨S32x100x192, .f32⟩
  | 22 => ⟨S32x100x192, .f32⟩
  | 23 => ⟨S64x192, .f32⟩
  | 24 => ⟨S32x100x192, .f32⟩
  | 25 => ⟨S1x1x192, .f32⟩
  | 26 => ⟨S32x100x192, .f32⟩
  | 27 => ⟨S32x100x192, .f32⟩
  | 28 => ⟨S32x100x64, .f32⟩
  | 29 => ⟨S32x100x64, .f32⟩
  | 30 => ⟨S32x100x64, .f32⟩
  | 31 => ⟨S32x100x64, .f32⟩
  | 32 => ⟨S32x100x64, .f32⟩
  | 33 => ⟨S32x100x64, .f32⟩
  | 34 => ⟨S32x100x64, .f32⟩
  | 35 => ⟨S32x100x64, .f32⟩
  | 36 => ⟨S32x100x64, .f32⟩
  | 37 => ⟨S_, .f32⟩
  | 38 => ⟨S32x100x64, .f32⟩
  | 39 => ⟨S32x100x64, .f32⟩
  | 40 => ⟨S_, .f32⟩
  | 41 => ⟨S32x100x64, .f32⟩
  | 42 => ⟨S32x100x64, .f32⟩
  | 43 => ⟨S32x100x64, .f32⟩
  | 44 => ⟨S32x100x64, .f32⟩
  | 45 => ⟨S32x100x64, .f32⟩
  | 46 => ⟨S_, .f32⟩
  | 47 => ⟨S32x100x64, .f32⟩
  | 48 => ⟨S32x100x64, .f32⟩
  | 49 => ⟨S_, .f32⟩
  | 50 => ⟨S32x100x64, .f32⟩
  | 51 => ⟨S32x100x64, .f32⟩
  | 52 => ⟨S32x100x64, .f32⟩
  | 53 => ⟨S32x100x64, .f32⟩
  | 54 => ⟨S32x100x64, .f32⟩
  | 55 => ⟨S_, .f32⟩
  | 56 => ⟨S32x100x64, .f32⟩
  | 57 => ⟨S32x100x64, .f32⟩
  | 58 => ⟨S32x100x64, .f32⟩
  | 59 => ⟨S32x100x64, .f32⟩
  | 60 => ⟨S32x100x64, .f32⟩
  | 61 => ⟨S64x32, .f32⟩
  | 62 => ⟨S32x100x32, .f32⟩
  | 63 => ⟨S1x1x32, .f32⟩
  | 64 => ⟨S32x100x32, .f32⟩
  | 65 => ⟨S32x100x32, .f32⟩
  | 66 => ⟨S64x32, .f32⟩
  | 67 => ⟨S32x100x32, .f32⟩
  | 68 => ⟨S1x1x32, .f32⟩
  | 69 => ⟨S32x100x32, .f32⟩
  | 70 => ⟨S32x100x32, .f32⟩
  | 71 => ⟨S32x32x100, .f32⟩
  | 72 => ⟨S32x100x100, .f32⟩
  | 73 => ⟨S_, .f32⟩
  | 74 => ⟨S_, .f32⟩
  | 75 => ⟨S32x100x100, .f32⟩
  | 76 => ⟨S32x100x100, .f32⟩
  | 77 => ⟨S_, .f32⟩
  | 78 => ⟨S32x100, .f32⟩
  | 79 => ⟨S_, .f32⟩
  | 80 => ⟨S32x100, .f32⟩
  | 81 => ⟨S32x100, .f32⟩
  | 82 => ⟨S32x100x1, .f32⟩
  | 83 => ⟨S32x100x100, .f32⟩
  | 84 => ⟨S32x100x100, .f32⟩
  | 85 => ⟨S32x100x100, .f32⟩
  | 86 => ⟨S_, .f32⟩
  | 87 => ⟨S32x100, .f32⟩
  | 88 => ⟨S32x100x1, .f32⟩
  | 89 => ⟨S32x100x100, .f32⟩
  | 90 => ⟨S32x100x100, .f32⟩
  | 91 => ⟨S_, .f32⟩
  | 92 => ⟨S32x100, .f32⟩
  | 93 => ⟨S_, .f32⟩
  | 94 => ⟨S32x100, .f32⟩
  | 95 => ⟨S32x100, .i1⟩
  | 96 => ⟨S_, .f32⟩
  | 97 => ⟨S_, .f32⟩
  | 98 => ⟨S32x100, .f32⟩
  | 99 => ⟨S32x100, .f32⟩
  | 100 => ⟨S_, .f32⟩
  | 101 => ⟨S32x100, .f32⟩
  | 102 => ⟨S32x100, .i1⟩
  | 103 => ⟨S32x100, .f32⟩
  | 104 => ⟨S_, .f32⟩
  | 105 => ⟨S32x100, .f32⟩
  | 106 => ⟨S32x100, .f32⟩
  | 107 => ⟨S_, .f32⟩
  | 108 => ⟨S_, .f32⟩
  | 109 => ⟨S32x100, .f32⟩
  | 110 => ⟨S32x100, .f32⟩
  | 111 => ⟨S32x100x1, .f32⟩
  | 112 => ⟨S32x100x100, .f32⟩
  | 113 => ⟨S32x100x100, .f32⟩
  | 114 => ⟨S32x1x100, .f32⟩
  | 115 => ⟨S32x100x100, .f32⟩
  | 116 => ⟨S32x100x100, .f32⟩
  | 117 => ⟨S32x12x100x1, .f32⟩
  | 118 => ⟨S1x1x1x64, .f32⟩
  | 119 => ⟨S32x12x100x64, .f32⟩
  | 120 => ⟨S32x12x100x64, .f32⟩
  | 121 => ⟨S32x12x100x64, .f32⟩
  | 122 => ⟨S1x1x1x64, .f32⟩
  | 123 => ⟨S32x12x100x64, .f32⟩
  | 124 => ⟨S32x12x100x64, .f32⟩
  | 125 => ⟨S1x12x64x64, .f32⟩
  | 126 => ⟨S12x64x64, .f32⟩
  | 127 => ⟨S12x64x32x100, .f32⟩
  | _ => ⟨S32x12x100, .f32⟩

abbrev hbmTy0_5 (i : Nat) : BufTy := match i % 128 with
  | 0 => ⟨S32x12x100x64, .f32⟩
  | 1 => ⟨S32x12x64x100, .f32⟩
  | 2 => ⟨S32x12x100x64, .f32⟩
  | 3 => ⟨S1x12x64, .f32⟩
  | 4 => ⟨S12x64, .f32⟩
  | 5 => ⟨S12x1x64, .f32⟩
  | 6 => ⟨S1x12x1x64, .f32⟩
  | 7 => ⟨S32x12x100x64, .f32⟩
  | 8 => ⟨S32x12x100x64, .f32⟩
  | 9 => ⟨S_, .i32⟩
  | 10 => ⟨S_, .f32⟩
  | 11 => ⟨S32x14x100x64, .f32⟩
  | 12 => ⟨S32x12x100x64, .f32⟩
  | 13 => ⟨S64x64x1, .f32⟩
  | 14 => ⟨S64x64, .f32⟩
  | 15 => ⟨S64x64, .f32⟩
  | 16 => ⟨S32x12x100x64, .f32⟩
  | 17 => ⟨S32x12x100x64, .f32⟩
  | 18 => ⟨S64x64x1, .f32⟩
  | 19 => ⟨S64x64, .f32⟩
  | 20 => ⟨S64x64, .f32⟩
  | 21 => ⟨S32x12x100x64, .f32⟩
  | 22 => ⟨S32x12x100x64, .f32⟩
  | 23 => ⟨S32x12x100x64, .f32⟩
  | 24 => ⟨S64x64x1, .f32⟩
  | 25 => ⟨S64x64, .f32⟩
  | 26 => ⟨S64x64, .f32⟩
  | 27 => ⟨S32x12x100x64, .f32⟩
  | 28 => ⟨S32x12x100x64, .f32⟩
  | 29 => ⟨S1x1x1x64, .f32⟩
  | 30 => ⟨S32x12x100x64, .f32⟩
  | 31 => ⟨S32x12x100x64, .f32⟩
  | 32 => ⟨S_, .f32⟩
  | 33 => ⟨S32x12x100x64, .f32⟩
  | 34 => ⟨S32x12x100x64, .i1⟩
  | 35 => ⟨S_, .f32⟩
  | 36 => ⟨S32x12x100x64, .f32⟩
  | 37 => ⟨S32x12x100x64, .f32⟩
  | 38 => ⟨S32x12x100x64, .f32⟩
  | 39 => ⟨S1x12x64x64, .f32⟩
  | 40 => ⟨S12x64x64, .f32⟩
  | 41 => ⟨S12x64x32x100, .f32⟩
  | 42 => ⟨S32x12x100x64, .f32⟩
  | 43 => ⟨S32x12x64x100, .f32⟩
  | 44 => ⟨S32x12x100x64, .f32⟩
  | 45 => ⟨S1x12x64, .f32⟩
  | 46 => ⟨S12x64, .f32⟩
  | 47 => ⟨S12x1x64, .f32⟩
  | 48 => ⟨S1x12x1x64, .f32⟩
  | 49 => ⟨S32x12x100x64, .f32⟩
  | 50 => ⟨S32x12x100x64, .f32⟩
  | 51 => ⟨S_, .i32⟩
  | 52 => ⟨S_, .f32⟩
  | 53 => ⟨S32x16x100x64, .f32⟩
  | 54 => ⟨S32x12x100x64, .f32⟩
  | 55 => ⟨S64x64x1, .f32⟩
  | 56 => ⟨S64x64, .f32⟩
  | 57 => ⟨S64x64, .f32⟩
  | 58 => ⟨S32x12x100x64, .f32⟩
  | 59 => ⟨S32x12x100x64, .f32⟩
  | 60 => ⟨S64x64x1, .f32⟩
  | 61 => ⟨S64x64, .f32⟩
  | 62 => ⟨S64x64, .f32⟩
  | 63 => ⟨S32x12x100x64, .f32⟩
  | 64 => ⟨S32x12x100x64, .f32⟩
  | 65 => ⟨S32x12x100x64, .f32⟩
  | 66 => ⟨S64x64x1, .f32⟩
  | 67 => ⟨S64x64, .f32⟩
  | 68 => ⟨S64x64, .f32⟩
  | 69 => ⟨S32x12x100x64, .f32⟩
  | 70 => ⟨S32x12x100x64, .f32⟩
  | 71 => ⟨S32x12x100x64, .f32⟩
  | 72 => ⟨S64x64x1, .f32⟩
  | 73 => ⟨S64x64, .f32⟩
  | 74 => ⟨S64x64, .f32⟩
  | 75 => ⟨S32x12x100x64, .f32⟩
  | 76 => ⟨S32x12x100x64, .f32⟩
  | 77 => ⟨S32x12x100x64, .f32⟩
  | 78 => ⟨S64x64x1, .f32⟩
  | 79 => ⟨S64x64, .f32⟩
  | 80 => ⟨S64x64, .f32⟩
  | 81 => ⟨S32x12x100x64, .f32⟩
  | 82 => ⟨S32x12x100x64, .f32⟩
  | 83 => ⟨S1x1x1x64, .f32⟩
  | 84 => ⟨S32x12x100x64, .f32⟩
  | 85 => ⟨S32x12x100x64, .f32⟩
  | 86 => ⟨S_, .f32⟩
  | 87 => ⟨S32x12x100x64, .f32⟩
  | 88 => ⟨S32x12x100x64, .i1⟩
  | 89 => ⟨S_, .f32⟩
  | 90 => ⟨S32x12x100x64, .f32⟩
  | 91 => ⟨S32x12x100x64, .f32⟩
  | 92 => ⟨S32x12x100x64, .f32⟩
  | 93 => ⟨S1x12x64x64, .f32⟩
  | 94 => ⟨S12x64x64, .f32⟩
  | 95 => ⟨S12x64x32x100, .f32⟩
  | 96 => ⟨S32x12x100x64, .f32⟩
  | 97 => ⟨S32x12x64x100, .f32⟩
  | 98 => ⟨S32x12x100x64, .f32⟩
  | 99 => ⟨S1x12x64, .f32⟩
  | 100 => ⟨S12x64, .f32⟩
  | 101 => ⟨S12x1x64, .f32⟩
  | 102 => ⟨S1x12x1x64, .f32⟩
  | 103 => ⟨S32x12x100x64, .f32⟩
  | 104 => ⟨S32x12x100x64, .f32⟩
  | 105 => ⟨S_, .i32⟩
  | 106 => ⟨S_, .f32⟩
  | 107 => ⟨S32x18x100x64, .f32⟩
  | 108 => ⟨S32x12x100x64, .f32⟩
  | 109 => ⟨S64x64x1, .f32⟩
  | 110 => ⟨S64x64, .f32⟩
  | 111 => ⟨S64x64, .f32⟩
  | 112 => ⟨S32x12x100x64, .f32⟩
  | 113 => ⟨S32x12x100x64, .f32⟩
  | 114 => ⟨S64x64x1, .f32⟩
  | 115 => ⟨S64x64, .f32⟩
  | 116 => ⟨S64x64, .f32⟩
  | 117 => ⟨S32x12x100x64, .f32⟩
  | 118 => ⟨S32x12x100x64, .f32⟩
  | 119 => ⟨S32x12x100x64, .f32⟩
  | 120 => ⟨S64x64x1, .f32⟩
  | 121 => ⟨S64x64, .f32⟩
  | 122 => ⟨S64x64, .f32⟩
  | 123 => ⟨S32x12x100x64, .f32⟩
  | 124 => ⟨S32x12x100x64, .f32⟩
  | 125 => ⟨S32x12x100x64, .f32⟩
  | 126 => ⟨S64x64x1, .f32⟩
  | 127 => ⟨S64x64, .f32⟩
  | _ => ⟨S32x12x100, .f32⟩

abbrev hbmTy0_6 (i : Nat) : BufTy := match i % 128 with
  | 0 => ⟨S64x64, .f32⟩
  | 1 => ⟨S32x12x100x64, .f32⟩
  | 2 => ⟨S32x12x100x64, .f32⟩
  | 3 => ⟨S32x12x100x64, .f32⟩
  | 4 => ⟨S64x64x1, .f32⟩
  | 5 => ⟨S64x64, .f32⟩
  | 6 => ⟨S64x64, .f32⟩
  | 7 => ⟨S32x12x100x64, .f32⟩
  | 8 => ⟨S32x12x100x64, .f32⟩
  | 9 => ⟨S32x12x100x64, .f32⟩
  | 10 => ⟨S64x64x1, .f32⟩
  | 11 => ⟨S64x64, .f32⟩
  | 12 => ⟨S64x64, .f32⟩
  | 13 => ⟨S32x12x100x64, .f32⟩
  | 14 => ⟨S32x12x100x64, .f32⟩
  | 15 => ⟨S32x12x100x64, .f32⟩
  | 16 => ⟨S64x64x1, .f32⟩
  | 17 => ⟨S64x64, .f32⟩
  | 18 => ⟨S64x64, .f32⟩
  | 19 => ⟨S32x12x100x64, .f32⟩
  | 20 => ⟨S32x12x100x64, .f32⟩
  | 21 => ⟨S1x1x1x64, .f32⟩
  | 22 => ⟨S32x12x100x64, .f32⟩
  | 23 => ⟨S32x12x100x64, .f32⟩
  | 24 => ⟨S_, .f32⟩
  | 25 => ⟨S32x12x100x64, .f32⟩
  | 26 => ⟨S32x12x100x64, .i1⟩
  | 27 => ⟨S_, .f32⟩
  | 28 => ⟨S32x12x100x64, .f32⟩
  | 29 => ⟨S32x12x100x64, .f32⟩
  | 30 => ⟨S32x12x100x64, .f32⟩
  | 31 => ⟨S32x100x12x64, .f32⟩
  | 32 => ⟨S32x100x768, .f32⟩
  | _ => ⟨S32x12x100, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S32x12x100, .f32⟩

abbrev bufTy : (tb : Table) → Fin (tcTables nBuf tb) → BufTy
  | .hbm, ⟨i, _⟩ => hbmTy i
  | _, _ => ⟨S32x12x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_cst : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_2 : Ref sig .tc := ⟨.hbm, 52, rfl⟩
abbrev main_v30 : Ref sig .tc := ⟨.hbm, 53, rfl⟩
abbrev main_v31 : Ref sig .tc := ⟨.hbm, 54, rfl⟩
abbrev main_cst_3 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_5 : Ref sig .tc := ⟨.hbm, 89, rfl⟩
abbrev main_v64 : Ref sig .tc := ⟨.hbm, 90, rfl⟩
abbrev main_v65 : Ref sig .tc := ⟨.hbm, 91, rfl⟩
abbrev main_cst_6 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_7 : Ref sig .tc := ⟨.hbm, 98, rfl⟩
abbrev main_v71 : Ref sig .tc := ⟨.hbm, 99, rfl⟩
abbrev main_v72 : Ref sig .tc := ⟨.hbm, 100, rfl⟩
abbrev main_cst_8 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_9 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_cst_10 : Ref sig .tc := ⟨.hbm, 135, rfl⟩
abbrev main_v105 : Ref sig .tc := ⟨.hbm, 136, rfl⟩
abbrev main_v106 : Ref sig .tc := ⟨.hbm, 137, rfl⟩
abbrev main_cst_11 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_cst_12 : Ref sig .tc := ⟨.hbm, 144, rfl⟩
abbrev main_v112 : Ref sig .tc := ⟨.hbm, 145, rfl⟩
abbrev main_v113 : Ref sig .tc := ⟨.hbm, 146, rfl⟩
abbrev main_cst_13 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_cst_14 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_v126 : Ref sig .tc := ⟨.hbm, 161, rfl⟩
abbrev main_v127 : Ref sig .tc := ⟨.hbm, 162, rfl⟩
abbrev main_v128 : Ref sig .tc := ⟨.hbm, 163, rfl⟩
abbrev main_v129 : Ref sig .tc := ⟨.hbm, 164, rfl⟩
abbrev main_v130 : Ref sig .tc := ⟨.hbm, 165, rfl⟩
abbrev main_v131 : Ref sig .tc := ⟨.hbm, 166, rfl⟩
abbrev main_v132 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_cst_15 : Ref sig .tc := ⟨.hbm, 181, rfl⟩
abbrev main_v146 : Ref sig .tc := ⟨.hbm, 182, rfl⟩
abbrev main_v147 : Ref sig .tc := ⟨.hbm, 183, rfl⟩
abbrev main_cst_16 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_v151 : Ref sig .tc := ⟨.hbm, 188, rfl⟩
abbrev main_v152 : Ref sig .tc := ⟨.hbm, 189, rfl⟩
abbrev main_cst_17 : Ref sig .tc := ⟨.hbm, 190, rfl⟩
abbrev main_v153 : Ref sig .tc := ⟨.hbm, 191, rfl⟩
abbrev main_v154 : Ref sig .tc := ⟨.hbm, 192, rfl⟩
abbrev main_cst_18 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_cst_19 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_cst_20 : Ref sig .tc := ⟨.hbm, 227, rfl⟩
abbrev main_v187 : Ref sig .tc := ⟨.hbm, 228, rfl⟩
abbrev main_v188 : Ref sig .tc := ⟨.hbm, 229, rfl⟩
abbrev main_cst_21 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_cst_22 : Ref sig .tc := ⟨.hbm, 236, rfl⟩
abbrev main_v194 : Ref sig .tc := ⟨.hbm, 237, rfl⟩
abbrev main_v195 : Ref sig .tc := ⟨.hbm, 238, rfl⟩
abbrev main_cst_23 : Ref sig .tc := ⟨.hbm, 239, rfl⟩
abbrev main_v196 : Ref sig .tc := ⟨.hbm, 240, rfl⟩
abbrev main_v197 : Ref sig .tc := ⟨.hbm, 241, rfl⟩
abbrev main_v198 : Ref sig .tc := ⟨.hbm, 242, rfl⟩
abbrev main_v199 : Ref sig .tc := ⟨.hbm, 243, rfl⟩
abbrev main_v200 : Ref sig .tc := ⟨.hbm, 244, rfl⟩
abbrev main_cst_24 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_v217 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_cst_25 : Ref sig .tc := ⟨.hbm, 273, rfl⟩
abbrev main_v228 : Ref sig .tc := ⟨.hbm, 274, rfl⟩
abbrev main_v229 : Ref sig .tc := ⟨.hbm, 275, rfl⟩
abbrev main_cst_26 : Ref sig .tc := ⟨.hbm, 276, rfl⟩
abbrev main_v230 : Ref sig .tc := ⟨.hbm, 277, rfl⟩
abbrev main_v231 : Ref sig .tc := ⟨.hbm, 278, rfl⟩
abbrev main_v232 : Ref sig .tc := ⟨.hbm, 279, rfl⟩
abbrev main_v233 : Ref sig .tc := ⟨.hbm, 280, rfl⟩
abbrev main_v234 : Ref sig .tc := ⟨.hbm, 281, rfl⟩
abbrev main_cst_27 : Ref sig .tc := ⟨.hbm, 282, rfl⟩
abbrev main_v235 : Ref sig .tc := ⟨.hbm, 283, rfl⟩
abbrev main_v236 : Ref sig .tc := ⟨.hbm, 284, rfl⟩
abbrev main_cst_28 : Ref sig .tc := ⟨.hbm, 285, rfl⟩
abbrev main_v237 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_cst_29 : Ref sig .tc := ⟨.hbm, 291, rfl⟩
abbrev main_v242 : Ref sig .tc := ⟨.hbm, 292, rfl⟩
abbrev main_v243 : Ref sig .tc := ⟨.hbm, 293, rfl⟩
abbrev main_v244 : Ref sig .tc := ⟨.hbm, 294, rfl⟩
abbrev main_v245 : Ref sig .tc := ⟨.hbm, 295, rfl⟩
abbrev main_v246 : Ref sig .tc := ⟨.hbm, 296, rfl⟩
abbrev main_v247 : Ref sig .tc := ⟨.hbm, 297, rfl⟩
abbrev main_v248 : Ref sig .tc := ⟨.hbm, 298, rfl⟩
abbrev main_v249 : Ref sig .tc := ⟨.hbm, 299, rfl⟩
abbrev main_v250 : Ref sig .tc := ⟨.hbm, 300, rfl⟩
abbrev main_v251 : Ref sig .tc := ⟨.hbm, 301, rfl⟩
abbrev main_v252 : Ref sig .tc := ⟨.hbm, 302, rfl⟩
abbrev main_v253 : Ref sig .tc := ⟨.hbm, 303, rfl⟩
abbrev main_v254 : Ref sig .tc := ⟨.hbm, 304, rfl⟩
abbrev main_v255 : Ref sig .tc := ⟨.hbm, 305, rfl⟩
abbrev main_v256 : Ref sig .tc := ⟨.hbm, 306, rfl⟩
abbrev main_v257 : Ref sig .tc := ⟨.hbm, 307, rfl⟩
abbrev main_v258 : Ref sig .tc := ⟨.hbm, 308, rfl⟩
abbrev main_v259 : Ref sig .tc := ⟨.hbm, 309, rfl⟩
abbrev main_v260 : Ref sig .tc := ⟨.hbm, 310, rfl⟩
abbrev main_v261 : Ref sig .tc := ⟨.hbm, 311, rfl⟩
abbrev main_v262 : Ref sig .tc := ⟨.hbm, 312, rfl⟩
abbrev main_v263 : Ref sig .tc := ⟨.hbm, 313, rfl⟩
abbrev main_v264 : Ref sig .tc := ⟨.hbm, 314, rfl⟩
abbrev main_v265 : Ref sig .tc := ⟨.hbm, 315, rfl⟩
abbrev main_v266 : Ref sig .tc := ⟨.hbm, 316, rfl⟩
abbrev main_v267 : Ref sig .tc := ⟨.hbm, 317, rfl⟩
abbrev main_v268 : Ref sig .tc := ⟨.hbm, 318, rfl⟩
abbrev main_cst_30 : Ref sig .tc := ⟨.hbm, 319, rfl⟩
abbrev main_v269 : Ref sig .tc := ⟨.hbm, 320, rfl⟩
abbrev main_v270 : Ref sig .tc := ⟨.hbm, 321, rfl⟩
abbrev main_cst_31 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_cst_32 : Ref sig .tc := ⟨.hbm, 328, rfl⟩
abbrev main_v276 : Ref sig .tc := ⟨.hbm, 329, rfl⟩
abbrev main_v277 : Ref sig .tc := ⟨.hbm, 330, rfl⟩
abbrev main_cst_33 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_cst_34 : Ref sig .tc := ⟨.hbm, 337, rfl⟩
abbrev main_v283 : Ref sig .tc := ⟨.hbm, 338, rfl⟩
abbrev main_v284 : Ref sig .tc := ⟨.hbm, 339, rfl⟩
abbrev main_v285 : Ref sig .tc := ⟨.hbm, 340, rfl⟩
abbrev main_v286 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_v290 : Ref sig .tc := ⟨.hbm, 345, rfl⟩
abbrev main_v291 : Ref sig .tc := ⟨.hbm, 346, rfl⟩
abbrev main_v292 : Ref sig .tc := ⟨.hbm, 347, rfl⟩
abbrev main_v293 : Ref sig .tc := ⟨.hbm, 348, rfl⟩
abbrev main_v294 : Ref sig .tc := ⟨.hbm, 349, rfl⟩
abbrev main_v295 : Ref sig .tc := ⟨.hbm, 350, rfl⟩
abbrev main_v296 : Ref sig .tc := ⟨.hbm, 351, rfl⟩
abbrev main_v297 : Ref sig .tc := ⟨.hbm, 352, rfl⟩
abbrev main_v298 : Ref sig .tc := ⟨.hbm, 353, rfl⟩
abbrev main_v299 : Ref sig .tc := ⟨.hbm, 354, rfl⟩
abbrev main_v300 : Ref sig .tc := ⟨.hbm, 355, rfl⟩
abbrev main_v301 : Ref sig .tc := ⟨.hbm, 356, rfl⟩
abbrev main_v302 : Ref sig .tc := ⟨.hbm, 357, rfl⟩
abbrev main_v303 : Ref sig .tc := ⟨.hbm, 358, rfl⟩
abbrev main_v304 : Ref sig .tc := ⟨.hbm, 359, rfl⟩
abbrev main_v305 : Ref sig .tc := ⟨.hbm, 360, rfl⟩
abbrev main_v306 : Ref sig .tc := ⟨.hbm, 361, rfl⟩
abbrev main_v307 : Ref sig .tc := ⟨.hbm, 362, rfl⟩
abbrev main_v308 : Ref sig .tc := ⟨.hbm, 363, rfl⟩
abbrev main_v309 : Ref sig .tc := ⟨.hbm, 364, rfl⟩
abbrev main_cst_35 : Ref sig .tc := ⟨.hbm, 365, rfl⟩
abbrev main_v310 : Ref sig .tc := ⟨.hbm, 366, rfl⟩
abbrev main_v311 : Ref sig .tc := ⟨.hbm, 367, rfl⟩
abbrev main_cst_36 : Ref sig .tc := ⟨.hbm, 368, rfl⟩
abbrev main_v312 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_cst_37 : Ref sig .tc := ⟨.hbm, 374, rfl⟩
abbrev main_v317 : Ref sig .tc := ⟨.hbm, 375, rfl⟩
abbrev main_v318 : Ref sig .tc := ⟨.hbm, 376, rfl⟩
abbrev main_cst_38 : Ref sig .tc := ⟨.hbm, 377, rfl⟩
abbrev main_v319 : Ref sig .tc := ⟨.hbm, 378, rfl⟩
abbrev main_v320 : Ref sig .tc := ⟨.hbm, 379, rfl⟩
abbrev main_v321 : Ref sig .tc := ⟨.hbm, 380, rfl⟩
abbrev main_v322 : Ref sig .tc := ⟨.hbm, 381, rfl⟩
abbrev main_v323 : Ref sig .tc := ⟨.hbm, 382, rfl⟩
abbrev main_cst_39 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_v327 : Ref sig .tc := ⟨.hbm, 387, rfl⟩
abbrev main_v328 : Ref sig .tc := ⟨.hbm, 388, rfl⟩
abbrev main_v329 : Ref sig .tc := ⟨.hbm, 389, rfl⟩
abbrev main_v330 : Ref sig .tc := ⟨.hbm, 390, rfl⟩
abbrev main_v331 : Ref sig .tc := ⟨.hbm, 391, rfl⟩
abbrev main_v332 : Ref sig .tc := ⟨.hbm, 392, rfl⟩
abbrev main_v333 : Ref sig .tc := ⟨.hbm, 393, rfl⟩
abbrev main_v334 : Ref sig .tc := ⟨.hbm, 394, rfl⟩
abbrev main_v335 : Ref sig .tc := ⟨.hbm, 395, rfl⟩
abbrev main_v336 : Ref sig .tc := ⟨.hbm, 396, rfl⟩
abbrev main_v337 : Ref sig .tc := ⟨.hbm, 397, rfl⟩
abbrev main_v338 : Ref sig .tc := ⟨.hbm, 398, rfl⟩
abbrev main_v339 : Ref sig .tc := ⟨.hbm, 399, rfl⟩
abbrev main_v340 : Ref sig .tc := ⟨.hbm, 400, rfl⟩
abbrev main_v341 : Ref sig .tc := ⟨.hbm, 401, rfl⟩
abbrev main_v342 : Ref sig .tc := ⟨.hbm, 402, rfl⟩
abbrev main_v343 : Ref sig .tc := ⟨.hbm, 403, rfl⟩
abbrev main_v344 : Ref sig .tc := ⟨.hbm, 404, rfl⟩
abbrev main_v345 : Ref sig .tc := ⟨.hbm, 405, rfl⟩
abbrev main_v346 : Ref sig .tc := ⟨.hbm, 406, rfl⟩
abbrev main_v347 : Ref sig .tc := ⟨.hbm, 407, rfl⟩
abbrev main_v348 : Ref sig .tc := ⟨.hbm, 408, rfl⟩
abbrev main_v349 : Ref sig .tc := ⟨.hbm, 409, rfl⟩
abbrev main_v350 : Ref sig .tc := ⟨.hbm, 410, rfl⟩
abbrev main_cst_40 : Ref sig .tc := ⟨.hbm, 411, rfl⟩
abbrev main_v351 : Ref sig .tc := ⟨.hbm, 412, rfl⟩
abbrev main_v352 : Ref sig .tc := ⟨.hbm, 413, rfl⟩
abbrev main_cst_41 : Ref sig .tc := ⟨.hbm, 414, rfl⟩
abbrev main_v353 : Ref sig .tc := ⟨.hbm, 415, rfl⟩
abbrev main_v354 : Ref sig .tc := ⟨.hbm, 416, rfl⟩
abbrev main_v355 : Ref sig .tc := ⟨.hbm, 417, rfl⟩
abbrev main_v356 : Ref sig .tc := ⟨.hbm, 418, rfl⟩
abbrev main_v357 : Ref sig .tc := ⟨.hbm, 419, rfl⟩
abbrev main_cst_42 : Ref sig .tc := ⟨.hbm, 420, rfl⟩
abbrev main_v358 : Ref sig .tc := ⟨.hbm, 421, rfl⟩
abbrev main_v359 : Ref sig .tc := ⟨.hbm, 422, rfl⟩
abbrev main_cst_43 : Ref sig .tc := ⟨.hbm, 423, rfl⟩
abbrev main_v360 : Ref sig .tc := ⟨.hbm, 424, rfl⟩
abbrev main_v361 : Ref sig .tc := ⟨.hbm, 425, rfl⟩
abbrev main_v362 : Ref sig .tc := ⟨.hbm, 426, rfl⟩
abbrev main_v363 : Ref sig .tc := ⟨.hbm, 427, rfl⟩
abbrev main_v364 : Ref sig .tc := ⟨.hbm, 428, rfl⟩
abbrev main_cst_44 : Ref sig .tc := ⟨.hbm, 429, rfl⟩
abbrev main_v365 : Ref sig .tc := ⟨.hbm, 430, rfl⟩
abbrev main_v366 : Ref sig .tc := ⟨.hbm, 431, rfl⟩
abbrev main_v367 : Ref sig .tc := ⟨.hbm, 432, rfl⟩
abbrev main_v368 : Ref sig .tc := ⟨.hbm, 433, rfl⟩
abbrev main_v369 : Ref sig .tc := ⟨.hbm, 434, rfl⟩
abbrev main_v370 : Ref sig .tc := ⟨.hbm, 435, rfl⟩
abbrev main_v371 : Ref sig .tc := ⟨.hbm, 436, rfl⟩
abbrev main_v372 : Ref sig .tc := ⟨.hbm, 437, rfl⟩
abbrev main_v373 : Ref sig .tc := ⟨.hbm, 438, rfl⟩
abbrev main_v374 : Ref sig .tc := ⟨.hbm, 439, rfl⟩
abbrev main_v375 : Ref sig .tc := ⟨.hbm, 440, rfl⟩
abbrev main_v376 : Ref sig .tc := ⟨.hbm, 441, rfl⟩
abbrev main_v377 : Ref sig .tc := ⟨.hbm, 442, rfl⟩
abbrev main_v378 : Ref sig .tc := ⟨.hbm, 443, rfl⟩
abbrev main_v379 : Ref sig .tc := ⟨.hbm, 444, rfl⟩
abbrev main_v380 : Ref sig .tc := ⟨.hbm, 445, rfl⟩
abbrev main_v381 : Ref sig .tc := ⟨.hbm, 446, rfl⟩
abbrev main_v382 : Ref sig .tc := ⟨.hbm, 447, rfl⟩
abbrev main_v383 : Ref sig .tc := ⟨.hbm, 448, rfl⟩
abbrev main_v384 : Ref sig .tc := ⟨.hbm, 449, rfl⟩
abbrev main_v385 : Ref sig .tc := ⟨.hbm, 450, rfl⟩
abbrev main_v386 : Ref sig .tc := ⟨.hbm, 451, rfl⟩
abbrev main_v387 : Ref sig .tc := ⟨.hbm, 452, rfl⟩
abbrev main_v388 : Ref sig .tc := ⟨.hbm, 453, rfl⟩
abbrev main_v389 : Ref sig .tc := ⟨.hbm, 454, rfl⟩
abbrev main_v390 : Ref sig .tc := ⟨.hbm, 455, rfl⟩
abbrev main_v391 : Ref sig .tc := ⟨.hbm, 456, rfl⟩
abbrev main_cst_45 : Ref sig .tc := ⟨.hbm, 457, rfl⟩
abbrev main_v392 : Ref sig .tc := ⟨.hbm, 458, rfl⟩
abbrev main_v393 : Ref sig .tc := ⟨.hbm, 459, rfl⟩
abbrev main_cst_46 : Ref sig .tc := ⟨.hbm, 460, rfl⟩
abbrev main_v394 : Ref sig .tc := ⟨.hbm, 461, rfl⟩
abbrev main_v395 : Ref sig .tc := ⟨.hbm, 462, rfl⟩
abbrev main_v396 : Ref sig .tc := ⟨.hbm, 463, rfl⟩
abbrev main_v397 : Ref sig .tc := ⟨.hbm, 464, rfl⟩
abbrev main_v398 : Ref sig .tc := ⟨.hbm, 465, rfl⟩
abbrev main_cst_47 : Ref sig .tc := ⟨.hbm, 466, rfl⟩
abbrev main_v399 : Ref sig .tc := ⟨.hbm, 467, rfl⟩
abbrev main_v400 : Ref sig .tc := ⟨.hbm, 468, rfl⟩
abbrev main_cst_48 : Ref sig .tc := ⟨.hbm, 469, rfl⟩
abbrev main_v401 : Ref sig .tc := ⟨.hbm, 470, rfl⟩
abbrev main_v402 : Ref sig .tc := ⟨.hbm, 471, rfl⟩
abbrev main_v403 : Ref sig .tc := ⟨.hbm, 472, rfl⟩
abbrev main_v404 : Ref sig .tc := ⟨.hbm, 473, rfl⟩
abbrev main_v405 : Ref sig .tc := ⟨.hbm, 474, rfl⟩
abbrev main_cst_49 : Ref sig .tc := ⟨.hbm, 475, rfl⟩
abbrev main_v406 : Ref sig .tc := ⟨.hbm, 476, rfl⟩
abbrev main_v407 : Ref sig .tc := ⟨.hbm, 477, rfl⟩
abbrev main_v408 : Ref sig .tc := ⟨.hbm, 478, rfl⟩
abbrev main_v409 : Ref sig .tc := ⟨.hbm, 479, rfl⟩
abbrev main_v410 : Ref sig .tc := ⟨.hbm, 480, rfl⟩
abbrev main_v411 : Ref sig .tc := ⟨.hbm, 481, rfl⟩
abbrev main_v412 : Ref sig .tc := ⟨.hbm, 482, rfl⟩
abbrev main_v413 : Ref sig .tc := ⟨.hbm, 483, rfl⟩
abbrev main_v414 : Ref sig .tc := ⟨.hbm, 484, rfl⟩
abbrev main_v415 : Ref sig .tc := ⟨.hbm, 485, rfl⟩
abbrev main_v416 : Ref sig .tc := ⟨.hbm, 486, rfl⟩
abbrev main_v417 : Ref sig .tc := ⟨.hbm, 487, rfl⟩
abbrev main_v418 : Ref sig .tc := ⟨.hbm, 488, rfl⟩
abbrev main_v419 : Ref sig .tc := ⟨.hbm, 489, rfl⟩
abbrev main_v420 : Ref sig .tc := ⟨.hbm, 490, rfl⟩
abbrev main_v421 : Ref sig .tc := ⟨.hbm, 491, rfl⟩
abbrev main_v422 : Ref sig .tc := ⟨.hbm, 492, rfl⟩
abbrev main_v423 : Ref sig .tc := ⟨.hbm, 493, rfl⟩
abbrev main_v424 : Ref sig .tc := ⟨.hbm, 494, rfl⟩
abbrev main_v425 : Ref sig .tc := ⟨.hbm, 495, rfl⟩
abbrev main_v426 : Ref sig .tc := ⟨.hbm, 496, rfl⟩
abbrev main_v427 : Ref sig .tc := ⟨.hbm, 497, rfl⟩
abbrev main_v428 : Ref sig .tc := ⟨.hbm, 498, rfl⟩
abbrev main_v429 : Ref sig .tc := ⟨.hbm, 499, rfl⟩
abbrev main_v430 : Ref sig .tc := ⟨.hbm, 500, rfl⟩
abbrev main_v431 : Ref sig .tc := ⟨.hbm, 501, rfl⟩
abbrev main_v432 : Ref sig .tc := ⟨.hbm, 502, rfl⟩
abbrev main_cst_50 : Ref sig .tc := ⟨.hbm, 503, rfl⟩
abbrev main_v433 : Ref sig .tc := ⟨.hbm, 504, rfl⟩
abbrev main_v434 : Ref sig .tc := ⟨.hbm, 505, rfl⟩
abbrev main_cst_51 : Ref sig .tc := ⟨.hbm, 506, rfl⟩
abbrev main_v435 : Ref sig .tc := ⟨.hbm, 507, rfl⟩
abbrev main_v436 : Ref sig .tc := ⟨.hbm, 508, rfl⟩
abbrev main_v437 : Ref sig .tc := ⟨.hbm, 509, rfl⟩
abbrev main_v438 : Ref sig .tc := ⟨.hbm, 510, rfl⟩
abbrev main_v439 : Ref sig .tc := ⟨.hbm, 511, rfl⟩
abbrev main_cst_52 : Ref sig .tc := ⟨.hbm, 512, rfl⟩
abbrev main_v440 : Ref sig .tc := ⟨.hbm, 513, rfl⟩
abbrev main_v441 : Ref sig .tc := ⟨.hbm, 514, rfl⟩
abbrev main_cst_53 : Ref sig .tc := ⟨.hbm, 515, rfl⟩
abbrev main_v442 : Ref sig .tc := ⟨.hbm, 516, rfl⟩
abbrev main_v443 : Ref sig .tc := ⟨.hbm, 517, rfl⟩
abbrev main_v444 : Ref sig .tc := ⟨.hbm, 518, rfl⟩
abbrev main_v445 : Ref sig .tc := ⟨.hbm, 519, rfl⟩
abbrev main_v446 : Ref sig .tc := ⟨.hbm, 520, rfl⟩
abbrev main_cst_54 : Ref sig .tc := ⟨.hbm, 521, rfl⟩
abbrev main_v447 : Ref sig .tc := ⟨.hbm, 522, rfl⟩
abbrev main_v448 : Ref sig .tc := ⟨.hbm, 523, rfl⟩
abbrev main_v449 : Ref sig .tc := ⟨.hbm, 524, rfl⟩
abbrev main_v450 : Ref sig .tc := ⟨.hbm, 525, rfl⟩
abbrev main_v451 : Ref sig .tc := ⟨.hbm, 526, rfl⟩
abbrev main_v452 : Ref sig .tc := ⟨.hbm, 527, rfl⟩
abbrev main_v453 : Ref sig .tc := ⟨.hbm, 528, rfl⟩
abbrev main_v454 : Ref sig .tc := ⟨.hbm, 529, rfl⟩
abbrev main_v455 : Ref sig .tc := ⟨.hbm, 530, rfl⟩
abbrev main_v456 : Ref sig .tc := ⟨.hbm, 531, rfl⟩
abbrev main_v457 : Ref sig .tc := ⟨.hbm, 532, rfl⟩
abbrev main_v458 : Ref sig .tc := ⟨.hbm, 533, rfl⟩
abbrev main_v459 : Ref sig .tc := ⟨.hbm, 534, rfl⟩
abbrev main_v460 : Ref sig .tc := ⟨.hbm, 535, rfl⟩
abbrev main_v461 : Ref sig .tc := ⟨.hbm, 536, rfl⟩
abbrev main_v462 : Ref sig .tc := ⟨.hbm, 537, rfl⟩
abbrev main_v463 : Ref sig .tc := ⟨.hbm, 538, rfl⟩
abbrev main_v464 : Ref sig .tc := ⟨.hbm, 539, rfl⟩
abbrev main_v465 : Ref sig .tc := ⟨.hbm, 540, rfl⟩
abbrev main_v466 : Ref sig .tc := ⟨.hbm, 541, rfl⟩
abbrev main_v467 : Ref sig .tc := ⟨.hbm, 542, rfl⟩
abbrev main_v468 : Ref sig .tc := ⟨.hbm, 543, rfl⟩
abbrev main_v469 : Ref sig .tc := ⟨.hbm, 544, rfl⟩
abbrev main_v470 : Ref sig .tc := ⟨.hbm, 545, rfl⟩
abbrev main_v471 : Ref sig .tc := ⟨.hbm, 546, rfl⟩
abbrev main_v472 : Ref sig .tc := ⟨.hbm, 547, rfl⟩
abbrev main_v473 : Ref sig .tc := ⟨.hbm, 548, rfl⟩
abbrev main_cst_55 : Ref sig .tc := ⟨.hbm, 549, rfl⟩
abbrev main_v474 : Ref sig .tc := ⟨.hbm, 550, rfl⟩
abbrev main_v475 : Ref sig .tc := ⟨.hbm, 551, rfl⟩
abbrev main_cst_56 : Ref sig .tc := ⟨.hbm, 552, rfl⟩
abbrev main_v476 : Ref sig .tc := ⟨.hbm, 553, rfl⟩
abbrev main_v477 : Ref sig .tc := ⟨.hbm, 554, rfl⟩
abbrev main_v478 : Ref sig .tc := ⟨.hbm, 555, rfl⟩
abbrev main_v479 : Ref sig .tc := ⟨.hbm, 556, rfl⟩
abbrev main_v480 : Ref sig .tc := ⟨.hbm, 557, rfl⟩
abbrev main_cst_57 : Ref sig .tc := ⟨.hbm, 558, rfl⟩
abbrev main_v481 : Ref sig .tc := ⟨.hbm, 559, rfl⟩
abbrev main_v482 : Ref sig .tc := ⟨.hbm, 560, rfl⟩
abbrev main_cst_58 : Ref sig .tc := ⟨.hbm, 561, rfl⟩
abbrev main_v483 : Ref sig .tc := ⟨.hbm, 562, rfl⟩
abbrev main_v484 : Ref sig .tc := ⟨.hbm, 563, rfl⟩
abbrev main_v485 : Ref sig .tc := ⟨.hbm, 564, rfl⟩
abbrev main_v486 : Ref sig .tc := ⟨.hbm, 565, rfl⟩
abbrev main_v487 : Ref sig .tc := ⟨.hbm, 566, rfl⟩
abbrev main_cst_59 : Ref sig .tc := ⟨.hbm, 567, rfl⟩
abbrev main_v488 : Ref sig .tc := ⟨.hbm, 568, rfl⟩
abbrev main_v489 : Ref sig .tc := ⟨.hbm, 569, rfl⟩
abbrev main_v490 : Ref sig .tc := ⟨.hbm, 570, rfl⟩
abbrev main_v491 : Ref sig .tc := ⟨.hbm, 571, rfl⟩
abbrev main_v492 : Ref sig .tc := ⟨.hbm, 572, rfl⟩
abbrev main_v493 : Ref sig .tc := ⟨.hbm, 573, rfl⟩
abbrev main_v494 : Ref sig .tc := ⟨.hbm, 574, rfl⟩
abbrev main_v495 : Ref sig .tc := ⟨.hbm, 575, rfl⟩
abbrev main_v496 : Ref sig .tc := ⟨.hbm, 576, rfl⟩
abbrev main_v497 : Ref sig .tc := ⟨.hbm, 577, rfl⟩
abbrev main_v498 : Ref sig .tc := ⟨.hbm, 578, rfl⟩
abbrev main_v499 : Ref sig .tc := ⟨.hbm, 579, rfl⟩
abbrev main_v500 : Ref sig .tc := ⟨.hbm, 580, rfl⟩
abbrev main_v501 : Ref sig .tc := ⟨.hbm, 581, rfl⟩
abbrev main_v502 : Ref sig .tc := ⟨.hbm, 582, rfl⟩
abbrev main_v503 : Ref sig .tc := ⟨.hbm, 583, rfl⟩
abbrev main_v504 : Ref sig .tc := ⟨.hbm, 584, rfl⟩
abbrev main_cst_60 : Ref sig .tc := ⟨.hbm, 585, rfl⟩
abbrev main_v505 : Ref sig .tc := ⟨.hbm, 586, rfl⟩
abbrev main_v506 : Ref sig .tc := ⟨.hbm, 587, rfl⟩
abbrev main_v507 : Ref sig .tc := ⟨.hbm, 588, rfl⟩
abbrev main_cst_61 : Ref sig .tc := ⟨.hbm, 589, rfl⟩
abbrev main_v508 : Ref sig .tc := ⟨.hbm, 590, rfl⟩
abbrev main_cst_62 : Ref sig .tc := ⟨.hbm, 591, rfl⟩
abbrev main_v509 : Ref sig .tc := ⟨.hbm, 592, rfl⟩
abbrev main_v510 : Ref sig .tc := ⟨.hbm, 593, rfl⟩
abbrev main_v511 : Ref sig .tc := ⟨.hbm, 594, rfl⟩
abbrev main_v512 : Ref sig .tc := ⟨.hbm, 595, rfl⟩
abbrev main_v513 : Ref sig .tc := ⟨.hbm, 596, rfl⟩
abbrev main_v514 : Ref sig .tc := ⟨.hbm, 597, rfl⟩
abbrev main_cst_63 : Ref sig .tc := ⟨.hbm, 598, rfl⟩
abbrev main_v515 : Ref sig .tc := ⟨.hbm, 599, rfl⟩
abbrev main_v516 : Ref sig .tc := ⟨.hbm, 600, rfl⟩
abbrev main_v517 : Ref sig .tc := ⟨.hbm, 601, rfl⟩
abbrev main_v518 : Ref sig .tc := ⟨.hbm, 602, rfl⟩
abbrev main_cst_64 : Ref sig .tc := ⟨.hbm, 603, rfl⟩
abbrev main_v519 : Ref sig .tc := ⟨.hbm, 604, rfl⟩
abbrev main_cst_65 : Ref sig .tc := ⟨.hbm, 605, rfl⟩
abbrev main_v520 : Ref sig .tc := ⟨.hbm, 606, rfl⟩
abbrev main_v521 : Ref sig .tc := ⟨.hbm, 607, rfl⟩
abbrev main_cst_66 : Ref sig .tc := ⟨.hbm, 608, rfl⟩
abbrev main_call0_v0 : Ref sig .tc := ⟨.hbm, 609, rfl⟩
abbrev main_call0_v1 : Ref sig .tc := ⟨.hbm, 610, rfl⟩
abbrev main_v522 : Ref sig .tc := ⟨.hbm, 611, rfl⟩
abbrev main_cst_67 : Ref sig .tc := ⟨.hbm, 612, rfl⟩
abbrev main_v523 : Ref sig .tc := ⟨.hbm, 613, rfl⟩
abbrev main_v524 : Ref sig .tc := ⟨.hbm, 614, rfl⟩
abbrev main_v525 : Ref sig .tc := ⟨.hbm, 615, rfl⟩
abbrev main_cst_68 : Ref sig .tc := ⟨.hbm, 616, rfl⟩
abbrev main_v526 : Ref sig .tc := ⟨.hbm, 617, rfl⟩
abbrev main_v527 : Ref sig .tc := ⟨.hbm, 618, rfl⟩
abbrev main_cst_69 : Ref sig .tc := ⟨.hbm, 619, rfl⟩
abbrev main_call1_v0 : Ref sig .tc := ⟨.hbm, 620, rfl⟩
abbrev main_call1_v1 : Ref sig .tc := ⟨.hbm, 621, rfl⟩
abbrev main_v528 : Ref sig .tc := ⟨.hbm, 622, rfl⟩
abbrev main_v529 : Ref sig .tc := ⟨.hbm, 623, rfl⟩
abbrev main_v530 : Ref sig .tc := ⟨.hbm, 624, rfl⟩
abbrev main_v531 : Ref sig .tc := ⟨.hbm, 625, rfl⟩
abbrev main_v532 : Ref sig .tc := ⟨.hbm, 626, rfl⟩
abbrev main_v533 : Ref sig .tc := ⟨.hbm, 627, rfl⟩
abbrev main_v534 : Ref sig .tc := ⟨.hbm, 628, rfl⟩
abbrev main_v535 : Ref sig .tc := ⟨.hbm, 629, rfl⟩
abbrev main_v536 : Ref sig .tc := ⟨.hbm, 630, rfl⟩
abbrev main_v537 : Ref sig .tc := ⟨.hbm, 631, rfl⟩
abbrev main_v538 : Ref sig .tc := ⟨.hbm, 632, rfl⟩
abbrev main_v539 : Ref sig .tc := ⟨.hbm, 633, rfl⟩
abbrev main_v540 : Ref sig .tc := ⟨.hbm, 634, rfl⟩
abbrev main_v541 : Ref sig .tc := ⟨.hbm, 635, rfl⟩
abbrev main_v542 : Ref sig .tc := ⟨.hbm, 636, rfl⟩
abbrev main_v543 : Ref sig .tc := ⟨.hbm, 637, rfl⟩
abbrev main_v544 : Ref sig .tc := ⟨.hbm, 638, rfl⟩
abbrev main_v545 : Ref sig .tc := ⟨.hbm, 639, rfl⟩
abbrev main_v546 : Ref sig .tc := ⟨.hbm, 640, rfl⟩
abbrev main_v547 : Ref sig .tc := ⟨.hbm, 641, rfl⟩
abbrev main_v548 : Ref sig .tc := ⟨.hbm, 642, rfl⟩
abbrev main_v549 : Ref sig .tc := ⟨.hbm, 643, rfl⟩
abbrev main_v550 : Ref sig .tc := ⟨.hbm, 644, rfl⟩
abbrev main_v551 : Ref sig .tc := ⟨.hbm, 645, rfl⟩
abbrev main_v552 : Ref sig .tc := ⟨.hbm, 646, rfl⟩
abbrev main_v553 : Ref sig .tc := ⟨.hbm, 647, rfl⟩
abbrev main_v554 : Ref sig .tc := ⟨.hbm, 648, rfl⟩
abbrev main_c : Ref sig .tc := ⟨.hbm, 649, rfl⟩
abbrev main_call2_v0 : Ref sig .tc := ⟨.hbm, 650, rfl⟩
abbrev main_v555 : Ref sig .tc := ⟨.hbm, 651, rfl⟩
abbrev main_v556 : Ref sig .tc := ⟨.hbm, 652, rfl⟩
abbrev main_v557 : Ref sig .tc := ⟨.hbm, 653, rfl⟩
abbrev main_v558 : Ref sig .tc := ⟨.hbm, 654, rfl⟩
abbrev main_v559 : Ref sig .tc := ⟨.hbm, 655, rfl⟩
abbrev main_v560 : Ref sig .tc := ⟨.hbm, 656, rfl⟩
abbrev main_v561 : Ref sig .tc := ⟨.hbm, 657, rfl⟩
abbrev main_v562 : Ref sig .tc := ⟨.hbm, 658, rfl⟩
abbrev main_v563 : Ref sig .tc := ⟨.hbm, 659, rfl⟩
abbrev main_v564 : Ref sig .tc := ⟨.hbm, 660, rfl⟩
abbrev main_v565 : Ref sig .tc := ⟨.hbm, 661, rfl⟩
abbrev main_v566 : Ref sig .tc := ⟨.hbm, 662, rfl⟩
abbrev main_v567 : Ref sig .tc := ⟨.hbm, 663, rfl⟩
abbrev main_v568 : Ref sig .tc := ⟨.hbm, 664, rfl⟩
abbrev main_v569 : Ref sig .tc := ⟨.hbm, 665, rfl⟩
abbrev main_v570 : Ref sig .tc := ⟨.hbm, 666, rfl⟩
abbrev main_v571 : Ref sig .tc := ⟨.hbm, 667, rfl⟩
abbrev main_v572 : Ref sig .tc := ⟨.hbm, 668, rfl⟩
abbrev main_v573 : Ref sig .tc := ⟨.hbm, 669, rfl⟩
abbrev main_v574 : Ref sig .tc := ⟨.hbm, 670, rfl⟩
abbrev main_v575 : Ref sig .tc := ⟨.hbm, 671, rfl⟩
abbrev main_cst_70 : Ref sig .tc := ⟨.hbm, 672, rfl⟩
abbrev main_v576 : Ref sig .tc := ⟨.hbm, 673, rfl⟩
abbrev main_v577 : Ref sig .tc := ⟨.hbm, 674, rfl⟩
abbrev main_cst_71 : Ref sig .tc := ⟨.hbm, 675, rfl⟩
abbrev main_v578 : Ref sig .tc := ⟨.hbm, 676, rfl⟩
abbrev main_v579 : Ref sig .tc := ⟨.hbm, 677, rfl⟩
abbrev main_v580 : Ref sig .tc := ⟨.hbm, 678, rfl⟩
abbrev main_v581 : Ref sig .tc := ⟨.hbm, 679, rfl⟩
abbrev main_v582 : Ref sig .tc := ⟨.hbm, 680, rfl⟩
abbrev main_v583 : Ref sig .tc := ⟨.hbm, 681, rfl⟩
abbrev main_v584 : Ref sig .tc := ⟨.hbm, 682, rfl⟩
abbrev main_v585 : Ref sig .tc := ⟨.hbm, 683, rfl⟩
abbrev main_v586 : Ref sig .tc := ⟨.hbm, 684, rfl⟩
abbrev main_v587 : Ref sig .tc := ⟨.hbm, 685, rfl⟩
abbrev main_v588 : Ref sig .tc := ⟨.hbm, 686, rfl⟩
abbrev main_v589 : Ref sig .tc := ⟨.hbm, 687, rfl⟩
abbrev main_v590 : Ref sig .tc := ⟨.hbm, 688, rfl⟩
abbrev main_v591 : Ref sig .tc := ⟨.hbm, 689, rfl⟩
abbrev main_v592 : Ref sig .tc := ⟨.hbm, 690, rfl⟩
abbrev main_c_72 : Ref sig .tc := ⟨.hbm, 691, rfl⟩
abbrev main_call4_v0 : Ref sig .tc := ⟨.hbm, 692, rfl⟩
abbrev main_v593 : Ref sig .tc := ⟨.hbm, 693, rfl⟩
abbrev main_v594 : Ref sig .tc := ⟨.hbm, 694, rfl⟩
abbrev main_v595 : Ref sig .tc := ⟨.hbm, 695, rfl⟩
abbrev main_v596 : Ref sig .tc := ⟨.hbm, 696, rfl⟩
abbrev main_v597 : Ref sig .tc := ⟨.hbm, 697, rfl⟩
abbrev main_v598 : Ref sig .tc := ⟨.hbm, 698, rfl⟩
abbrev main_v599 : Ref sig .tc := ⟨.hbm, 699, rfl⟩
abbrev main_v600 : Ref sig .tc := ⟨.hbm, 700, rfl⟩
abbrev main_v601 : Ref sig .tc := ⟨.hbm, 701, rfl⟩
abbrev main_v602 : Ref sig .tc := ⟨.hbm, 702, rfl⟩
abbrev main_v603 : Ref sig .tc := ⟨.hbm, 703, rfl⟩
abbrev main_v604 : Ref sig .tc := ⟨.hbm, 704, rfl⟩
abbrev main_v605 : Ref sig .tc := ⟨.hbm, 705, rfl⟩
abbrev main_v606 : Ref sig .tc := ⟨.hbm, 706, rfl⟩
abbrev main_v607 : Ref sig .tc := ⟨.hbm, 707, rfl⟩
abbrev main_v608 : Ref sig .tc := ⟨.hbm, 708, rfl⟩
abbrev main_v609 : Ref sig .tc := ⟨.hbm, 709, rfl⟩
abbrev main_v610 : Ref sig .tc := ⟨.hbm, 710, rfl⟩
abbrev main_v611 : Ref sig .tc := ⟨.hbm, 711, rfl⟩
abbrev main_v612 : Ref sig .tc := ⟨.hbm, 712, rfl⟩
abbrev main_v613 : Ref sig .tc := ⟨.hbm, 713, rfl⟩
abbrev main_v614 : Ref sig .tc := ⟨.hbm, 714, rfl⟩
abbrev main_v615 : Ref sig .tc := ⟨.hbm, 715, rfl⟩
abbrev main_v616 : Ref sig .tc := ⟨.hbm, 716, rfl⟩
abbrev main_v617 : Ref sig .tc := ⟨.hbm, 717, rfl⟩
abbrev main_v618 : Ref sig .tc := ⟨.hbm, 718, rfl⟩
abbrev main_v619 : Ref sig .tc := ⟨.hbm, 719, rfl⟩
abbrev main_v620 : Ref sig .tc := ⟨.hbm, 720, rfl⟩
abbrev main_v621 : Ref sig .tc := ⟨.hbm, 721, rfl⟩
abbrev main_v622 : Ref sig .tc := ⟨.hbm, 722, rfl⟩
abbrev main_v623 : Ref sig .tc := ⟨.hbm, 723, rfl⟩
abbrev main_v624 : Ref sig .tc := ⟨.hbm, 724, rfl⟩
abbrev main_v625 : Ref sig .tc := ⟨.hbm, 725, rfl⟩
abbrev main_cst_73 : Ref sig .tc := ⟨.hbm, 726, rfl⟩
abbrev main_v626 : Ref sig .tc := ⟨.hbm, 727, rfl⟩
abbrev main_v627 : Ref sig .tc := ⟨.hbm, 728, rfl⟩
abbrev main_cst_74 : Ref sig .tc := ⟨.hbm, 729, rfl⟩
abbrev main_v628 : Ref sig .tc := ⟨.hbm, 730, rfl⟩
abbrev main_v629 : Ref sig .tc := ⟨.hbm, 731, rfl⟩
abbrev main_v630 : Ref sig .tc := ⟨.hbm, 732, rfl⟩
abbrev main_v631 : Ref sig .tc := ⟨.hbm, 733, rfl⟩
abbrev main_v632 : Ref sig .tc := ⟨.hbm, 734, rfl⟩
abbrev main_v633 : Ref sig .tc := ⟨.hbm, 735, rfl⟩
abbrev main_v634 : Ref sig .tc := ⟨.hbm, 736, rfl⟩
abbrev main_v635 : Ref sig .tc := ⟨.hbm, 737, rfl⟩
abbrev main_v636 : Ref sig .tc := ⟨.hbm, 738, rfl⟩
abbrev main_v637 : Ref sig .tc := ⟨.hbm, 739, rfl⟩
abbrev main_v638 : Ref sig .tc := ⟨.hbm, 740, rfl⟩
abbrev main_v639 : Ref sig .tc := ⟨.hbm, 741, rfl⟩
abbrev main_v640 : Ref sig .tc := ⟨.hbm, 742, rfl⟩
abbrev main_v641 : Ref sig .tc := ⟨.hbm, 743, rfl⟩
abbrev main_v642 : Ref sig .tc := ⟨.hbm, 744, rfl⟩
abbrev main_c_75 : Ref sig .tc := ⟨.hbm, 745, rfl⟩
abbrev main_call6_v0 : Ref sig .tc := ⟨.hbm, 746, rfl⟩
abbrev main_v643 : Ref sig .tc := ⟨.hbm, 747, rfl⟩
abbrev main_v644 : Ref sig .tc := ⟨.hbm, 748, rfl⟩
abbrev main_v645 : Ref sig .tc := ⟨.hbm, 749, rfl⟩
abbrev main_v646 : Ref sig .tc := ⟨.hbm, 750, rfl⟩
abbrev main_v647 : Ref sig .tc := ⟨.hbm, 751, rfl⟩
abbrev main_v648 : Ref sig .tc := ⟨.hbm, 752, rfl⟩
abbrev main_v649 : Ref sig .tc := ⟨.hbm, 753, rfl⟩
abbrev main_v650 : Ref sig .tc := ⟨.hbm, 754, rfl⟩
abbrev main_v651 : Ref sig .tc := ⟨.hbm, 755, rfl⟩
abbrev main_v652 : Ref sig .tc := ⟨.hbm, 756, rfl⟩
abbrev main_v653 : Ref sig .tc := ⟨.hbm, 757, rfl⟩
abbrev main_v654 : Ref sig .tc := ⟨.hbm, 758, rfl⟩
abbrev main_v655 : Ref sig .tc := ⟨.hbm, 759, rfl⟩
abbrev main_v656 : Ref sig .tc := ⟨.hbm, 760, rfl⟩
abbrev main_v657 : Ref sig .tc := ⟨.hbm, 761, rfl⟩
abbrev main_v658 : Ref sig .tc := ⟨.hbm, 762, rfl⟩
abbrev main_v659 : Ref sig .tc := ⟨.hbm, 763, rfl⟩
abbrev main_v660 : Ref sig .tc := ⟨.hbm, 764, rfl⟩
abbrev main_v661 : Ref sig .tc := ⟨.hbm, 765, rfl⟩
abbrev main_v662 : Ref sig .tc := ⟨.hbm, 766, rfl⟩
abbrev main_v663 : Ref sig .tc := ⟨.hbm, 767, rfl⟩
abbrev main_v664 : Ref sig .tc := ⟨.hbm, 768, rfl⟩
abbrev main_v665 : Ref sig .tc := ⟨.hbm, 769, rfl⟩
abbrev main_v666 : Ref sig .tc := ⟨.hbm, 770, rfl⟩
abbrev main_v667 : Ref sig .tc := ⟨.hbm, 771, rfl⟩
abbrev main_v668 : Ref sig .tc := ⟨.hbm, 772, rfl⟩
abbrev main_v669 : Ref sig .tc := ⟨.hbm, 773, rfl⟩
abbrev main_v670 : Ref sig .tc := ⟨.hbm, 774, rfl⟩
abbrev main_v671 : Ref sig .tc := ⟨.hbm, 775, rfl⟩
abbrev main_v672 : Ref sig .tc := ⟨.hbm, 776, rfl⟩
abbrev main_v673 : Ref sig .tc := ⟨.hbm, 777, rfl⟩
abbrev main_v674 : Ref sig .tc := ⟨.hbm, 778, rfl⟩
abbrev main_v675 : Ref sig .tc := ⟨.hbm, 779, rfl⟩
abbrev main_v676 : Ref sig .tc := ⟨.hbm, 780, rfl⟩
abbrev main_v677 : Ref sig .tc := ⟨.hbm, 781, rfl⟩
abbrev main_v678 : Ref sig .tc := ⟨.hbm, 782, rfl⟩
abbrev main_v679 : Ref sig .tc := ⟨.hbm, 783, rfl⟩
abbrev main_v680 : Ref sig .tc := ⟨.hbm, 784, rfl⟩
abbrev main_v681 : Ref sig .tc := ⟨.hbm, 785, rfl⟩
abbrev main_v682 : Ref sig .tc := ⟨.hbm, 786, rfl⟩
abbrev main_v683 : Ref sig .tc := ⟨.hbm, 787, rfl⟩
abbrev main_v684 : Ref sig .tc := ⟨.hbm, 788, rfl⟩
abbrev main_v685 : Ref sig .tc := ⟨.hbm, 789, rfl⟩
abbrev main_v686 : Ref sig .tc := ⟨.hbm, 790, rfl⟩
abbrev main_v687 : Ref sig .tc := ⟨.hbm, 791, rfl⟩
abbrev main_cst_76 : Ref sig .tc := ⟨.hbm, 792, rfl⟩
abbrev main_v688 : Ref sig .tc := ⟨.hbm, 793, rfl⟩
abbrev main_v689 : Ref sig .tc := ⟨.hbm, 794, rfl⟩
abbrev main_cst_77 : Ref sig .tc := ⟨.hbm, 795, rfl⟩
abbrev main_v690 : Ref sig .tc := ⟨.hbm, 796, rfl⟩
abbrev main_v691 : Ref sig .tc := ⟨.hbm, 797, rfl⟩
abbrev main_v692 : Ref sig .tc := ⟨.hbm, 798, rfl⟩
abbrev main_v693 : Ref sig .tc := ⟨.hbm, 799, rfl⟩
abbrev main_v694 : Ref sig .tc := ⟨.hbm, 800, rfl⟩

abbrev nD : Nat := 1
abbrev τ : Topo := Topo.v7x

variable {F : FTy → Type} [FloatOps F]
-- ==== Lin.lean ====
abbrev S32x100x768 : Shape := ⟨3, ![32, 100, 768]⟩
abbrev S300x76800 : Shape := ⟨2, ![300, 76800]⟩
abbrev S300 : Shape := ⟨1, ![300]⟩
abbrev S32x76800 : Shape := ⟨2, ![32, 76800]⟩
abbrev S1x300 : Shape := ⟨2, ![1, 300]⟩
abbrev S32x300 : Shape := ⟨2, ![32, 300]⟩
abbrev S32x6400 : Shape := ⟨2, ![32, 6400]⟩
abbrev S300x6400 : Shape := ⟨2, ![300, 6400]⟩

abbrev nBuf : Space → Nat
  | .hbm => 6
  | .vmem => 6
  | .smem => 0
  | _ => 0

abbrev bufTy : (tb : Table) → Fin (tcTables nBuf tb) → BufTy
  | .hbm, ⟨0, _⟩ => ⟨S32x100x768, .f32⟩
  | .hbm, ⟨1, _⟩ => ⟨S300x76800, .f32⟩
  | .hbm, ⟨2, _⟩ => ⟨S300, .f32⟩
  | .hbm, ⟨3, _⟩ => ⟨S32x76800, .f32⟩
  | .hbm, ⟨4, _⟩ => ⟨S1x300, .f32⟩
  | .hbm, ⟨5, _⟩ => ⟨S32x300, .f32⟩
  | .local _ .vmem, ⟨0, _⟩ => ⟨S32x6400, .f32⟩
  | .local _ .vmem, ⟨1, _⟩ => ⟨S32x6400, .f32⟩
  | .local _ .vmem, ⟨2, _⟩ => ⟨S300x6400, .f32⟩
  | .local _ .vmem, ⟨3, _⟩ => ⟨S300x6400, .f32⟩
  | .local _ .vmem, ⟨4, _⟩ => ⟨S1x300, .f32⟩
  | .local _ .vmem, ⟨5, _⟩ => ⟨S32x300, .f32⟩
  | _, _ => ⟨S32x100x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![12], ![false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_3 : BitVec 32 := 0#32
  let v6 : BitVec 1 := Scalar.cmpi .ne v5 c0_i32_3
  v6

def k0_cond2 (i : grid0.Coords) : BitVec 1 :=
  let arg0 : BitVec 32 := BitVec.ofNat 32 (i 0).val
  let c0_i32_4 : BitVec 32 := 0#32
  let v7 : BitVec 1 := Scalar.cmpi .sgt arg0 c0_i32_4
  let v8 : BitVec 32 := Scalar.extui v7
  let c0_i32_5 : BitVec 32 := 0#32
  let v9 : BitVec 1 := Scalar.cmpi .ne v8 c0_i32_5
  v9

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S32x6400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S300x6400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x300 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LinReferenceIdeal.lean ====
abbrev S32x100x768 : Shape := ⟨3, ![32, 100, 768]⟩
abbrev S300x76800 : Shape := ⟨2, ![300, 76800]⟩
abbrev S300 : Shape := ⟨1, ![300]⟩
abbrev S32x76800 : Shape := ⟨2, ![32, 76800]⟩
abbrev S76800x300 : Shape := ⟨2, ![76800, 300]⟩
abbrev S32x300 : Shape := ⟨2, ![32, 300]⟩
abbrev S1x300 : Shape := ⟨2, ![1, 300]⟩

abbrev nBuf : Space → Nat
  | .hbm => 9
  | .vmem => 0
  | .smem => 0
  | _ => 0

abbrev bufTy : (tb : Table) → Fin (tcTables nBuf tb) → BufTy
  | .hbm, ⟨0, _⟩ => ⟨S32x100x768, .f32⟩
  | .hbm, ⟨1, _⟩ => ⟨S300x76800, .f32⟩
  | .hbm, ⟨2, _⟩ => ⟨S300, .f32⟩
  | .hbm, ⟨3, _⟩ => ⟨S32x76800, .f32⟩
  | .hbm, ⟨4, _⟩ => ⟨S76800x300, .f32⟩
  | .hbm, ⟨5, _⟩ => ⟨S32x300, .f32⟩
  | .hbm, ⟨6, _⟩ => ⟨S1x300, .f32⟩
  | .hbm, ⟨7, _⟩ => ⟨S32x300, .f32⟩
  | .hbm, ⟨8, _⟩ => ⟨S32x300, .f32⟩
  | _, _ => ⟨S32x100x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.FusedSpec.lean ====
module

public import Idealize.ShloMosaic.Lib.Pipeline.ValueKit
public import Idealize.ShloMosaic.Lib.Pointwise

@[expose] public section

noncomputable section

namespace Cert.Fused

open Idealize.ShloMosaic

/-- One step of the recurrent cell: gates from the input `x` and the state `h`, then the new state. -/
def cell (wih : Fin 192 → EReal) (whh : Fin 192 → Fin 64 → EReal) (bih bhh : Fin 192 → EReal) (x : EReal)
    (h : Fin 64 → EReal) (j : Fin 64) : EReal :=
  (1 - Ideal.logistic (x * wih ⟨64 + j.val, by omega⟩ + bih ⟨64 + j.val, by omega⟩
        + (∑ d, h d * whh ⟨64 + j.val, by omega⟩ d + bhh ⟨64 + j.val, by omega⟩)))
      * Ideal.tanh (x * wih ⟨128 + j.val, by omega⟩ + bih ⟨128 + j.val, by omega⟩
        + Ideal.logistic (x * wih ⟨j.val, by omega⟩ + bih ⟨j.val, by omega⟩
          + (∑ d, h d * whh ⟨j.val, by omega⟩ d + bhh ⟨j.val, by omega⟩))
          * (∑ d, h d * whh ⟨128 + j.val, by omega⟩ d + bhh ⟨128 + j.val, by omega⟩))
    + Ideal.logistic (x * wih ⟨64 + j.val, by omega⟩ + bih ⟨64 + j.val, by omega⟩
        + (∑ d, h d * whh ⟨64 + j.val, by omega⟩ d + bhh ⟨64 + j.val, by omega⟩)) * h j

/-- The state after the twelve steps, from zero. -/
def last (wih : Fin 192 → EReal) (whh : Fin 192 → Fin 64 → EReal) (bih bhh : Fin 192 → EReal) (x : Fin 12 → EReal) :
    Fin 64 → EReal :=
  List.foldl (fun h a => cell wih whh bih bhh a h) (fun _ => 0)
    [x 0, x 1, x 2, x 3, x 4, x 5, x 6, x 7, x 8, x 9, x 10, x 11]

end Cert.Fused

end
-- ==== Proof.FusedGru.lean ====
module

public import proofs.«01_k».proof.Proof.FusedSpec
public import proofs.«01_k».proof.Proof.Gen.KernelIdeal.Frame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KernelIdeal.Body

open Idealize.ShloMosaic Idealize.SL.Sem Cert.KernelIdeal Cert.KernelIdeal.Gen

/-- One step of the recurrent cell on the column `xc` of the samples' rows, from the state `h`. -/
def gstep (wih bih bhh : Vec Ideal S1x192 .f32) (whh : Vec Ideal S192x64 .f32) (xc : Vec Ideal S3328x1 .f32)
    (h : FVec Ideal S3328x64 .f32) : FVec Ideal S3328x64 .f32 :=
  have gi : FVec Ideal S3328x192 .f32 :=
    addf (mulf (broadcastTo S3328x192 (shapeCast S3328x1 xc shapeCasts_S3328x1_S3328x1) broadcasts_S3328x1_S3328x192)
      (broadcastTo S3328x192 (shapeCast S1x192 wih shapeCasts_S1x192_S1x192) broadcasts_S1x192_S3328x192))
      (broadcastTo S3328x192 (shapeCast S1x192 bih shapeCasts_S1x192_S1x192) broadcasts_S1x192_S3328x192)
  have gh : FVec Ideal S3328x192 .f32 :=
    addf (matmul (F := Ideal) (φ₁ := .f32) (φ₂ := .f32) dot_S3328x64_S192x64_S3328x192_1_1_0_0_n_n none h whh (constant S3328x192 .f32 0x00000000#32))
      (broadcastTo S3328x192 (shapeCast S1x192 bhh shapeCasts_S1x192_S1x192) broadcasts_S1x192_S3328x192)
  have r : FVec Ideal S3328x64 .f32 := logistic (addf (extractStridedSlice S3328x64 ![0, 0] gi slices_S3328x192_o0_0_S3328x64)
    (extractStridedSlice S3328x64 ![0, 0] gh slices_S3328x192_o0_0_S3328x64))
  have z : FVec Ideal S3328x64 .f32 := logistic (addf (extractStridedSlice S3328x64 ![0, 64] gi slices_S3328x192_o0_64_S3328x64)
    (extractStridedSlice S3328x64 ![0, 64] gh slices_S3328x192_o0_64_S3328x64))
  have n : FVec Ideal S3328x64 .f32 := tanh (addf (extractStridedSlice S3328x64 ![0, 128] gi slices_S3328x192_o0_128_S3328x64)
    (mulf r (extractStridedSlice S3328x64 ![0, 128] gh slices_S3328x192_o0_128_S3328x64)))
  addf (mulf (subf (broadcast S3328x64 (Scalar.ofBits .f32 0x3F800000#32)) z) n) (mulf z h)

/-- A step, read at a row and a lane, is the cell of that row. -/
theorem gstep_apply (wih bih bhh : Vec Ideal S1x192 .f32) (whh : Vec Ideal S192x64 .f32) (xc : Vec Ideal S3328x1 .f32)
    (h : FVec Ideal S3328x64 .f32) (r : Fin 3328) (j : Fin 64) :
    gstep wih bih bhh whh xc h (ix2 r j)
      = Fused.cell (fun k => wih (ix2 0 k)) (fun k d => whh (ix2 k d)) (fun k => bih (ix2 0 k)) (fun k => bhh (ix2 0 k))
          (xc (ix2 r 0)) (fun d => h (ix2 r d)) j := by
  pointwise [gstep]
  rfl

/-- A load of an input through its whole memref reads the input. -/
theorem load_eq {κ : Kind} {sp : Space} {s : Shape} {e : EltTy} {arg : Memref sig κ sp s e} (h : arg.IsWhole)
    (x : Vec Ideal s e) (r : Rect s) : arg.view.readAt (Elt Ideal) r.toLoadRect (h.unread x) = View.ld x r := by
  rw [View.readAt_eq_ld, h.read_unread]

/-- A load of a whole input reads it. -/
theorem load_whole {κ : Kind} {sp : Space} {s : Shape} {e : EltTy} {arg : Memref sig κ sp s e} (h : arg.IsWhole)
    (x : Vec Ideal s e) {off : Fin s.rank → ℕ} (h0 : ∀ a, off a = 0) (inb : ∀ a, off a + s.size a ≤ s.size a) :
    arg.view.readAt (Elt Ideal) (Rect.unit off s.size inb).toLoadRect (h.unread x) = x := by
  rw [load_eq, View.ld_unit_zero (funext h0)]

/-- Column `t` of the samples' rows, as loaded. -/
def col {arg0 : Memref sig .tc .vmem S3328x12 .f32} (h : arg0.IsWhole) (x : Vec Ideal S3328x12 .f32) (t : ℕ)
    (inb : ∀ a : Fin S3328x12.rank, (![0, t] : Fin S3328x12.rank → ℕ) a + S3328x1.size a ≤ S3328x12.size a) : Vec Ideal S3328x1 .f32 :=
  arg0.view.readAt (Elt Ideal) (Rect.unit (s := S3328x12) ![0, t] S3328x1.size inb).toLoadRect (h.unread x)

/-- Its rows. -/
theorem col_apply {arg0 : Memref sig .tc .vmem S3328x12 .f32} (h : arg0.IsWhole) (x : Vec Ideal S3328x12 .f32) (t : ℕ)
    (inb) (r : Fin 3328) (ht : t < 12) : col h x t inb (ix2 r 0) = x (ix2 r ⟨t, ht⟩) := by
  unfold col
  rw [load_eq]
  pointwise []

variable (c : Dev nD) (arg0 : Memref sig .tc .vmem S3328x12 .f32) (harg0 : arg0.IsWhole) (arg1 : Memref sig .tc .vmem S1x192 .f32) (harg1 : arg1.IsWhole) (arg2 : Memref sig .tc .vmem S192x64 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S3x12x64x64 .f32) (harg11 : arg11.IsWhole) (arg12 : Memref sig .tc .vmem S64x192 .f32) (harg12 : arg12.IsWhole) (arg13 : Memref sig .tc .vmem S64x320 .f32) (harg13 : arg13.IsWhole) (arg14 : Memref sig .tc .vmem S64x448 .f32) (harg14 : arg14.IsWhole) (arg15 : Memref sig .tc .vmem S3x1x768 .f32) (harg15 : arg15.IsWhole) (arg16 : Memref sig .tc .vmem S104x1 .f32) (harg16 : arg16.IsWhole) (arg17 : Memref sig .tc .vmem S32x100x768 .f32) (harg17 : arg17.IsWhole) (arg18 : Memref sig .tc .vmem S3328x768 .f32) (harg18 : arg18.IsWhole) (arg19 : Memref sig .tc .vmem S3328x768 .f32) (harg19 : arg19.IsWhole) (arg20 : Memref sig .tc .vmem S3328x104 .f32) (harg20 : arg20.IsWhole) (arg21 : Memref sig .tc .vmem S768x768 .f32) (harg21 : arg21.IsWhole) (x0 : Vec Ideal S3328x12 .f32) (x1 : Vec Ideal S1x192 .f32) (x2 : Vec Ideal S192x64 .f32) (x3 : Vec Ideal S1x192 .f32) (x4 : Vec Ideal S1x192 .f32) (x5 : Vec Ideal S64x32 .f32) (x6 : Vec Ideal S1x32 .f32) (x7 : Vec Ideal S64x32 .f32) (x8 : Vec Ideal S1x32 .f32) (x9 : Vec Ideal S1x64 .f32) (x10 : Vec Ideal S1x64 .f32) (x11 : Vec Ideal S3x12x64x64 .f32) (x12 : Vec Ideal S64x192 .f32) (x13 : Vec Ideal S64x320 .f32) (x14 : Vec Ideal S64x448 .f32) (x15 : Vec Ideal S3x1x768 .f32) (x16 : Vec Ideal S104x1 .f32)

/-- The state after the last step, as the steps one after another. -/
theorem state_steps : (kernelRun0_A.sl.v343 (F := Ideal) c arg0 harg0 arg1 harg1 arg2 harg2 arg3 harg3 arg4 harg4 x0 x1 x2 x3 x4)
    = List.foldl (fun h xc => gstep (arg1.view.readAt (Elt Ideal) (Rect.unit ![0, 0] S1x192.size (by decide)).toLoadRect (harg1.unread x1))
          (arg3.view.readAt (Elt Ideal) (Rect.unit ![0, 0] S1x192.size (by decide)).toLoadRect (harg3.unread x3))
          (arg4.view.readAt (Elt Ideal) (Rect.unit ![0, 0] S1x192.size (by decide)).toLoadRect (harg4.unread x4))
          (arg2.view.readAt (Elt Ideal) (Rect.unit ![0, 0] S192x64.size (by decide)).toLoadRect (harg2.unread x2)) xc h)
        (broadcast S3328x64 (Scalar.ofBits .f32 0x00000000#32))
        [col harg0 x0 0 (by decide), col harg0 x0 1 (by decide), col harg0 x0 2 (by decide), col harg0 x0 3 (by decide),
         col harg0 x0 4 (by decide), col harg0 x0 5 (by decide), col harg0 x0 6 (by decide), col harg0 x0 7 (by decide),
         col harg0 x0 8 (by decide), col harg0 x0 9 (by decide), col harg0 x0 10 (by decide), col harg0 x0 11 (by decide)] := by
  sl_kernel_rfl

/-- The last state of a row is the cell's last state on that row's inputs. -/
theorem state_apply (r : Fin 3328) (j : Fin 64) : (kernelRun0_A.sl.v343 (F := Ideal) c arg0 harg0 arg1 harg1 arg2 harg2 arg3 harg3 arg4 harg4 x0 x1 x2 x3 x4) (ix2 r j)
    = Fused.last (fun k => x1 (ix2 0 k)) (fun k d => x2 (ix2 k d)) (fun k => x3 (ix2 0 k)) (fun k => x4 (ix2 0 k))
        (fun t => x0 (ix2 r t)) j := by
  have z : ∀ d, (broadcast S3328x64 (Scalar.ofBits .f32 0x00000000#32) : FVec Ideal S3328x64 .f32) (ix2 r d) = 0 := by
    intro d; pointwise []
  rw [state_steps, load_whole harg1 x1 (by decide), load_whole harg2 x2 (by decide), load_whole harg3 x3 (by decide),
    load_whole harg4 x4 (by decide)]
  simp only [List.foldl_cons, List.foldl_nil, gstep_apply, Fused.last, z]
  simp (disch := decide) only [col_apply harg0 x0 _ _ r]
  rfl

end Cert.KernelIdeal.Body

end
-- ==== Proof.FusedScore.lean ====
module

public import proofs.«01_k».proof.Proof.FusedGru

@[expose] public section

set_option maxRecDepth 16384

noncomputable section

namespace Cert.KernelIdeal.Body

open Idealize.ShloMosaic Idealize.SL.Sem Cert.KernelIdeal Cert.KernelIdeal.Gen

/-- A linear map of the states. -/
def proj (st : FVec Ideal S3328x64 .f32) (w : Vec Ideal S64x32 .f32) (b : Vec Ideal S1x32 .f32) : FVec Ideal S3328x32 .f32 :=
  addf (matmul (F := Ideal) (φ₁ := .f32) (φ₂ := .f32) dot_S3328x64_S64x32_S3328x32_1_0_0_1_n_n none st
      (shapeCast S64x32 w shapeCasts_S64x32_S64x32) (constant S3328x32 .f32 0x00000000#32))
    (broadcastTo S3328x32 (shapeCast S1x32 b shapeCasts_S1x32_S1x32) broadcasts_S1x32_S3328x32)

/-- Its entries. -/
theorem proj_apply (st : FVec Ideal S3328x64 .f32) (w : Vec Ideal S64x32 .f32) (b : Vec Ideal S1x32 .f32) (r : Fin 3328) (d : Fin 32) :
    proj st w b (ix2 r d) = ∑ j, st (ix2 r j) * w (ix2 j d) + b (ix2 0 d) := by
  pointwise [proj]

/-- The lane mask: nothing on the first hundred lanes, minus infinity on the four others. -/
theorem mask_apply (l : Fin 104) : k0_pay33 (F := Ideal) (ix2 0 l) = if l.val < 100 then 0 else ⊥ := by
  have hc : ∀ l : Fin 104, IntOp.cmpi .slt (BitVec.ofNat 32 l.val) 100#32 = if l.val < 100 then 1#1 else 0#1 := by decide
  pointwise [k0_pay33]
  rw [hc, show (Named.named κ "mask" (φ := .f32) 0xF149F2CA#32 : Ideal .f32) = (⊥ : EReal) from IdealRules.named_const.ideal_named_scalar _ _ _ _ rfl]
  by_cases h : l.val < 100
  · simp only [h, if_true]; rfl
  · simp only [h, if_false]; rfl

/-- The scores of the block of rows at `o`. -/
def scoreV (q k : FVec Ideal S3328x32 .f32) (o : ℕ) (h : S3328x32.Slices ![o, 0] S104x32) : FVec Ideal S104x104 .f32 :=
  shapeCast S104x104 (addf (mulf (matmul (F := Ideal) (φ₁ := .f32) (φ₂ := .f32) dot_S104x32_S104x32_S104x104_1_1_0_0_n_n none
      (extractStridedSlice S104x32 ![o, 0] q h) (extractStridedSlice S104x32 ![o, 0] k h) (constant S104x104 .f32 0x00000000#32))
      (broadcast S104x104 (Named.named κ "scale" (φ := .f32) 0x3E3504F3#32)))
    (broadcastTo S104x104 (k0_pay33 (F := Ideal)) broadcasts_S1x104_S104x104)) shapeCasts_S104x104_S104x104

/-- Row `r` of the block `R` lies in. -/
def blk (R : Fin 3328) (l : Fin 104) : Fin 3328 := ⟨R.val / 104 * 104 + l.val, by omega⟩

/-- The score of row `R` against the row of its block at lane `l`. -/
def sc (q k : FVec Ideal S3328x32 .f32) (R : Fin 3328) (l : Fin 104) : EReal :=
  (∑ d, q (ix2 R d) * k (ix2 (blk R l) d)) * (((Real.sqrt 32)⁻¹ : ℝ) : EReal) + if l.val < 100 then 0 else ⊥

/-- The scores of all rows. -/
def scG (q k : FVec Ideal S3328x32 .f32) : Vec Ideal S3328x104 .f32 := fun y => sc q k (y 0) (y 1)

/-- The scores of a block are the block's rows of the scores. -/
theorem score_piece (q k : FVec Ideal S3328x32 .f32) (o : ℕ) (h : S3328x32.Slices ![o, 0] S104x32)
    (inb : ∀ a : Fin S3328x104.rank, (![o, 0] : Fin S3328x104.rank → ℕ) a + S104x104.size a ≤ S3328x104.size a) (ho : o % 104 = 0)
    (x : (Rect.unit (s := S3328x104) ![o, 0] S104x104.size inb).shape.Idx) :
    scoreV q k o h x = scG q k ((Rect.unit (s := S3328x104) ![o, 0] S104x104.size inb).emb x) := by
  show _ = View.ld (scG q k) (Rect.unit (s := S3328x104) ![o, 0] S104x104.size inb) x
  idx_vars x
  pointwise [scoreV, scG]
  rw [mask_apply, show (Named.named κ "scale" (φ := .f32) 0x3E3504F3#32 : Ideal .f32) = (((Real.sqrt 32)⁻¹ : ℝ) : EReal) from IdealRules.named_const.ideal_named_scalar _ _ _ _ rfl]
  have hb : blk ⟨o + x0.val, by have := inb 0; have := x0.isLt; simp [S3328x104, S104x104] at *; omega⟩ x1 = ⟨o + x1.val, by have := inb 0; have := x1.isLt; simp [S3328x104, S104x104] at *; omega⟩ := by
    apply Fin.ext; have := x0.isLt; simp only [blk]; omega
  show _ = sc q k ⟨o + x0.val, _⟩ x1
  rw [sc, hb]

variable (c : Dev nD) (arg0 : Memref sig .tc .vmem S3328x12 .f32) (harg0 : arg0.IsWhole) (arg1 : Memref sig .tc .vmem S1x192 .f32) (harg1 : arg1.IsWhole) (arg2 : Memref sig .tc .vmem S192x64 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S3x12x64x64 .f32) (harg11 : arg11.IsWhole) (arg12 : Memref sig .tc .vmem S64x192 .f32) (harg12 : arg12.IsWhole) (arg13 : Memref sig .tc .vmem S64x320 .f32) (harg13 : arg13.IsWhole) (arg14 : Memref sig .tc .vmem S64x448 .f32) (harg14 : arg14.IsWhole) (arg15 : Memref sig .tc .vmem S3x1x768 .f32) (harg15 : arg15.IsWhole) (arg16 : Memref sig .tc .vmem S104x1 .f32) (harg16 : arg16.IsWhole) (arg17 : Memref sig .tc .vmem S32x100x768 .f32) (harg17 : arg17.IsWhole) (arg18 : Memref sig .tc .vmem S3328x768 .f32) (harg18 : arg18.IsWhole) (arg19 : Memref sig .tc .vmem S3328x768 .f32) (harg19 : arg19.IsWhole) (arg20 : Memref sig .tc .vmem S3328x104 .f32) (harg20 : arg20.IsWhole) (arg21 : Memref sig .tc .vmem S768x768 .f32) (harg21 : arg21.IsWhole) (x0 : Vec Ideal S3328x12 .f32) (x1 : Vec Ideal S1x192 .f32) (x2 : Vec Ideal S192x64 .f32) (x3 : Vec Ideal S1x192 .f32) (x4 : Vec Ideal S1x192 .f32) (x5 : Vec Ideal S64x32 .f32) (x6 : Vec Ideal S1x32 .f32) (x7 : Vec Ideal S64x32 .f32) (x8 : Vec Ideal S1x32 .f32) (x9 : Vec Ideal S1x64 .f32) (x10 : Vec Ideal S1x64 .f32) (x11 : Vec Ideal S3x12x64x64 .f32) (x12 : Vec Ideal S64x192 .f32) (x13 : Vec Ideal S64x320 .f32) (x14 : Vec Ideal S64x448 .f32) (x15 : Vec Ideal S3x1x768 .f32) (x16 : Vec Ideal S104x1 .f32)

/-- The queries are a linear map of the last states. -/
theorem queries : (kernelRun0_A.sl.v350 (F := Ideal) c arg0 harg0 arg1 harg1 arg2 harg2 arg3 harg3 arg4 harg4 arg5 harg5 arg6 harg6 x0 x1 x2 x3 x4 x5 x6) = proj (kernelRun0_A.sl.v343 (F := Ideal) c arg0 harg0 arg1 harg1 arg2 harg2 arg3 harg3 arg4 harg4 x0 x1 x2 x3 x4) x5 x6 := by
  have e : (kernelRun0_A.sl.v350 (F := Ideal) c arg0 harg0 arg1 harg1 arg2 harg2 arg3 harg3 arg4 harg4 arg5 harg5 arg6 harg6 x0 x1 x2 x3 x4 x5 x6) = proj (kernelRun0_A.sl.v343 (F := Ideal) c arg0 harg0 arg1 harg1 arg2 harg2 arg3 harg3 arg4 harg4 x0 x1 x2 x3 x4) (arg5.view.readAt (Elt Ideal) (Rect.unit ![0, 0] S64x32.size (by decide)).toLoadRect (harg5.unread x5))
      (arg6.view.readAt (Elt Ideal) (Rect.unit ![0, 0] S1x32.size (by decide)).toLoadRect (harg6.unread x6)) := by sl_kernel_rfl
  rw [e, load_whole harg5 x5 (by decide), load_whole harg6 x6 (by decide)]

/-- The keys are a linear map of the last states. -/
theorem keys : (kernelRun0_A.sl.r_2 (F := Ideal) c arg0 harg0 arg1 harg1 arg2 harg2 arg3 harg3 arg4 harg4 arg7 harg7 arg8 harg8 x0 x1 x2 x3 x4 x7 x8) = proj (kernelRun0_A.sl.v343 (F := Ideal) c arg0 harg0 arg1 harg1 arg2 harg2 arg3 harg3 arg4 harg4 x0 x1 x2 x3 x4) x7 x8 := by
  have e : (kernelRun0_A.sl.r_2 (F := Ideal) c arg0 harg0 arg1 harg1 arg2 harg2 arg3 harg3 arg4 harg4 arg7 harg7 arg8 harg8 x0 x1 x2 x3 x4 x7 x8) = proj (kernelRun0_A.sl.v343 (F := Ideal) c arg0 harg0 arg1 harg1 arg2 harg2 arg3 harg3 arg4 harg4 x0 x1 x2 x3 x4) (arg7.view.readAt (Elt Ideal) (Rect.unit ![0, 0] S64x32.size (by decide)).toLoadRect (harg7.unread x7))
      (arg8.view.readAt (Elt Ideal) (Rect.unit ![0, 0] S1x32.size (by decide)).toLoadRect (harg8.unread x8)) := by sl_kernel_rfl
  rw [e, load_whole harg7 x7 (by decide), load_whole harg8 x8 (by decide)]

/-- A block of rows of the queries is a slice of them. -/
theorem slices_of (o : ℕ) (inb : ∀ a : Fin S3328x104.rank, (![o, 0] : Fin S3328x104.rank → ℕ) a + S104x104.size a ≤ S3328x104.size a) :
    S3328x32.Slices ![o, 0] S104x32 := by
  have h0 : o + 104 ≤ 3328 := inb 0
  refine ⟨rfl, fun a => ?_⟩
  match a with
  | ⟨0, _⟩ => exact h0
  | ⟨1, _⟩ => exact le_refl 32

/-- What the score stores leave. -/
theorem scores : View.canon (kernelRun0_A.sl.HS2_32 (F := Ideal) c arg0 harg0 arg1 harg1 arg2 harg2 arg3 harg3 arg4 harg4 arg5 harg5 arg6 harg6 arg7 harg7 arg8 harg8 x0 x1 x2 x3 x4 x5 x6 x7 x8) = scG (kernelRun0_A.sl.v350 (F := Ideal) c arg0 harg0 arg1 harg1 arg2 harg2 arg3 harg3 arg4 harg4 arg5 harg5 arg6 harg6 x0 x1 x2 x3 x4 x5 x6) (kernelRun0_A.sl.r_2 (F := Ideal) c arg0 harg0 arg1 harg1 arg2 harg2 arg3 harg3 arg4 harg4 arg7 harg7 arg8 harg8 x0 x1 x2 x3 x4 x7 x8) := by
  funext y
  have hc : ∃ p ∈ (kernelRun0_A.sl.HS2_32 (F := Ideal) c arg0 harg0 arg1 harg1 arg2 harg2 arg3 harg3 arg4 harg4 arg5 harg5 arg6 harg6 arg7 harg7 arg8 harg8 x0 x1 x2 x3 x4 x5 x6 x7 x8), y ∈ p.1.set := View.cover_of_tiledL (kernelRun0_A.sl.HS2_32 (F := Ideal) c arg0 harg0 arg1 harg1 arg2 harg2 arg3 harg3 arg4 harg4 arg5 harg5 arg6 harg6 arg7 harg7 arg8 harg8 x0 x1 x2 x3 x4 x5 x6 x7 x8) S104x104.size (by sl_kernel_rfl) y
  refine (congrArg (fun L => View.canon L y) (List.append_nil _).symm).trans (View.canon_append_of_piecesOf _ [] _ ?_ y hc)
  unfold kernelRun0_A.sl.HS2_32
  repeat refine ⟨fun x => Eq.trans (by sl_kernel_rfl) (score_piece _ _ _ (slices_of _ (by decide)) (by decide) (by decide) x), ?_⟩
  exact trivial

end Cert.KernelIdeal.Body

end
-- ==== Proof.FusedNorm.lean ====
module

public import proofs.«01_k».proof.Proof.FusedScore

@[expose] public section

set_option maxRecDepth 16384

noncomputable section

namespace Cert.KernelIdeal.Body

open Idealize.ShloMosaic Idealize.SL.Sem Cert.KernelIdeal Cert.KernelIdeal.Gen

/-- A load of the whole of a scratch reads what the stores left in it. -/
theorem readCov_whole {κ : Kind} {sp : Space} {s : Shape} {e : EltTy} (v : View sig κ sp s e) (L : List (View.Piece (Elt Ideal) s e))
    {off : Fin s.rank → ℕ} (h0 : ∀ a, off a = 0) (inb : ∀ a, off a + s.size a ≤ s.size a) :
    v.readCov L (Rect.unit off s.size inb).toLoadRect = View.canon L := by
  rw [View.readCov_eq_canon']
  exact View.ld_unit_zero (funext h0) inb (View.canon L)

/-- The softmax of the scores at a row and a lane. -/
def sm (S : Fin 3328 → Fin 104 → EReal) (R : Fin 3328) (l : Fin 104) : EReal :=
  Ideal.div (Ideal.exp (S R l - Finset.fold max (Ideal.ofBits .f32 0xFF800000#32) (fun x => S R x) Finset.univ))
    (∑ x, Ideal.exp (S R x - Finset.fold max (Ideal.ofBits .f32 0xFF800000#32) (fun x => S R x) Finset.univ))

/-- What the softmax stores, entry by entry. -/
theorem sm_apply (S : Vec Ideal S3328x104 .f32) (R : Fin 3328) (l : Fin 104) :
    k0_pay74 S (ix2 R l) = sm (fun R l => S (ix2 R l)) R l := by
  pointwise [k0_pay74]
  rfl

variable (c : Dev nD) (arg0 : Memref sig .tc .vmem S3328x12 .f32) (harg0 : arg0.IsWhole) (arg1 : Memref sig .tc .vmem S1x192 .f32) (harg1 : arg1.IsWhole) (arg2 : Memref sig .tc .vmem S192x64 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S3x12x64x64 .f32) (harg11 : arg11.IsWhole) (arg12 : Memref sig .tc .vmem S64x192 .f32) (harg12 : arg12.IsWhole) (arg13 : Memref sig .tc .vmem S64x320 .f32) (harg13 : arg13.IsWhole) (arg14 : Memref sig .tc .vmem S64x448 .f32) (harg14 : arg14.IsWhole) (arg15 : Memref sig .tc .vmem S3x1x768 .f32) (harg15 : arg15.IsWhole) (arg16 : Memref sig .tc .vmem S104x1 .f32) (harg16 : arg16.IsWhole) (arg17 : Memref sig .tc .vmem S32x100x768 .f32) (harg17 : arg17.IsWhole) (arg18 : Memref sig .tc .vmem S3328x768 .f32) (harg18 : arg18.IsWhole) (arg19 : Memref sig .tc .vmem S3328x768 .f32) (harg19 : arg19.IsWhole) (arg20 : Memref sig .tc .vmem S3328x104 .f32) (harg20 : arg20.IsWhole) (arg21 : Memref sig .tc .vmem S768x768 .f32) (harg21 : arg21.IsWhole) (x0 : Vec Ideal S3328x12 .f32) (x1 : Vec Ideal S1x192 .f32) (x2 : Vec Ideal S192x64 .f32) (x3 : Vec Ideal S1x192 .f32) (x4 : Vec Ideal S1x192 .f32) (x5 : Vec Ideal S64x32 .f32) (x6 : Vec Ideal S1x32 .f32) (x7 : Vec Ideal S64x32 .f32) (x8 : Vec Ideal S1x32 .f32) (x9 : Vec Ideal S1x64 .f32) (x10 : Vec Ideal S1x64 .f32) (x11 : Vec Ideal S3x12x64x64 .f32) (x12 : Vec Ideal S64x192 .f32) (x13 : Vec Ideal S64x320 .f32) (x14 : Vec Ideal S64x448 .f32) (x15 : Vec Ideal S3x1x768 .f32) (x16 : Vec Ideal S104x1 .f32)

/-- The attention weights of all rows, as the softmax leaves them. -/
theorem weights : View.canon (kernelRun0_A.sl.HS2_33 (F := Ideal) c arg0 harg0 arg1 harg1 arg2 harg2 arg3 harg3 arg4 harg4 arg5 harg5 arg6 harg6 arg7 harg7 arg8 harg8 arg20 x0 x1 x2 x3 x4 x5 x6 x7 x8) = k0_pay74 (scG (kernelRun0_A.sl.v350 (F := Ideal) c arg0 harg0 arg1 harg1 arg2 harg2 arg3 harg3 arg4 harg4 arg5 harg5 arg6 harg6 x0 x1 x2 x3 x4 x5 x6) (kernelRun0_A.sl.r_2 (F := Ideal) c arg0 harg0 arg1 harg1 arg2 harg2 arg3 harg3 arg4 harg4 arg7 harg7 arg8 harg8 x0 x1 x2 x3 x4 x7 x8)) := by
  have e : (kernelRun0_A.sl.v684 (F := Ideal) c arg0 harg0 arg1 harg1 arg2 harg2 arg3 harg3 arg4 harg4 arg5 harg5 arg6 harg6 arg7 harg7 arg8 harg8 arg20 x0 x1 x2 x3 x4 x5 x6 x7 x8) = scG (kernelRun0_A.sl.v350 (F := Ideal) c arg0 harg0 arg1 harg1 arg2 harg2 arg3 harg3 arg4 harg4 arg5 harg5 arg6 harg6 x0 x1 x2 x3 x4 x5 x6) (kernelRun0_A.sl.r_2 (F := Ideal) c arg0 harg0 arg1 harg1 arg2 harg2 arg3 harg3 arg4 harg4 arg7 harg7 arg8 harg8 x0 x1 x2 x3 x4 x7 x8) := by
    unfold kernelRun0_A.sl.v684
    rw [readCov_whole _ _ (by decide)]
    exact scores ..
  unfold kernelRun0_A.sl.HS2_33
  rw [View.canon_cons_unit_zero (by funext a; revert a; decide), e]

/-- One block normalised by the degrees of its in-edges. -/
def normV (w : Vec Ideal S104x104 .f32) (m : Vec Ideal S104x1 .f32) : FVec Ideal S104x104 .f32 :=
  have rm : FVec Ideal S104x1 .f32 := shapeCast S104x1 m shapeCasts_S104x1_S104x1
  have dr : FVec Ideal S104x1 .f32 := matmul (F := Ideal) (φ₁ := .f32) (φ₂ := .f32) dot_S104x104_S104x1_S104x1_0_0_1_1_n_n none w rm (constant S104x1 .f32 0x00000000#32)
  have dl : FVec Ideal S1x104 .f32 := matmul (F := Ideal) (φ₁ := .f32) (φ₂ := .f32) dot_S104x1_S104x104_S1x104_0_0_1_1_n_n none rm w (constant S1x104 .f32 0x00000000#32)
  have cr := cmpf .ogt dr (broadcast S104x1 (Scalar.ofBits .f32 0x00000000#32))
  have cl := cmpf .ogt dl (broadcast S1x104 (Scalar.ofBits .f32 0x00000000#32))
  have ir : FVec Ideal S104x1 .f32 := select cr (rsqrt (select cr dr (broadcast S104x1 (Scalar.ofBits .f32 0x3F800000#32)))) (broadcast S104x1 (Scalar.ofBits .f32 0x00000000#32))
  have il : FVec Ideal S1x104 .f32 := select cl (rsqrt (select cl dl (broadcast S1x104 (Scalar.ofBits .f32 0x3F800000#32)))) (broadcast S1x104 (Scalar.ofBits .f32 0x00000000#32))
  shapeCast S104x104 (mulf (mulf w (broadcastTo S104x104 ir broadcasts_S104x1_S104x104)) (broadcastTo S104x104 il broadcasts_S1x104_S104x104)) shapeCasts_S104x104_S104x104

/-- One over the square root of a degree; nothing where there is none. -/
def dis (d : EReal) : EReal := if 0 < d then Ideal.rsqrt (if 0 < d then d else 1) else 0

/-- A row's lane within its block. -/
def lane (R : Fin 3328) : Fin 104 := ⟨R.val % 104, by omega⟩

/-- The normalised weights of all rows. -/
def nm (w : Fin 3328 → Fin 104 → EReal) (m : Fin 104 → EReal) (R : Fin 3328) (l : Fin 104) : EReal :=
  w R l * dis (∑ x, w (blk R x) (lane R) * m x) * dis (∑ x, m x * w (blk R x) l)

/-- The same as a buffer. -/
def nmG (w : Vec Ideal S3328x104 .f32) (m : Vec Ideal S104x1 .f32) : Vec Ideal S3328x104 .f32 :=
  fun y => nm (fun R l => w (ix2 R l)) (fun x => m (ix2 x 0)) (y 0) (y 1)

/-- The block of rows at `o`. -/
abbrev rows (o : ℕ) (inb : ∀ a : Fin S3328x104.rank, (![o, 0] : Fin S3328x104.rank → ℕ) a + S104x104.size a ≤ S3328x104.size a) :
    Rect S3328x104 := Rect.unit (s := S3328x104) ![o, 0] S104x104.size inb

/-- Normalising a block gives the block's rows of the normalised weights. -/
theorem norm_piece (w : Vec Ideal S3328x104 .f32) (m : Vec Ideal S104x1 .f32) (o : ℕ) (inb) (ho : o % 104 = 0)
    (x : (rows o inb).shape.Idx) : normV (View.ld w (rows o inb)) m x = nmG w m ((rows o inb).emb x) := by
  show _ = View.ld (nmG w m) (rows o inb) x
  have h0 : o + 104 ≤ 3328 := inb 0
  idx_vars x
  pointwise [normV, nmG]
  show _ = nm _ _ ⟨o + x0.val, _⟩ x1
  have hb : ∀ x, blk ⟨o + x0.val, by omega⟩ x = ⟨o + x.val, by omega⟩ := by
    intro x; apply Fin.ext; have := x0.isLt; simp only [blk]; omega
  have hl : lane ⟨o + x0.val, by omega⟩ = x0 := by
    apply Fin.ext; have := x0.isLt; simp only [lane]; omega
  simp only [nm, hb, hl, dis]

/-- The stores before row `o` hold normalised blocks, the rows from `o` on still the weights. -/
def Upto (w : Vec Ideal S3328x104 .f32) (m : Vec Ideal S104x1 .f32) (o : ℕ) (L : List (View.Piece (Elt Ideal) S3328x104 (.f32 : EltTy))) : Prop :=
  (∀ y : S3328x104.Idx, (y 0).val < o → View.canon L y = nmG w m y) ∧ (∀ y : S3328x104.Idx, o ≤ (y 0).val → View.canon L y = w y)

/-- One more block. -/
theorem Upto.step {w : Vec Ideal S3328x104 .f32} {m : Vec Ideal S104x1 .f32} {o o' : ℕ} {L : List (View.Piece (Elt Ideal) S3328x104 (.f32 : EltTy))}
    {inb} {p : (rows o inb).shape.Idx → Ideal .f32} {κ : Kind} {sp : Space} {v : View sig κ sp S3328x104 .f32}
    (ho : o % 104 = 0) (ho' : o' = o + 104) (hp : p = normV (v.readCov L (rows o inb).toLoadRect) m) (h : Upto w m o L) :
    Upto w m o' (⟨rows o inb, p⟩ :: L) := by
  have hin : ∀ y : S3328x104.Idx, y ∈ (rows o inb).set → o ≤ (y 0).val ∧ (y 0).val < o' := by
    intro y hy
    have := Rect.mem_set_unit.mp hy 0
    exact ⟨this.1, ho' ▸ this.2⟩
  have hread : v.readCov L (rows o inb).toLoadRect = View.ld w (rows o inb) := by
    rw [View.readCov_eq_canon']
    funext j
    refine h.2 _ (Rect.mem_set_unit.mp (show (rows o inb).emb j ∈ (rows o inb).set from ?_) 0).1
    rw [← Rect.map_emb_univ]
    exact Finset.mem_map_of_mem _ (Finset.mem_univ j)
  have hmem : ∀ y : S3328x104.Idx, y ∈ (rows o inb).set → View.canon (⟨rows o inb, p⟩ :: L) y = nmG w m y := by
    intro y hy
    obtain ⟨x, rfl⟩ := (rows o inb).exists_idx_of_mem hy
    refine (View.canon_cons_emb (rows o inb) p L x).trans ?_
    rw [hp, hread]
    exact norm_piece w m o inb ho x
  have hset : ∀ y : S3328x104.Idx, o ≤ (y 0).val → (y 0).val < o' → y ∈ (rows o inb).set := by
    intro y h1 h2
    refine Rect.mem_set_unit.mpr fun a => ?_
    match a with
    | ⟨0, _⟩ => exact ⟨h1, ho' ▸ h2⟩
    | ⟨1, _⟩ => exact ⟨Nat.zero_le _, lt_of_lt_of_eq (y 1).isLt (Nat.zero_add 104).symm⟩
  have hoo : o ≤ o' := by omega
  constructor
  · intro y hy
    by_cases hs : y ∈ (rows o inb).set
    · exact hmem y hs
    · rw [View.canon_cons_of_not_mem ⟨rows o inb, p⟩ L hs]
      refine h.1 y ?_
      rcases Nat.lt_or_ge (y 0).val o with hlt | hge
      · exact hlt
      · exact absurd (hset y hge hy) hs
  · intro y hy
    rw [View.canon_cons_of_not_mem ⟨rows o inb, p⟩ L (fun hs => absurd (hin y hs).2 (Nat.not_lt.mpr hy))]
    exact h.2 y (Nat.le_trans hoo hy)

/-- What the attention scratch holds at the end: the normalised weights. -/
theorem norms : View.canon (kernelRun0_A.sl.HS2_65 (F := Ideal) c arg0 harg0 arg1 harg1 arg2 harg2 arg3 harg3 arg4 harg4 arg5 harg5 arg6 harg6 arg7 harg7 arg8 harg8 arg16 harg16 arg20 x0 x1 x2 x3 x4 x5 x6 x7 x8 x16) = nmG (k0_pay74 (scG (kernelRun0_A.sl.v350 (F := Ideal) c arg0 harg0 arg1 harg1 arg2 harg2 arg3 harg3 arg4 harg4 arg5 harg5 arg6 harg6 x0 x1 x2 x3 x4 x5 x6) (kernelRun0_A.sl.r_2 (F := Ideal) c arg0 harg0 arg1 harg1 arg2 harg2 arg3 harg3 arg4 harg4 arg7 harg7 arg8 harg8 x0 x1 x2 x3 x4 x7 x8))) x16 := by
  have base : Upto (k0_pay74 (scG (kernelRun0_A.sl.v350 (F := Ideal) c arg0 harg0 arg1 harg1 arg2 harg2 arg3 harg3 arg4 harg4 arg5 harg5 arg6 harg6 x0 x1 x2 x3 x4 x5 x6) (kernelRun0_A.sl.r_2 (F := Ideal) c arg0 harg0 arg1 harg1 arg2 harg2 arg3 harg3 arg4 harg4 arg7 harg7 arg8 harg8 x0 x1 x2 x3 x4 x7 x8))) x16 0 (kernelRun0_A.sl.HS2_33 (F := Ideal) c arg0 harg0 arg1 harg1 arg2 harg2 arg3 harg3 arg4 harg4 arg5 harg5 arg6 harg6 arg7 harg7 arg8 harg8 arg20 x0 x1 x2 x3 x4 x5 x6 x7 x8) :=
    ⟨fun y h => absurd h (Nat.not_lt_zero _), fun y _ => congrFun (weights ..) y⟩
  have all : Upto (k0_pay74 (scG (kernelRun0_A.sl.v350 (F := Ideal) c arg0 harg0 arg1 harg1 arg2 harg2 arg3 harg3 arg4 harg4 arg5 harg5 arg6 harg6 x0 x1 x2 x3 x4 x5 x6) (kernelRun0_A.sl.r_2 (F := Ideal) c arg0 harg0 arg1 harg1 arg2 harg2 arg3 harg3 arg4 harg4 arg7 harg7 arg8 harg8 x0 x1 x2 x3 x4 x7 x8))) (arg16.view.readAt (Elt Ideal) (Rect.unit ![0, 0] S104x1.size (by decide)).toLoadRect (harg16.unread x16)) 3328 (kernelRun0_A.sl.HS2_65 (F := Ideal) c arg0 harg0 arg1 harg1 arg2 harg2 arg3 harg3 arg4 harg4 arg5 harg5 arg6 harg6 arg7 harg7 arg8 harg8 arg16 harg16 arg20 x0 x1 x2 x3 x4 x5 x6 x7 x8 x16) := by
    rw [← load_whole harg16 x16 (off := ![0, 0]) (by decide) (by decide)] at base
    iterate 32 refine Upto.step (v := arg20.view) (by decide) (by decide) (by sl_kernel_rfl) ?_
    exact base
  rw [load_whole harg16 x16 (by decide)] at all
  funext y
  exact all.1 y (y 0).isLt

end Cert.KernelIdeal.Body

end
-- ==== Proof.FusedBand.lean ====
module

public import proofs.«01_k».proof.Proof.FusedNorm

@[expose] public section

set_option maxRecDepth 16384
set_option maxHeartbeats 400000

noncomputable section

namespace Cert.KernelIdeal.Body

open Idealize.ShloMosaic Idealize.SL.Sem Cert.KernelIdeal Cert.KernelIdeal.Gen

/-- A block's linear map followed by its temporal convolution, as one banded matrix over (time, channel): the row's
channels times the strip of taps, shifted to the row's time and cut to the twelve steps. -/
def band {K : ℕ} (wt : Fin 12 → Fin 64 → Fin 64 → EReal) (wr : Fin 64 → Fin K → EReal) (p : ℕ) (R C : Fin 768) : EReal :=
  if h : 64 * (R.val / 64) ≤ C.val + p ∧ C.val + p - 64 * (R.val / 64) < K then
    ∑ c' : Fin 64, wt ⟨R.val / 64, by omega⟩ ⟨R.val % 64, by omega⟩ c' * wr c' ⟨C.val + p - 64 * (R.val / 64), h.2⟩
  else 0

/-- The rows of the first `m` times hold the banded matrix, the others nothing. -/
def Band (G : Fin 768 → Fin 768 → EReal) (m : ℕ) (L : List (View.Piece (Elt Ideal) S768x768 (.f32 : EltTy))) : Prop :=
  ∀ y : S768x768.Idx, View.canon L y = if (y 0).val < 64 * m then G (y 0) (y 1) else (0 : EReal)

/-- The rows of one time, at the columns the strip reaches. -/
abbrev strip (o lo w : ℕ) (inb : ∀ a : Fin S768x768.rank, (![o, lo] : Fin S768x768.rank → ℕ) a + (![64, w] : Fin S768x768.rank → ℕ) a ≤ S768x768.size a) :
    Rect S768x768 := Rect.unit (s := S768x768) ![o, lo] ![64, w] inb

/-- One more time's rows. -/
theorem Band.step {K w p m o lo sh : ℕ} {wt : Fin 12 → Fin 64 → Fin 64 → EReal} {wr : Fin 64 → Fin K → EReal}
    {inb} {pay : (strip o lo w inb).shape.Idx → Ideal .f32} {L : List (View.Piece (Elt Ideal) S768x768 (.f32 : EltTy))}
    (hm : m < 12) (ho : o = 64 * m) (hs : lo + p = o + sh) (hl : lo = 0 ∨ sh = 0) (hK : sh + w ≤ K) (hw : sh + w = K ∨ lo + w = 768)
    (hp : ∀ (c : Fin 64) (j : Fin w), pay (ix2 c j) = ∑ c' : Fin 64, wt ⟨m, hm⟩ c c' * wr c' ⟨sh + j.val, by omega⟩)
    (h : Band (band wt wr p) m L) : Band (band wt wr p) (m + 1) (⟨strip o lo w inb, pay⟩ :: L) := by
  intro y
  by_cases hy : y ∈ (strip o lo w inb).set
  · obtain ⟨x, hxy⟩ := (strip o lo w inb).exists_idx_of_mem hy
    obtain ⟨c, j, rfl⟩ : ∃ (c : Fin 64) (j : Fin w), x = ix2 c j := ⟨x 0, x 1, by
      funext a
      match a with
      | ⟨0, _⟩ => rfl
      | ⟨1, _⟩ => rfl⟩
    have hv : View.canon (⟨strip o lo w inb, pay⟩ :: L) y = pay (ix2 c j) := by
      rw [← hxy]
      exact View.canon_cons_emb (strip o lo w inb) pay L (ix2 c j)
    have e0 : (y 0).val = o + c.val := by
      have e := Rect.idx_unit_val (s := S768x768) ![o, lo] ![64, w] inb (ix2 c j) 0
      rw [← hxy]; exact e
    have e1 : (y 1).val = lo + j.val := by
      have e := Rect.idx_unit_val (s := S768x768) ![o, lo] ![64, w] inb (ix2 c j) 1
      rw [← hxy]; exact e
    have b0 := c.isLt
    have b1 := j.isLt
    have hq : (y 0).val / 64 = m := by omega
    rw [hv, hp, if_pos (by omega)]
    unfold band
    rw [dif_pos (by rw [hq]; omega)]
    refine Finset.sum_congr rfl fun c' _ => congrArg₂ (fun a b : EReal => a * b) ?_ (congrArg (wr c') (Fin.ext ?_))
    · exact congrArg₂ (fun a b => wt a b c') (Fin.ext hq.symm) (Fin.ext (by show c.val = (y 0).val % 64; omega))
    · show sh + j.val = (y 1).val + p - 64 * ((y 0).val / 64)
      rw [hq]; omega
  · rw [View.canon_cons_of_not_mem ⟨strip o lo w inb, pay⟩ L hy, h y]
    by_cases h1 : (y 0).val < 64 * m
    · rw [if_pos h1, if_pos (by omega)]
    rw [if_neg h1]
    by_cases h2 : (y 0).val < 64 * (m + 1)
    · rw [if_pos h2]
      have hq : (y 0).val / 64 = m := by omega
      have hC : (y 1).val < 768 := (y 1).isLt
      have hn : ¬ (lo ≤ (y 1).val ∧ (y 1).val < lo + w) := fun hh => hy (Rect.mem_set_unit.mpr fun a => by
        match a with
        | ⟨0, _⟩ => exact ⟨by show o ≤ (y 0).val; omega, by show (y 0).val < o + 64; omega⟩
        | ⟨1, _⟩ => exact hh)
      unfold band
      rw [dif_neg (by rw [hq]; omega)]
    · rw [if_neg h2]

/-- A tap's matrix as loaded. -/
def tap (arg11 : Memref sig .tc .vmem S3x12x64x64 .f32) (harg11 : arg11.IsWhole) (x11 : Vec Ideal S3x12x64x64 .f32) (b m : ℕ)
    (inb : ∀ a : Fin S3x12x64x64.rank, (![b, m, 0, 0] : Fin S3x12x64x64.rank → ℕ) a + S1x1x64x64.size a ≤ S3x12x64x64.size a) : FVec Ideal S64x64 .f32 :=
  shapeCast S64x64 (arg11.view.readAt (Elt Ideal) (Rect.unit (s := S3x12x64x64) ![b, m, 0, 0] S1x1x64x64.size inb).toLoadRect (harg11.unread x11)) shapeCasts_S1x1x64x64_S64x64

/-- Its entries. -/
theorem tap_apply (arg11 : Memref sig .tc .vmem S3x12x64x64 .f32) (harg11 : arg11.IsWhole) (x11 : Vec Ideal S3x12x64x64 .f32) {b m : ℕ}
    (inb : ∀ a : Fin S3x12x64x64.rank, (![b, m, 0, 0] : Fin S3x12x64x64.rank → ℕ) a + S1x1x64x64.size a ≤ S3x12x64x64.size a)
    (hb : b < 3) (hm : m < 12) (c c' : Fin 64) : tap arg11 harg11 x11 b m inb (ix2 c c') = x11 (ix4 ⟨b, hb⟩ ⟨m, hm⟩ c c') := by
  unfold tap
  rw [load_eq]
  have e : ∀ Y : Vec Ideal S1x1x64x64 .f32, (shapeCast S64x64 Y shapeCasts_S1x1x64x64_S64x64 : Vec Ideal S64x64 .f32) (ix2 c c') = Y (ix4 0 0 c c') := by
    intro Y
    pointwise []
  rw [e]
  refine congrArg x11 (funext fun a => Fin.ext ((Rect.idx_unit_val _ _ _ _ a).trans ?_))
  match a with
  | ⟨0, _⟩ => rfl
  | ⟨1, _⟩ => rfl
  | ⟨2, _⟩ => exact Nat.zero_add _
  | ⟨3, _⟩ => exact Nat.zero_add _

/-- A slice of a strip. -/
theorem slice_apply {K w sh : ℕ} (F : FVec Ideal ⟨2, ![64, K]⟩ .f32) (h : (⟨2, ![64, K]⟩ : Shape).Slices ![0, sh] ⟨2, ![64, w]⟩) (hK : sh + w ≤ K)
    (c : Fin 64) (j : Fin w) : extractStridedSlice ⟨2, ![64, w]⟩ ![0, sh] F h (ix2 c j) = F (ix2 c ⟨sh + j.val, by omega⟩) := by
  refine congrArg F (funext fun a => Fin.ext ?_)
  match a with
  | ⟨0, _⟩ => exact Nat.zero_add _
  | ⟨1, _⟩ => rfl

/-- A slice of a strip whose entries are known. -/
theorem cut_apply {K w sh : ℕ} {F : FVec Ideal ⟨2, ![64, K]⟩ .f32} {wr : Fin 64 → Fin K → EReal} (hF : ∀ c j, F (ix2 c j) = wr c j)
    {B : FVec Ideal ⟨2, ![64, w]⟩ .f32} (h : (⟨2, ![64, K]⟩ : Shape).Slices ![0, sh] ⟨2, ![64, w]⟩) (hB : B = extractStridedSlice ⟨2, ![64, w]⟩ ![0, sh] F h) (hK : sh + w ≤ K)
    (c : Fin 64) (j : Fin w) : B (ix2 c j) = wr c ⟨sh + j.val, by omega⟩ := by
  rw [hB, slice_apply F h hK, hF]

/-- A tap's matrix times a strip of width 128. -/
def band128 (A : FVec Ideal S64x64 .f32) (B : FVec Ideal S64x128 .f32) : FVec Ideal S64x128 .f32 :=
  shapeCast S64x128 (matmul (F := Ideal) (φ₁ := .f32) (φ₂ := .f32) dot_S64x64_S64x128_S64x128_1_0_0_1_n_n none A B (constant S64x128 .f32 0x00000000#32)) shapeCasts_S64x128_S64x128

/-- Its entries. -/
theorem rows128 {pay : FVec Ideal S64x128 .f32} {A : FVec Ideal S64x64 .f32} {B : FVec Ideal S64x128 .f32} {wt : Fin 64 → Fin 64 → EReal} {wr : Fin 64 → Fin 128 → EReal}
    (hp : pay = band128 A B) (hA : ∀ c c', A (ix2 c c') = wt c c') (hB : ∀ c' j, B (ix2 c' j) = wr c' j) (c : Fin 64) (j : Fin 128) :
    pay (ix2 c j) = ∑ c' : Fin 64, wt c c' * wr c' j := by
  simp only [hp, ← hA, ← hB]; pointwise [band128]

/-- A tap's matrix times a strip of width 192. -/
def band192 (A : FVec Ideal S64x64 .f32) (B : FVec Ideal S64x192 .f32) : FVec Ideal S64x192 .f32 :=
  shapeCast S64x192 (matmul (F := Ideal) (φ₁ := .f32) (φ₂ := .f32) dot_S64x64_S64x192_S64x192_1_0_0_1_n_n none A B (constant S64x192 .f32 0x00000000#32)) shapeCasts_S64x192_S64x192

/-- Its entries. -/
theorem rows192 {pay : FVec Ideal S64x192 .f32} {A : FVec Ideal S64x64 .f32} {B : FVec Ideal S64x192 .f32} {wt : Fin 64 → Fin 64 → EReal} {wr : Fin 64 → Fin 192 → EReal}
    (hp : pay = band192 A B) (hA : ∀ c c', A (ix2 c c') = wt c c') (hB : ∀ c' j, B (ix2 c' j) = wr c' j) (c : Fin 64) (j : Fin 192) :
    pay (ix2 c j) = ∑ c' : Fin 64, wt c c' * wr c' j := by
  simp only [hp, ← hA, ← hB]; pointwise [band192]

/-- A tap's matrix times a strip of width 256. -/
def band256 (A : FVec Ideal S64x64 .f32) (B : FVec Ideal S64x256 .f32) : FVec Ideal S64x256 .f32 :=
  shapeCast S64x256 (matmul (F := Ideal) (φ₁ := .f32) (φ₂ := .f32) dot_S64x64_S64x256_S64x256_1_0_0_1_n_n none A B (constant S64x256 .f32 0x00000000#32)) shapeCasts_S64x256_S64x256

/-- Its entries. -/
theorem rows256 {pay : FVec Ideal S64x256 .f32} {A : FVec Ideal S64x64 .f32} {B : FVec Ideal S64x256 .f32} {wt : Fin 64 → Fin 64 → EReal} {wr : Fin 64 → Fin 256 → EReal}
    (hp : pay = band256 A B) (hA : ∀ c c', A (ix2 c c') = wt c c') (hB : ∀ c' j, B (ix2 c' j) = wr c' j) (c : Fin 64) (j : Fin 256) :
    pay (ix2 c j) = ∑ c' : Fin 64, wt c c' * wr c' j := by
  simp only [hp, ← hA, ← hB]; pointwise [band256]

/-- A tap's matrix times a strip of width 320. -/
def band320 (A : FVec Ideal S64x64 .f32) (B : FVec Ideal S64x320 .f32) : FVec Ideal S64x320 .f32 :=
  shapeCast S64x320 (matmul (F := Ideal) (φ₁ := .f32) (φ₂ := .f32) dot_S64x64_S64x320_S64x320_1_0_0_1_n_n none A B (constant S64x320 .f32 0x00000000#32)) shapeCasts_S64x320_S64x320

/-- Its entries. -/
theorem rows320 {pay : FVec Ideal S64x320 .f32} {A : FVec Ideal S64x64 .f32} {B : FVec Ideal S64x320 .f32} {wt : Fin 64 → Fin 64 → EReal} {wr : Fin 64 → Fin 320 → EReal}
    (hp : pay = band320 A B) (hA : ∀ c c', A (ix2 c c') = wt c c') (hB : ∀ c' j, B (ix2 c' j) = wr c' j) (c : Fin 64) (j : Fin 320) :
    pay (ix2 c j) = ∑ c' : Fin 64, wt c c' * wr c' j := by
  simp only [hp, ← hA, ← hB]; pointwise [band320]

/-- A tap's matrix times a strip of width 384. -/
def band384 (A : FVec Ideal S64x64 .f32) (B : FVec Ideal S64x384 .f32) : FVec Ideal S64x384 .f32 :=
  shapeCast S64x384 (matmul (F := Ideal) (φ₁ := .f32) (φ₂ := .f32) dot_S64x64_S64x384_S64x384_1_0_0_1_n_n none A B (constant S64x384 .f32 0x00000000#32)) shapeCasts_S64x384_S64x384

/-- Its entries. -/
theorem rows384 {pay : FVec Ideal S64x384 .f32} {A : FVec Ideal S64x64 .f32} {B : FVec Ideal S64x384 .f32} {wt : Fin 64 → Fin 64 → EReal} {wr : Fin 64 → Fin 384 → EReal}
    (hp : pay = band384 A B) (hA : ∀ c c', A (ix2 c c') = wt c c') (hB : ∀ c' j, B (ix2 c' j) = wr c' j) (c : Fin 64) (j : Fin 384) :
    pay (ix2 c j) = ∑ c' : Fin 64, wt c c' * wr c' j := by
  simp only [hp, ← hA, ← hB]; pointwise [band384]

/-- A tap's matrix times a strip of width 448. -/
def band448 (A : FVec Ideal S64x64 .f32) (B : FVec Ideal S64x448 .f32) : FVec Ideal S64x448 .f32 :=
  shapeCast S64x448 (matmul (F := Ideal) (φ₁ := .f32) (φ₂ := .f32) dot_S64x64_S64x448_S64x448_1_0_0_1_n_n none A B (constant S64x448 .f32 0x00000000#32)) shapeCasts_S64x448_S64x448

/-- Its entries. -/
theorem rows448 {pay : FVec Ideal S64x448 .f32} {A : FVec Ideal S64x64 .f32} {B : FVec Ideal S64x448 .f32} {wt : Fin 64 → Fin 64 → EReal} {wr : Fin 64 → Fin 448 → EReal}
    (hp : pay = band448 A B) (hA : ∀ c c', A (ix2 c c') = wt c c') (hB : ∀ c' j, B (ix2 c' j) = wr c' j) (c : Fin 64) (j : Fin 448) :
    pay (ix2 c j) = ∑ c' : Fin 64, wt c c' * wr c' j := by
  simp only [hp, ← hA, ← hB]; pointwise [band448]

/-- A whole strip of taps, as loaded. -/
theorem strip_apply {K : ℕ} {v : Vec Ideal ⟨2, ![64, K]⟩ .f32} (f : Vec Ideal ⟨2, ![64, K]⟩ .f32) (hv : v = f)
    (h : (⟨2, ![64, K]⟩ : Shape).ShapeCasts ⟨2, ![64, K]⟩) (c : Fin 64) (j : Fin K) :
    (shapeCast ⟨2, ![64, K]⟩ v h : Vec Ideal ⟨2, ![64, K]⟩ .f32) (ix2 c j) = f (ix2 c j) := by
  rw [hv, shapeCast_id]

/-- The strip of 192 columns, as loaded. -/
def taps192 (arg : Memref sig .tc .vmem S64x192 .f32) (harg : arg.IsWhole) (x : Vec Ideal S64x192 .f32) : FVec Ideal S64x192 .f32 :=
  shapeCast S64x192 (arg.view.readAt (Elt Ideal) (Rect.unit (s := S64x192) ![0, 0] S64x192.size (by decide)).toLoadRect (harg.unread x)) shapeCasts_S64x192_S64x192

/-- Its entries. -/
theorem taps192_apply (arg : Memref sig .tc .vmem S64x192 .f32) (harg : arg.IsWhole) (x : Vec Ideal S64x192 .f32) (c : Fin 64) (j : Fin 192) :
    taps192 arg harg x (ix2 c j) = x (ix2 c j) :=
  strip_apply x (load_whole harg x (by decide) (by decide)) shapeCasts_S64x192_S64x192 c j

/-- One more time's rows at an inner time, which the whole strip of 192 columns reaches. -/
theorem Band.inner192 {p m o lo : ℕ} {wt : Fin 12 → Fin 64 → Fin 64 → EReal} {wr : Fin 64 → Fin 192 → EReal}
    {inb : ∀ a : Fin S768x768.rank, (![o, lo] : Fin S768x768.rank → ℕ) a + S64x192.size a ≤ S768x768.size a} {pay : FVec Ideal S64x192 .f32} {L : List (View.Piece (Elt Ideal) S768x768 (.f32 : EltTy))}
    (A : FVec Ideal S64x64 .f32) (F : FVec Ideal S64x192 .f32) (hm : m < 12) (ho : o = 64 * m) (hs : lo + p = o)
    (hA : ∀ c c', A (ix2 c c') = wt ⟨m, hm⟩ c c') (hF : ∀ c' j, F (ix2 c' j) = wr c' j)
    (hp : pay = band192 A F) (h : Band (band wt wr p) m L) : Band (band wt wr p) (m + 1) (⟨Rect.unit (s := S768x768) ![o, lo] S64x192.size inb, pay⟩ :: L) :=
  Band.step (w := 192) (sh := 0) (inb := inb) (pay := pay) hm ho hs (Or.inr rfl) (by omega) (Or.inl (by omega))
    (rows192 hp hA (fun c' j => (hF c' j).trans (congrArg (wr c') (Fin.ext (Nat.zero_add _).symm)))) h

/-- The strip of 320 columns, as loaded. -/
def taps320 (arg : Memref sig .tc .vmem S64x320 .f32) (harg : arg.IsWhole) (x : Vec Ideal S64x320 .f32) : FVec Ideal S64x320 .f32 :=
  shapeCast S64x320 (arg.view.readAt (Elt Ideal) (Rect.unit (s := S64x320) ![0, 0] S64x320.size (by decide)).toLoadRect (harg.unread x)) shapeCasts_S64x320_S64x320

/-- Its entries. -/
theorem taps320_apply (arg : Memref sig .tc .vmem S64x320 .f32) (harg : arg.IsWhole) (x : Vec Ideal S64x320 .f32) (c : Fin 64) (j : Fin 320) :
    taps320 arg harg x (ix2 c j) = x (ix2 c j) :=
  strip_apply x (load_whole harg x (by decide) (by decide)) shapeCasts_S64x320_S64x320 c j

/-- One more time's rows at an inner time, which the whole strip of 320 columns reaches. -/
theorem Band.inner320 {p m o lo : ℕ} {wt : Fin 12 → Fin 64 → Fin 64 → EReal} {wr : Fin 64 → Fin 320 → EReal}
    {inb : ∀ a : Fin S768x768.rank, (![o, lo] : Fin S768x768.rank → ℕ) a + S64x320.size a ≤ S768x768.size a} {pay : FVec Ideal S64x320 .f32} {L : List (View.Piece (Elt Ideal) S768x768 (.f32 : EltTy))}
    (A : FVec Ideal S64x64 .f32) (F : FVec Ideal S64x320 .f32) (hm : m < 12) (ho : o = 64 * m) (hs : lo + p = o)
    (hA : ∀ c c', A (ix2 c c') = wt ⟨m, hm⟩ c c') (hF : ∀ c' j, F (ix2 c' j) = wr c' j)
    (hp : pay = band320 A F) (h : Band (band wt wr p) m L) : Band (band wt wr p) (m + 1) (⟨Rect.unit (s := S768x768) ![o, lo] S64x320.size inb, pay⟩ :: L) :=
  Band.step (w := 320) (sh := 0) (inb := inb) (pay := pay) hm ho hs (Or.inr rfl) (by omega) (Or.inl (by omega))
    (rows320 hp hA (fun c' j => (hF c' j).trans (congrArg (wr c') (Fin.ext (Nat.zero_add _).symm)))) h

/-- The strip of 448 columns, as loaded. -/
def taps448 (arg : Memref sig .tc .vmem S64x448 .f32) (harg : arg.IsWhole) (x : Vec Ideal S64x448 .f32) : FVec Ideal S64x448 .f32 :=
  shapeCast S64x448 (arg.view.readAt (Elt Ideal) (Rect.unit (s := S64x448) ![0, 0] S64x448.size (by decide)).toLoadRect (harg.unread x)) shapeCasts_S64x448_S64x448

/-- Its entries. -/
theorem taps448_apply (arg : Memref sig .tc .vmem S64x448 .f32) (harg : arg.IsWhole) (x : Vec Ideal S64x448 .f32) (c : Fin 64) (j : Fin 448) :
    taps448 arg harg x (ix2 c j) = x (ix2 c j) :=
  strip_apply x (load_whole harg x (by decide) (by decide)) shapeCasts_S64x448_S64x448 c j

/-- One more time's rows at an inner time, which the whole strip of 448 columns reaches. -/
theorem Band.inner448 {p m o lo : ℕ} {wt : Fin 12 → Fin 64 → Fin 64 → EReal} {wr : Fin 64 → Fin 448 → EReal}
    {inb : ∀ a : Fin S768x768.rank, (![o, lo] : Fin S768x768.rank → ℕ) a + S64x448.size a ≤ S768x768.size a} {pay : FVec Ideal S64x448 .f32} {L : List (View.Piece (Elt Ideal) S768x768 (.f32 : EltTy))}
    (A : FVec Ideal S64x64 .f32) (F : FVec Ideal S64x448 .f32) (hm : m < 12) (ho : o = 64 * m) (hs : lo + p = o)
    (hA : ∀ c c', A (ix2 c c') = wt ⟨m, hm⟩ c c') (hF : ∀ c' j, F (ix2 c' j) = wr c' j)
    (hp : pay = band448 A F) (h : Band (band wt wr p) m L) : Band (band wt wr p) (m + 1) (⟨Rect.unit (s := S768x768) ![o, lo] S64x448.size inb, pay⟩ :: L) :=
  Band.step (w := 448) (sh := 0) (inb := inb) (pay := pay) hm ho hs (Or.inr rfl) (by omega) (Or.inl (by omega))
    (rows448 hp hA (fun c' j => (hF c' j).trans (congrArg (wr c') (Fin.ext (Nat.zero_add _).symm)))) h

/-- One more time's rows at an outer time, which 128 of the strip's 192 columns reach. -/
theorem Band.outer192_128 {p m o lo : ℕ} {wt : Fin 12 → Fin 64 → Fin 64 → EReal} {wr : Fin 64 → Fin 192 → EReal}
    {inb : ∀ a : Fin S768x768.rank, (![o, lo] : Fin S768x768.rank → ℕ) a + S64x128.size a ≤ S768x768.size a} {pay : FVec Ideal S64x128 .f32} {L : List (View.Piece (Elt Ideal) S768x768 (.f32 : EltTy))}
    (sh : ℕ) (A : FVec Ideal S64x64 .f32) (F : FVec Ideal S64x192 .f32) (hs : S64x192.Slices ![0, sh] S64x128) (hm : m < 12) (ho : o = 64 * m) (hsh : lo + p = o + sh) (hl : lo = 0 ∨ sh = 0)
    (hK : sh + 128 ≤ 192) (hw : sh + 128 = 192 ∨ lo + 128 = 768)
    (hA : ∀ c c', A (ix2 c c') = wt ⟨m, hm⟩ c c') (hF : ∀ c' j, F (ix2 c' j) = wr c' j)
    (hp : pay = band128 A (extractStridedSlice S64x128 ![0, sh] F hs)) (h : Band (band wt wr p) m L) :
    Band (band wt wr p) (m + 1) (⟨Rect.unit (s := S768x768) ![o, lo] S64x128.size inb, pay⟩ :: L) :=
  Band.step (w := 128) (sh := sh) (inb := inb) (pay := pay) hm ho hsh hl hK hw (rows128 hp hA (cut_apply (w := 128) (sh := sh) hF hs rfl hK)) h

/-- One more time's rows at an outer time, which 192 of the strip's 320 columns reach. -/
theorem Band.outer320_192 {p m o lo : ℕ} {wt : Fin 12 → Fin 64 → Fin 64 → EReal} {wr : Fin 64 → Fin 320 → EReal}
    {inb : ∀ a : Fin S768x768.rank, (![o, lo] : Fin S768x768.rank → ℕ) a + S64x192.size a ≤ S768x768.size a} {pay : FVec Ideal S64x192 .f32} {L : List (View.Piece (Elt Ideal) S768x768 (.f32 : EltTy))}
    (sh : ℕ) (A : FVec Ideal S64x64 .f32) (F : FVec Ideal S64x320 .f32) (hs : S64x320.Slices ![0, sh] S64x192) (hm : m < 12) (ho : o = 64 * m) (hsh : lo + p = o + sh) (hl : lo = 0 ∨ sh = 0)
    (hK : sh + 192 ≤ 320) (hw : sh + 192 = 320 ∨ lo + 192 = 768)
    (hA : ∀ c c', A (ix2 c c') = wt ⟨m, hm⟩ c c') (hF : ∀ c' j, F (ix2 c' j) = wr c' j)
    (hp : pay = band192 A (extractStridedSlice S64x192 ![0, sh] F hs)) (h : Band (band wt wr p) m L) :
    Band (band wt wr p) (m + 1) (⟨Rect.unit (s := S768x768) ![o, lo] S64x192.size inb, pay⟩ :: L) :=
  Band.step (w := 192) (sh := sh) (inb := inb) (pay := pay) hm ho hsh hl hK hw (rows192 hp hA (cut_apply (w := 192) (sh := sh) hF hs rfl hK)) h

/-- One more time's rows at an outer time, which 256 of the strip's 320 columns reach. -/
theorem Band.outer320_256 {p m o lo : ℕ} {wt : Fin 12 → Fin 64 → Fin 64 → EReal} {wr : Fin 64 → Fin 320 → EReal}
    {inb : ∀ a : Fin S768x768.rank, (![o, lo] : Fin S768x768.rank → ℕ) a + S64x256.size a ≤ S768x768.size a} {pay : FVec Ideal S64x256 .f32} {L : List (View.Piece (Elt Ideal) S768x768 (.f32 : EltTy))}
    (sh : ℕ) (A : FVec Ideal S64x64 .f32) (F : FVec Ideal S64x320 .f32) (hs : S64x320.Slices ![0, sh] S64x256) (hm : m < 12) (ho : o = 64 * m) (hsh : lo + p = o + sh) (hl : lo = 0 ∨ sh = 0)
    (hK : sh + 256 ≤ 320) (hw : sh + 256 = 320 ∨ lo + 256 = 768)
    (hA : ∀ c c', A (ix2 c c') = wt ⟨m, hm⟩ c c') (hF : ∀ c' j, F (ix2 c' j) = wr c' j)
    (hp : pay = band256 A (extractStridedSlice S64x256 ![0, sh] F hs)) (h : Band (band wt wr p) m L) :
    Band (band wt wr p) (m + 1) (⟨Rect.unit (s := S768x768) ![o, lo] S64x256.size inb, pay⟩ :: L) :=
  Band.step (w := 256) (sh := sh) (inb := inb) (pay := pay) hm ho hsh hl hK hw (rows256 hp hA (cut_apply (w := 256) (sh := sh) hF hs rfl hK)) h

/-- One more time's rows at an outer time, which 256 of the strip's 448 columns reach. -/
theorem Band.outer448_256 {p m o lo : ℕ} {wt : Fin 12 → Fin 64 → Fin 64 → EReal} {wr : Fin 64 → Fin 448 → EReal}
    {inb : ∀ a : Fin S768x768.rank, (![o, lo] : Fin S768x768.rank → ℕ) a + S64x256.size a ≤ S768x768.size a} {pay : FVec Ideal S64x256 .f32} {L : List (View.Piece (Elt Ideal) S768x768 (.f32 : EltTy))}
    (sh : ℕ) (A : FVec Ideal S64x64 .f32) (F : FVec Ideal S64x448 .f32) (hs : S64x448.Slices ![0, sh] S64x256) (hm : m < 12) (ho : o = 64 * m) (hsh : lo + p = o + sh) (hl : lo = 0 ∨ sh = 0)
    (hK : sh + 256 ≤ 448) (hw : sh + 256 = 448 ∨ lo + 256 = 768)
    (hA : ∀ c c', A (ix2 c c') = wt ⟨m, hm⟩ c c') (hF : ∀ c' j, F (ix2 c' j) = wr c' j)
    (hp : pay = band256 A (extractStridedSlice S64x256 ![0, sh] F hs)) (h : Band (band wt wr p) m L) :
    Band (band wt wr p) (m + 1) (⟨Rect.unit (s := S768x768) ![o, lo] S64x256.size inb, pay⟩ :: L) :=
  Band.step (w := 256) (sh := sh) (inb := inb) (pay := pay) hm ho hsh hl hK hw (rows256 hp hA (cut_apply (w := 256) (sh := sh) hF hs rfl hK)) h

/-- One more time's rows at an outer time, which 320 of the strip's 448 columns reach. -/
theorem Band.outer448_320 {p m o lo : ℕ} {wt : Fin 12 → Fin 64 → Fin 64 → EReal} {wr : Fin 64 → Fin 448 → EReal}
    {inb : ∀ a : Fin S768x768.rank, (![o, lo] : Fin S768x768.rank → ℕ) a + S64x320.size a ≤ S768x768.size a} {pay : FVec Ideal S64x320 .f32} {L : List (View.Piece (Elt Ideal) S768x768 (.f32 : EltTy))}
    (sh : ℕ) (A : FVec Ideal S64x64 .f32) (F : FVec Ideal S64x448 .f32) (hs : S64x448.Slices ![0, sh] S64x320) (hm : m < 12) (ho : o = 64 * m) (hsh : lo + p = o + sh) (hl : lo = 0 ∨ sh = 0)
    (hK : sh + 320 ≤ 448) (hw : sh + 320 = 448 ∨ lo + 320 = 768)
    (hA : ∀ c c', A (ix2 c c') = wt ⟨m, hm⟩ c c') (hF : ∀ c' j, F (ix2 c' j) = wr c' j)
    (hp : pay = band320 A (extractStridedSlice S64x320 ![0, sh] F hs)) (h : Band (band wt wr p) m L) :
    Band (band wt wr p) (m + 1) (⟨Rect.unit (s := S768x768) ![o, lo] S64x320.size inb, pay⟩ :: L) :=
  Band.step (w := 320) (sh := sh) (inb := inb) (pay := pay) hm ho hsh hl hK hw (rows320 hp hA (cut_apply (w := 320) (sh := sh) hF hs rfl hK)) h

/-- One more time's rows at an outer time, which 384 of the strip's 448 columns reach. -/
theorem Band.outer448_384 {p m o lo : ℕ} {wt : Fin 12 → Fin 64 → Fin 64 → EReal} {wr : Fin 64 → Fin 448 → EReal}
    {inb : ∀ a : Fin S768x768.rank, (![o, lo] : Fin S768x768.rank → ℕ) a + S64x384.size a ≤ S768x768.size a} {pay : FVec Ideal S64x384 .f32} {L : List (View.Piece (Elt Ideal) S768x768 (.f32 : EltTy))}
    (sh : ℕ) (A : FVec Ideal S64x64 .f32) (F : FVec Ideal S64x448 .f32) (hs : S64x448.Slices ![0, sh] S64x384) (hm : m < 12) (ho : o = 64 * m) (hsh : lo + p = o + sh) (hl : lo = 0 ∨ sh = 0)
    (hK : sh + 384 ≤ 448) (hw : sh + 384 = 448 ∨ lo + 384 = 768)
    (hA : ∀ c c', A (ix2 c c') = wt ⟨m, hm⟩ c c') (hF : ∀ c' j, F (ix2 c' j) = wr c' j)
    (hp : pay = band384 A (extractStridedSlice S64x384 ![0, sh] F hs)) (h : Band (band wt wr p) m L) :
    Band (band wt wr p) (m + 1) (⟨Rect.unit (s := S768x768) ![o, lo] S64x384.size inb, pay⟩ :: L) :=
  Band.step (w := 384) (sh := sh) (inb := inb) (pay := pay) hm ho hsh hl hK hw (rows384 hp hA (cut_apply (w := 384) (sh := sh) hF hs rfl hK)) h

variable (c : Dev nD) (arg0 : Memref sig .tc .vmem S3328x12 .f32) (harg0 : arg0.IsWhole) (arg1 : Memref sig .tc .vmem S1x192 .f32) (harg1 : arg1.IsWhole) (arg2 : Memref sig .tc .vmem S192x64 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S3x12x64x64 .f32) (harg11 : arg11.IsWhole) (arg12 : Memref sig .tc .vmem S64x192 .f32) (harg12 : arg12.IsWhole) (arg13 : Memref sig .tc .vmem S64x320 .f32) (harg13 : arg13.IsWhole) (arg14 : Memref sig .tc .vmem S64x448 .f32) (harg14 : arg14.IsWhole) (arg15 : Memref sig .tc .vmem S3x1x768 .f32) (harg15 : arg15.IsWhole) (arg16 : Memref sig .tc .vmem S104x1 .f32) (harg16 : arg16.IsWhole) (arg17 : Memref sig .tc .vmem S32x100x768 .f32) (harg17 : arg17.IsWhole) (arg18 : Memref sig .tc .vmem S3328x768 .f32) (harg18 : arg18.IsWhole) (arg19 : Memref sig .tc .vmem S3328x768 .f32) (harg19 : arg19.IsWhole) (arg20 : Memref sig .tc .vmem S3328x104 .f32) (harg20 : arg20.IsWhole) (arg21 : Memref sig .tc .vmem S768x768 .f32) (harg21 : arg21.IsWhole) (x0 : Vec Ideal S3328x12 .f32) (x1 : Vec Ideal S1x192 .f32) (x2 : Vec Ideal S192x64 .f32) (x3 : Vec Ideal S1x192 .f32) (x4 : Vec Ideal S1x192 .f32) (x5 : Vec Ideal S64x32 .f32) (x6 : Vec Ideal S1x32 .f32) (x7 : Vec Ideal S64x32 .f32) (x8 : Vec Ideal S1x32 .f32) (x9 : Vec Ideal S1x64 .f32) (x10 : Vec Ideal S1x64 .f32) (x11 : Vec Ideal S3x12x64x64 .f32) (x12 : Vec Ideal S64x192 .f32) (x13 : Vec Ideal S64x320 .f32) (x14 : Vec Ideal S64x448 .f32) (x15 : Vec Ideal S3x1x768 .f32) (x16 : Vec Ideal S104x1 .f32)

/-- A store of zeros over everything leaves zeros. -/
theorem zeroed (L : List (View.Piece (Elt Ideal) S768x768 (.f32 : EltTy))) (G : Fin 768 → Fin 768 → EReal) (inb) :
    Band G 0 (⟨Rect.unit (s := S768x768) ![0, 0] S768x768.size inb, kernelRun0_A.sl.v1724 (F := Ideal)⟩ :: L) := by
  intro y
  rw [View.canon_cons_unit_zero (by funext a; revert a; decide), if_neg (by omega)]
  unfold kernelRun0_A.sl.v1724 kernelRun0_A.sl.v1721 kernelRun0_A.sl.cst
  idx_vars y
  pointwise []

/-- The matrix of block 1, as the stores leave it: the band over its taps and its strip. -/
theorem band_0 : Band (band (fun τ c c' => x11 (ix4 0 τ c c')) (fun c' j => x12 (ix2 c' j)) 64) 12 (kernelRun0_A.sl.HS3_13 (F := Ideal) c arg11 harg11 arg12 harg12 x11 x12) := by
  refine Band.outer192_128 0 (tap arg11 harg11 x11 0 _ (by decide)) (taps192 arg12 harg12 x12) (by decide) (by decide) (by decide) (by decide) (by decide) (by decide) (by decide) (tap_apply arg11 harg11 x11 _ (by decide) (by decide)) (taps192_apply arg12 harg12 x12) (by sl_kernel_rfl) ?_
  iterate 10 refine Band.inner192 (tap arg11 harg11 x11 0 _ (by decide)) (taps192 arg12 harg12 x12) (by decide) (by decide) (by decide) (tap_apply arg11 harg11 x11 _ (by decide) (by decide)) (taps192_apply arg12 harg12 x12) (by sl_kernel_rfl) ?_
  refine Band.outer192_128 64 (tap arg11 harg11 x11 0 _ (by decide)) (taps192 arg12 harg12 x12) (by decide) (by decide) (by decide) (by decide) (by decide) (by decide) (by decide) (tap_apply arg11 harg11 x11 _ (by decide) (by decide)) (taps192_apply arg12 harg12 x12) (by sl_kernel_rfl) ?_
  exact zeroed _ _ _

/-- The matrix of block 2, as the stores leave it: the band over its taps and its strip. -/
theorem band_1 : Band (band (fun τ c c' => x11 (ix4 1 τ c c')) (fun c' j => x13 (ix2 c' j)) 128) 12 (kernelRun0_A.sl.HS3_26 (F := Ideal) c arg11 harg11 arg12 harg12 arg13 harg13 x11 x12 x13) := by
  refine Band.outer320_192 0 (tap arg11 harg11 x11 1 _ (by decide)) (taps320 arg13 harg13 x13) (by decide) (by decide) (by decide) (by decide) (by decide) (by decide) (by decide) (tap_apply arg11 harg11 x11 _ (by decide) (by decide)) (taps320_apply arg13 harg13 x13) (by sl_kernel_rfl) ?_
  refine Band.outer320_256 0 (tap arg11 harg11 x11 1 _ (by decide)) (taps320 arg13 harg13 x13) (by decide) (by decide) (by decide) (by decide) (by decide) (by decide) (by decide) (tap_apply arg11 harg11 x11 _ (by decide) (by decide)) (taps320_apply arg13 harg13 x13) (by sl_kernel_rfl) ?_
  iterate 8 refine Band.inner320 (tap arg11 harg11 x11 1 _ (by decide)) (taps320 arg13 harg13 x13) (by decide) (by decide) (by decide) (tap_apply arg11 harg11 x11 _ (by decide) (by decide)) (taps320_apply arg13 harg13 x13) (by sl_kernel_rfl) ?_
  refine Band.outer320_256 64 (tap arg11 harg11 x11 1 _ (by decide)) (taps320 arg13 harg13 x13) (by decide) (by decide) (by decide) (by decide) (by decide) (by decide) (by decide) (tap_apply arg11 harg11 x11 _ (by decide) (by decide)) (taps320_apply arg13 harg13 x13) (by sl_kernel_rfl) ?_
  refine Band.outer320_192 128 (tap arg11 harg11 x11 1 _ (by decide)) (taps320 arg13 harg13 x13) (by decide) (by decide) (by decide) (by decide) (by decide) (by decide) (by decide) (tap_apply arg11 harg11 x11 _ (by decide) (by decide)) (taps320_apply arg13 harg13 x13) (by sl_kernel_rfl) ?_
  exact zeroed _ _ _

/-- The matrix of block 3, as the stores leave it: the band over its taps and its strip. -/
theorem band_2 : Band (band (fun τ c c' => x11 (ix4 2 τ c c')) (fun c' j => x14 (ix2 c' j)) 192) 12 (kernelRun0_A.sl.HS3_39 (F := Ideal) c arg11 harg11 arg12 harg12 arg13 harg13 arg14 harg14 x11 x12 x13 x14) := by
  refine Band.outer448_256 0 (tap arg11 harg11 x11 2 _ (by decide)) (taps448 arg14 harg14 x14) (by decide) (by decide) (by decide) (by decide) (by decide) (by decide) (by decide) (tap_apply arg11 harg11 x11 _ (by decide) (by decide)) (taps448_apply arg14 harg14 x14) (by sl_kernel_rfl) ?_
  refine Band.outer448_320 0 (tap arg11 harg11 x11 2 _ (by decide)) (taps448 arg14 harg14 x14) (by decide) (by decide) (by decide) (by decide) (by decide) (by decide) (by decide) (tap_apply arg11 harg11 x11 _ (by decide) (by decide)) (taps448_apply arg14 harg14 x14) (by sl_kernel_rfl) ?_
  refine Band.outer448_384 0 (tap arg11 harg11 x11 2 _ (by decide)) (taps448 arg14 harg14 x14) (by decide) (by decide) (by decide) (by decide) (by decide) (by decide) (by decide) (tap_apply arg11 harg11 x11 _ (by decide) (by decide)) (taps448_apply arg14 harg14 x14) (by sl_kernel_rfl) ?_
  iterate 6 refine Band.inner448 (tap arg11 harg11 x11 2 _ (by decide)) (taps448 arg14 harg14 x14) (by decide) (by decide) (by decide) (tap_apply arg11 harg11 x11 _ (by decide) (by decide)) (taps448_apply arg14 harg14 x14) (by sl_kernel_rfl) ?_
  refine Band.outer448_384 64 (tap arg11 harg11 x11 2 _ (by decide)) (taps448 arg14 harg14 x14) (by decide) (by decide) (by decide) (by decide) (by decide) (by decide) (by decide) (tap_apply arg11 harg11 x11 _ (by decide) (by decide)) (taps448_apply arg14 harg14 x14) (by sl_kernel_rfl) ?_
  refine Band.outer448_320 128 (tap arg11 harg11 x11 2 _ (by decide)) (taps448 arg14 harg14 x14) (by decide) (by decide) (by decide) (by decide) (by decide) (by decide) (by decide) (tap_apply arg11 harg11 x11 _ (by decide) (by decide)) (taps448_apply arg14 harg14 x14) (by sl_kernel_rfl) ?_
  refine Band.outer448_256 192 (tap arg11 harg11 x11 2 _ (by decide)) (taps448 arg14 harg14 x14) (by decide) (by decide) (by decide) (by decide) (by decide) (by decide) (by decide) (tap_apply arg11 harg11 x11 _ (by decide) (by decide)) (taps448_apply arg14 harg14 x14) (by sl_kernel_rfl) ?_
  exact zeroed _ _ _

end Cert.KernelIdeal.Body

end
-- ==== Proof.FusedBlocks.lean ====
module

public import proofs.«01_k».proof.Proof.FusedBand

@[expose] public section

set_option maxRecDepth 16384
set_option maxHeartbeats 400000

noncomputable section

namespace Cert.KernelIdeal.Body

open Idealize.ShloMosaic Idealize.SL.Sem Cert.KernelIdeal Cert.KernelIdeal.Gen

/-- The first features at one time: the samples' column times the input weights, plus their bias. -/
def featV (x : Vec Ideal S3328x1 .f32) (w b : Vec Ideal S1x64 .f32) : FVec Ideal S3328x64 .f32 :=
  shapeCast S3328x64 (addf (mulf (broadcastTo S3328x64 (shapeCast S3328x1 x shapeCasts_S3328x1_S3328x1) broadcasts_S3328x1_S3328x64)
      (broadcastTo S3328x64 (shapeCast S1x64 w shapeCasts_S1x64_S1x64) broadcasts_S1x64_S3328x64))
    (broadcastTo S3328x64 (shapeCast S1x64 b shapeCasts_S1x64_S1x64) broadcasts_S1x64_S3328x64)) shapeCasts_S3328x64_S3328x64

/-- Its entries. -/
theorem featV_apply (x : Vec Ideal S3328x1 .f32) (w b : Vec Ideal S1x64 .f32) (r : Fin 3328) (d : Fin 64) :
    featV x w b (ix2 r d) = x (ix2 r 0) * w (ix2 0 d) + b (ix2 0 d) := by
  pointwise [featV]

/-- The first features of all rows, all times side by side. -/
def feat (x : Vec Ideal S3328x12 .f32) (w b : Vec Ideal S1x64 .f32) : Vec Ideal S3328x768 .f32 := fun y =>
  x (ix2 (show Fin 3328 from y 0) ⟨(show Fin 768 from y 1).val / 64, by have := (show Fin 768 from y 1).isLt; omega⟩)
      * w (ix2 0 ⟨(show Fin 768 from y 1).val % 64, by omega⟩) + b (ix2 0 ⟨(show Fin 768 from y 1).val % 64, by omega⟩)

/-- The features at one time are a slice of them all. -/
theorem feat_piece {arg0 : Memref sig .tc .vmem S3328x12 .f32} (h : arg0.IsWhole) (x : Vec Ideal S3328x12 .f32) (w b : Vec Ideal S1x64 .f32) (t o : ℕ)
    (inc : ∀ a : Fin S3328x12.rank, (![0, t] : Fin S3328x12.rank → ℕ) a + S3328x1.size a ≤ S3328x12.size a)
    (inb : ∀ a : Fin S3328x768.rank, (![0, o] : Fin S3328x768.rank → ℕ) a + S3328x64.size a ≤ S3328x768.size a) (ht : t < 12) (ho : o = 64 * t)
    (y : (Rect.unit (s := S3328x768) ![0, o] S3328x64.size inb).shape.Idx) :
    featV (col h x t inc) w b y = feat x w b ((Rect.unit (s := S3328x768) ![0, o] S3328x64.size inb).emb y) := by
  obtain ⟨r, d, rfl⟩ : ∃ (r : Fin 3328) (d : Fin 64), y = ix2 r d := ⟨y 0, y 1, by
    funext a
    match a with
    | ⟨0, _⟩ => rfl
    | ⟨1, _⟩ => rfl⟩
  refine (featV_apply _ w b r d).trans ?_
  rw [col_apply h x t inc r ht]
  have hd := d.isLt
  have e0 : ((Rect.unit (s := S3328x768) ![0, o] S3328x64.size inb).emb (ix2 r d) 0).val = r.val := (Rect.idx_unit_val _ _ inb (ix2 r d) 0).trans (Nat.zero_add _)
  have e1 : ((Rect.unit (s := S3328x768) ![0, o] S3328x64.size inb).emb (ix2 r d) 1).val = o + d.val := Rect.idx_unit_val _ _ inb (ix2 r d) 1
  generalize (Rect.unit (s := S3328x768) ![0, o] S3328x64.size inb).emb (ix2 r d) = z at e0 e1
  unfold feat
  have f0 : (show Fin 3328 from z 0) = r := Fin.ext e0
  have f1 : (⟨(show Fin 768 from z 1).val / 64, by have := (show Fin 768 from z 1).isLt; omega⟩ : Fin 12) = ⟨t, ht⟩ := Fin.ext (by show (z 1).val / 64 = t; omega)
  have f2 : (⟨(show Fin 768 from z 1).val % 64, by omega⟩ : Fin 64) = d := Fin.ext (by show (z 1).val % 64 = d.val; omega)
  rw [f0, f1, f2]

/-- The product of the features with a block's matrix. -/
def prodV (F : Vec Ideal S3328x768 .f32) (M : Vec Ideal S768x768 .f32) : FVec Ideal S3328x768 .f32 :=
  shapeCast S3328x768 (matmul (F := Ideal) (φ₁ := .f32) (φ₂ := .f32) dot_S3328x768_S768x768_S3328x768_1_0_0_1_n_n none F M (constant S3328x768 .f32 0x00000000#32)) shapeCasts_S3328x768_S3328x768

/-- Its entries. -/
theorem prodV_apply (F : Vec Ideal S3328x768 .f32) (M : Vec Ideal S768x768 .f32) (r : Fin 3328) (q : Fin 768) :
    prodV F M (ix2 r q) = ∑ k, F (ix2 r k) * M (ix2 k q) := by
  pointwise [prodV]

/-- Aggregating one block of rows over its in-edges and adding the bias. -/
def aggV (w : Vec Ideal S104x104 .f32) (g : Vec Ideal S104x768 .f32) (b : Vec Ideal S1x1x768 .f32) : FVec Ideal S104x768 .f32 :=
  addf (matmul (F := Ideal) (φ₁ := .f32) (φ₂ := .f32) dot_S104x104_S104x768_S104x768_0_0_1_1_n_n none w g (constant S104x768 .f32 0x00000000#32))
    (broadcastTo S104x768 (shapeCast S1x768 b shapeCasts_S1x1x768_S1x768) broadcasts_S1x768_S104x768)

/-- The activation of a whole block. -/
def actV (o : FVec Ideal S104x768 .f32) : FVec Ideal S104x768 .f32 :=
  select (cmpf .oge o (broadcast S104x768 (Scalar.ofBits .f32 0x00000000#32))) o (mulf (broadcast S104x768 (Scalar.ofBits .f32 0x3C23D70A#32)) o)

/-- The activation: a hundredth of what is negative. -/
def leaky (o : EReal) : EReal := if 0 ≤ o then o else Ideal.ofBits .f32 0x3C23D70A#32 * o

/-- One block's layer, entry by entry. -/
def lay (w : Fin 104 → Fin 104 → EReal) (g : Fin 104 → Fin 768 → EReal) (b : Fin 768 → EReal) (l : Fin 104) (q : Fin 768) : EReal :=
  leaky (∑ i, w i l * g i q + b q)

/-- What the layer stores, entry by entry. -/
theorem act_apply (w : Vec Ideal S104x104 .f32) (g : Vec Ideal S104x768 .f32) (b : Vec Ideal S1x1x768 .f32) (l : Fin 104) (q : Fin 768) :
    actV (aggV w g b) (ix2 l q) = lay (fun i l => w (ix2 i l)) (fun i q => g (ix2 i q)) (fun q => b (ix3 0 0 q)) l q := by
  pointwise [actV, aggV]
  rfl

/-- A layer's features, of all rows. -/
def layG (w : Vec Ideal S3328x104 .f32) (g : Vec Ideal S3328x768 .f32) (b : Fin 768 → EReal) : Vec Ideal S3328x768 .f32 := fun y =>
  lay (fun i l => w (ix2 (blk (show Fin 3328 from y 0) i) l)) (fun i q => g (ix2 (blk (show Fin 3328 from y 0) i) q)) b (lane (show Fin 3328 from y 0)) (show Fin 768 from y 1)

/-- The last layer's features, a sample's hundred rows at a time. -/
def lastG (w : Vec Ideal S3328x104 .f32) (g : Vec Ideal S3328x768 .f32) (b : Fin 768 → EReal) : Vec Ideal S32x100x768 .f32 := fun y =>
  lay (fun i l => w (ix2 (⟨104 * (show Fin 32 from y 0).val + i.val, by have := (show Fin 32 from y 0).isLt; omega⟩ : Fin 3328) l))
    (fun i q => g (ix2 (⟨104 * (show Fin 32 from y 0).val + i.val, by have := (show Fin 32 from y 0).isLt; omega⟩ : Fin 3328) q)) b
    ⟨(show Fin 100 from y 1).val, by have := (show Fin 100 from y 1).isLt; omega⟩ (show Fin 768 from y 2)

/-- A block of rows read from what the stores left in a scratch. -/
theorem read_rows {κ : Kind} {sp : Space} {n k w : ℕ} (v : View sig κ sp ⟨2, ![n, w]⟩ (.f32 : EltTy)) (L : List (View.Piece (Elt Ideal) ⟨2, ![n, w]⟩ (.f32 : EltTy)))
    (o : ℕ) (inb : ∀ a : Fin 2, (![o, 0] : Fin 2 → ℕ) a + (![k, w] : Fin 2 → ℕ) a ≤ (![n, w] : Fin 2 → ℕ) a) (i : Fin k) (l : Fin w) (hi : o + i.val < n) :
    v.readCov L (Rect.unit (s := ⟨2, ![n, w]⟩) ![o, 0] ![k, w] inb).toLoadRect (ix2 i l) = View.canon L (ix2 ⟨o + i.val, hi⟩ l) := by
  rw [View.readCov_eq_canon']
  refine congrArg (View.canon L) (funext fun a => Fin.ext ((Rect.idx_unit_val _ _ inb (ix2 i l) a).trans ?_))
  match a with
  | ⟨0, _⟩ => rfl
  | ⟨1, _⟩ => exact Nat.zero_add _

/-- The rows before `o` hold the layer. -/
def Done (G : Vec Ideal S3328x768 .f32) (o : ℕ) (L : List (View.Piece (Elt Ideal) S3328x768 (.f32 : EltTy))) : Prop :=
  ∀ y : S3328x768.Idx, (y 0).val < o → View.canon L y = G y

/-- One more block of rows. -/
theorem Done.step {o o' : ℕ} {Lw : List (View.Piece (Elt Ideal) S3328x104 (.f32 : EltTy))} {Lg L : List (View.Piece (Elt Ideal) S3328x768 (.f32 : EltTy))}
    {κ κ' : Kind} {sp sp' : Space} {vw : View sig κ sp S3328x104 .f32} {vg : View sig κ' sp' S3328x768 .f32} {b : Vec Ideal S1x1x768 .f32} {p : FVec Ideal S104x768 .f32}
    {inb : ∀ a : Fin S3328x768.rank, (![o, 0] : Fin S3328x768.rank → ℕ) a + S104x768.size a ≤ S3328x768.size a} (ho : o % 104 = 0) (ho' : o' = o + 104)
    (inw : ∀ a : Fin S3328x104.rank, (![o, 0] : Fin S3328x104.rank → ℕ) a + S104x104.size a ≤ S3328x104.size a)
    (hp : p = shapeCast S104x768 (actV (aggV (vw.readCov Lw (rows o inw).toLoadRect) (vg.readCov Lg (Rect.unit (s := S3328x768) ![o, 0] S104x768.size inb).toLoadRect) b)) shapeCasts_S104x768_S104x768)
    (h : Done (layG (View.canon Lw) (View.canon Lg) (fun q => b (ix3 0 0 q))) o L) :
    Done (layG (View.canon Lw) (View.canon Lg) (fun q => b (ix3 0 0 q))) o' (⟨Rect.unit (s := S3328x768) ![o, 0] S104x768.size inb, p⟩ :: L) := by
  have h0 : o + 104 ≤ 3328 := inb 0
  intro y hy
  by_cases hs : y ∈ (Rect.unit (s := S3328x768) ![o, 0] S104x768.size inb).set
  · obtain ⟨x, hxy⟩ := (Rect.unit (s := S3328x768) ![o, 0] S104x768.size inb).exists_idx_of_mem hs
    obtain ⟨l, q, rfl⟩ : ∃ (l : Fin 104) (q : Fin 768), x = ix2 l q := ⟨x 0, x 1, by
      funext a
      match a with
      | ⟨0, _⟩ => rfl
      | ⟨1, _⟩ => rfl⟩
    have hv : View.canon (⟨Rect.unit (s := S3328x768) ![o, 0] S104x768.size inb, p⟩ :: L) y = p (ix2 l q) := by
      rw [← hxy]
      exact View.canon_cons_emb (Rect.unit (s := S3328x768) ![o, 0] S104x768.size inb) p L (ix2 l q)
    have e0 : (y 0).val = o + l.val := by
      have e := Rect.idx_unit_val (s := S3328x768) ![o, 0] S104x768.size inb (ix2 l q) 0
      rw [← hxy]; exact e
    have e1 : (y 1).val = q.val := by
      have e := Rect.idx_unit_val (s := S3328x768) ![o, 0] S104x768.size inb (ix2 l q) 1
      rw [← hxy]; exact e.trans (Nat.zero_add _)
    rw [hv, hp, shapeCast_id]
    refine (act_apply _ _ _ l q).trans ?_
    unfold layG
    have hl := l.isLt
    have f1 : (show Fin 768 from y 1) = q := Fin.ext e1
    have f2 : lane (show Fin 3328 from y 0) = l := Fin.ext (by show (y 0).val % 104 = l.val; omega)
    have f3 : ∀ i : Fin 104, blk (show Fin 3328 from y 0) i = ⟨o + i.val, by omega⟩ := fun i => Fin.ext (by show (y 0).val / 104 * 104 + i.val = o + i.val; omega)
    rw [f1, f2]
    simp only [f3]
    have g1 : (fun i l => vw.readCov Lw (rows o inw).toLoadRect (ix2 i l)) = fun (i l : Fin 104) => View.canon Lw (ix2 (⟨o + i.val, by omega⟩ : Fin 3328) l) :=
      funext fun i => funext fun l => read_rows vw Lw o inw i l (by omega)
    have g2 : (fun i q => vg.readCov Lg (Rect.unit (s := S3328x768) ![o, 0] S104x768.size inb).toLoadRect (ix2 i q)) = fun (i : Fin 104) (q : Fin 768) => View.canon Lg (ix2 (⟨o + i.val, by omega⟩ : Fin 3328) q) :=
      funext fun i => funext fun q => read_rows vg Lg o inb i q (by omega)
    exact congrArg₂ (fun a c => lay a c (fun q => b (ix3 0 0 q)) l q) g1 g2
  · rw [View.canon_cons_of_not_mem ⟨Rect.unit (s := S3328x768) ![o, 0] S104x768.size inb, p⟩ L hs]
    refine h y ?_
    rcases Nat.lt_or_ge (y 0).val o with hlt | hge
    · exact hlt
    · exact absurd (Rect.mem_set_unit.mpr fun a => by
        match a with
        | ⟨0, _⟩ => exact ⟨hge, ho' ▸ hy⟩
        | ⟨1, _⟩ => exact ⟨Nat.zero_le _, lt_of_lt_of_eq (y 1).isLt (Nat.zero_add 768).symm⟩) hs

/-- The samples before `g` hold the last layer. -/
def Out (G : Vec Ideal S32x100x768 .f32) (g : ℕ) (L : List (View.Piece (Elt Ideal) S32x100x768 (.f32 : EltTy))) : Prop :=
  ∀ y : S32x100x768.Idx, (y 0).val < g → View.canon L y = G y

/-- A sample's rows as stored: the hundred first of its block. -/
def cutV (a : FVec Ideal S104x768 .f32) : FVec Ideal S1x100x768 .f32 :=
  shapeCast S1x100x768 (extractStridedSlice S100x768 ![0, 0] a slices_S104x768_o0_0_S100x768) shapeCasts_S100x768_S1x100x768

/-- Its entries. -/
theorem cutV_apply (a : FVec Ideal S104x768 .f32) (n : Fin 100) (q : Fin 768) : cutV a (ix3 0 n q) = a (ix2 ⟨n.val, by omega⟩ q) := by
  pointwise [cutV]

/-- One more sample. -/
theorem Out.step {g g' o : ℕ} {Lw : List (View.Piece (Elt Ideal) S3328x104 (.f32 : EltTy))} {Lg : List (View.Piece (Elt Ideal) S3328x768 (.f32 : EltTy))}
    {L : List (View.Piece (Elt Ideal) S32x100x768 (.f32 : EltTy))}
    {κ κ' : Kind} {sp sp' : Space} {vw : View sig κ sp S3328x104 .f32} {vg : View sig κ' sp' S3328x768 .f32} {b : Vec Ideal S1x1x768 .f32} {p : FVec Ideal S1x100x768 .f32}
    {inb : ∀ a : Fin S32x100x768.rank, (![g, 0, 0] : Fin S32x100x768.rank → ℕ) a + S1x100x768.size a ≤ S32x100x768.size a} (ho : o = 104 * g) (hg' : g' = g + 1)
    (inw : ∀ a : Fin S3328x104.rank, (![o, 0] : Fin S3328x104.rank → ℕ) a + S104x104.size a ≤ S3328x104.size a)
    (ing : ∀ a : Fin S3328x768.rank, (![o, 0] : Fin S3328x768.rank → ℕ) a + S104x768.size a ≤ S3328x768.size a)
    (hp : p = cutV (actV (aggV (vw.readCov Lw (rows o inw).toLoadRect) (vg.readCov Lg (Rect.unit (s := S3328x768) ![o, 0] S104x768.size ing).toLoadRect) b)))
    (h : Out (lastG (View.canon Lw) (View.canon Lg) (fun q => b (ix3 0 0 q))) g L) :
    Out (lastG (View.canon Lw) (View.canon Lg) (fun q => b (ix3 0 0 q))) g' (⟨Rect.unit (s := S32x100x768) ![g, 0, 0] S1x100x768.size inb, p⟩ :: L) := by
  have h0 : g + 1 ≤ 32 := inb 0
  intro y hy
  by_cases hs : y ∈ (Rect.unit (s := S32x100x768) ![g, 0, 0] S1x100x768.size inb).set
  · obtain ⟨x, hxy⟩ := (Rect.unit (s := S32x100x768) ![g, 0, 0] S1x100x768.size inb).exists_idx_of_mem hs
    obtain ⟨z, n, q, rfl⟩ : ∃ (z : Fin 1) (n : Fin 100) (q : Fin 768), x = ix3 z n q := ⟨x 0, x 1, x 2, by
      funext a
      match a with
      | ⟨0, _⟩ => rfl
      | ⟨1, _⟩ => rfl
      | ⟨2, _⟩ => rfl⟩
    obtain rfl : z = 0 := Subsingleton.elim _ _
    have hv : View.canon (⟨Rect.unit (s := S32x100x768) ![g, 0, 0] S1x100x768.size inb, p⟩ :: L) y = p (ix3 0 n q) := by
      rw [← hxy]
      exact View.canon_cons_emb (Rect.unit (s := S32x100x768) ![g, 0, 0] S1x100x768.size inb) p L (ix3 0 n q)
    have e0 : (y 0).val = g := by
      have e := Rect.idx_unit_val (s := S32x100x768) ![g, 0, 0] S1x100x768.size inb (ix3 0 n q) 0
      rw [← hxy]; exact e
    have e1 : (y 1).val = n.val := by
      have e := Rect.idx_unit_val (s := S32x100x768) ![g, 0, 0] S1x100x768.size inb (ix3 0 n q) 1
      rw [← hxy]; exact e.trans (Nat.zero_add _)
    have e2 : (y 2).val = q.val := by
      have e := Rect.idx_unit_val (s := S32x100x768) ![g, 0, 0] S1x100x768.size inb (ix3 0 n q) 2
      rw [← hxy]; exact e.trans (Nat.zero_add _)
    rw [hv, hp, cutV_apply]
    refine (act_apply _ _ _ _ q).trans ?_
    unfold lastG
    have f1 : (show Fin 768 from y 2) = q := Fin.ext e2
    have f2 : (⟨(show Fin 100 from y 1).val, by have := (show Fin 100 from y 1).isLt; omega⟩ : Fin 104) = ⟨n.val, by omega⟩ := Fin.ext e1
    have f3 : ∀ i : Fin 104, (⟨104 * (show Fin 32 from y 0).val + i.val, by have := (show Fin 32 from y 0).isLt; omega⟩ : Fin 3328) = ⟨o + i.val, by omega⟩ :=
      fun i => Fin.ext (by show 104 * (y 0).val + i.val = o + i.val; omega)
    rw [f1, f2]
    simp only [f3]
    have g1 : (fun i l => vw.readCov Lw (rows o inw).toLoadRect (ix2 i l)) = fun (i l : Fin 104) => View.canon Lw (ix2 (⟨o + i.val, by omega⟩ : Fin 3328) l) :=
      funext fun i => funext fun l => read_rows vw Lw o inw i l (by omega)
    have g2 : (fun i q => vg.readCov Lg (Rect.unit (s := S3328x768) ![o, 0] S104x768.size ing).toLoadRect (ix2 i q)) = fun (i : Fin 104) (q : Fin 768) => View.canon Lg (ix2 (⟨o + i.val, by omega⟩ : Fin 3328) q) :=
      funext fun i => funext fun q => read_rows vg Lg o ing i q (by omega)
    exact congrArg₂ (fun a c => lay a c (fun q => b (ix3 0 0 q)) _ q) g1 g2
  · rw [View.canon_cons_of_not_mem ⟨Rect.unit (s := S32x100x768) ![g, 0, 0] S1x100x768.size inb, p⟩ L hs]
    refine h y ?_
    rcases Nat.lt_or_ge (y 0).val g with hlt | hge
    · exact hlt
    · exact absurd (Rect.mem_set_unit.mpr fun a => by
        match a with
        | ⟨0, _⟩ => exact ⟨hge, hg' ▸ hy⟩
        | ⟨1, _⟩ => exact ⟨Nat.zero_le _, lt_of_lt_of_eq (y 1).isLt (Nat.zero_add 100).symm⟩
        | ⟨2, _⟩ => exact ⟨Nat.zero_le _, lt_of_lt_of_eq (y 2).isLt (Nat.zero_add 768).symm⟩) hs

/-- A layer's bias row, as loaded. -/
def bias (arg15 : Memref sig .tc .vmem S3x1x768 .f32) (harg15 : arg15.IsWhole) (x15 : Vec Ideal S3x1x768 .f32) (b : ℕ)
    (inb : ∀ a : Fin S3x1x768.rank, (![b, 0, 0] : Fin S3x1x768.rank → ℕ) a + S1x1x768.size a ≤ S3x1x768.size a) : Vec Ideal S1x1x768 .f32 :=
  arg15.view.readAt (Elt Ideal) (Rect.unit (s := S3x1x768) ![b, 0, 0] S1x1x768.size inb).toLoadRect (harg15.unread x15)

/-- Its entries. -/
theorem bias_apply (arg15 : Memref sig .tc .vmem S3x1x768 .f32) (harg15 : arg15.IsWhole) (x15 : Vec Ideal S3x1x768 .f32) {b : ℕ}
    (inb : ∀ a : Fin S3x1x768.rank, (![b, 0, 0] : Fin S3x1x768.rank → ℕ) a + S1x1x768.size a ≤ S3x1x768.size a) (hb : b < 3) (q : Fin 768) :
    bias arg15 harg15 x15 b inb (ix3 0 0 q) = x15 (ix3 ⟨b, hb⟩ 0 q) := by
  unfold bias
  rw [load_eq]
  refine congrArg x15 (funext fun a => Fin.ext ((Rect.idx_unit_val _ _ _ _ a).trans ?_))
  match a with
  | ⟨0, _⟩ => rfl
  | ⟨1, _⟩ => rfl
  | ⟨2, _⟩ => exact Nat.zero_add _

/-- The same, the time told by the column. -/
theorem feat_piece_at {arg0 : Memref sig .tc .vmem S3328x12 .f32} (h : arg0.IsWhole) (x : Vec Ideal S3328x12 .f32) (w b : Vec Ideal S1x64 .f32) (o : ℕ)
    (inc : ∀ a : Fin S3328x12.rank, (![0, o / 64] : Fin S3328x12.rank → ℕ) a + S3328x1.size a ≤ S3328x12.size a)
    (inb : ∀ a : Fin S3328x768.rank, (![0, o] : Fin S3328x768.rank → ℕ) a + S3328x64.size a ≤ S3328x768.size a) (ho : o % 64 = 0 ∧ o < 768)
    (y : (Rect.unit (s := S3328x768) ![0, o] S3328x64.size inb).shape.Idx) :
    featV (col h x (o / 64) inc) w b y = feat x w b ((Rect.unit (s := S3328x768) ![0, o] S3328x64.size inb).emb y) :=
  feat_piece h x w b (o / 64) o inc inb (by omega) (by omega) y

variable (c : Dev nD) (arg0 : Memref sig .tc .vmem S3328x12 .f32) (harg0 : arg0.IsWhole) (arg1 : Memref sig .tc .vmem S1x192 .f32) (harg1 : arg1.IsWhole) (arg2 : Memref sig .tc .vmem S192x64 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S3x12x64x64 .f32) (harg11 : arg11.IsWhole) (arg12 : Memref sig .tc .vmem S64x192 .f32) (harg12 : arg12.IsWhole) (arg13 : Memref sig .tc .vmem S64x320 .f32) (harg13 : arg13.IsWhole) (arg14 : Memref sig .tc .vmem S64x448 .f32) (harg14 : arg14.IsWhole) (arg15 : Memref sig .tc .vmem S3x1x768 .f32) (harg15 : arg15.IsWhole) (arg16 : Memref sig .tc .vmem S104x1 .f32) (harg16 : arg16.IsWhole) (arg17 : Memref sig .tc .vmem S32x100x768 .f32) (harg17 : arg17.IsWhole) (arg18 : Memref sig .tc .vmem S3328x768 .f32) (harg18 : arg18.IsWhole) (arg19 : Memref sig .tc .vmem S3328x768 .f32) (harg19 : arg19.IsWhole) (arg20 : Memref sig .tc .vmem S3328x104 .f32) (harg20 : arg20.IsWhole) (arg21 : Memref sig .tc .vmem S768x768 .f32) (harg21 : arg21.IsWhole) (x0 : Vec Ideal S3328x12 .f32) (x1 : Vec Ideal S1x192 .f32) (x2 : Vec Ideal S192x64 .f32) (x3 : Vec Ideal S1x192 .f32) (x4 : Vec Ideal S1x192 .f32) (x5 : Vec Ideal S64x32 .f32) (x6 : Vec Ideal S1x32 .f32) (x7 : Vec Ideal S64x32 .f32) (x8 : Vec Ideal S1x32 .f32) (x9 : Vec Ideal S1x64 .f32) (x10 : Vec Ideal S1x64 .f32) (x11 : Vec Ideal S3x12x64x64 .f32) (x12 : Vec Ideal S64x192 .f32) (x13 : Vec Ideal S64x320 .f32) (x14 : Vec Ideal S64x448 .f32) (x15 : Vec Ideal S3x1x768 .f32) (x16 : Vec Ideal S104x1 .f32)

/-- The first features, as stored. -/
theorem feats : View.canon (kernelRun0_A.sl.HS0_12 (F := Ideal) c arg0 harg0 arg9 harg9 arg10 harg10 x0 x9 x10) = feat x0 x9 x10 := by
  have all : View.canon (kernelRun0_A.sl.HS0_12 (F := Ideal) c arg0 harg0 arg9 harg9 arg10 harg10 x0 x9 x10) = feat x0 (arg9.view.readAt (Elt Ideal) (Rect.unit ![0, 0] S1x64.size (by decide)).toLoadRect (harg9.unread x9))
      (arg10.view.readAt (Elt Ideal) (Rect.unit ![0, 0] S1x64.size (by decide)).toLoadRect (harg10.unread x10)) := by
    funext y
    have hc : ∃ p ∈ (kernelRun0_A.sl.HS0_12 (F := Ideal) c arg0 harg0 arg9 harg9 arg10 harg10 x0 x9 x10), y ∈ p.1.set := View.cover_of_tiledL (kernelRun0_A.sl.HS0_12 (F := Ideal) c arg0 harg0 arg9 harg9 arg10 harg10 x0 x9 x10) S3328x64.size (by sl_kernel_rfl) y
    refine (congrArg (fun L => View.canon L y) (List.append_nil _).symm).trans (View.canon_append_of_piecesOf _ [] _ ?_ y hc)
    unfold kernelRun0_A.sl.HS0_12
    repeat refine ⟨fun x => Eq.trans (by sl_kernel_rfl) (feat_piece_at harg0 _ _ _ _ (by decide) (by decide) (by decide) x), ?_⟩
    exact trivial
  rw [all, load_whole harg9 x9 (by decide), load_whole harg10 x10 (by decide)]

/-- The first block's products. -/
theorem prod_0 : View.canon (kernelRun0_A.sl.HS1_1 (F := Ideal) c arg0 harg0 arg9 harg9 arg10 harg10 arg11 harg11 arg12 harg12 arg18 arg21 x0 x9 x10 x11 x12) = prodV (View.canon (kernelRun0_A.sl.HS0_12 (F := Ideal) c arg0 harg0 arg9 harg9 arg10 harg10 x0 x9 x10)) (View.canon (kernelRun0_A.sl.HS3_13 (F := Ideal) c arg11 harg11 arg12 harg12 x11 x12)) := by
  have e : (kernelRun0_A.sl.v1806 (F := Ideal) c arg0 harg0 arg9 harg9 arg10 harg10 arg11 harg11 arg12 harg12 arg18 arg21 x0 x9 x10 x11 x12) = prodV (arg18.view.readCov (kernelRun0_A.sl.HS0_12 (F := Ideal) c arg0 harg0 arg9 harg9 arg10 harg10 x0 x9 x10) (Rect.unit (s := S3328x768) ![0, 0] S3328x768.size (by decide)).toLoadRect)
      (arg21.view.readCov (kernelRun0_A.sl.HS3_13 (F := Ideal) c arg11 harg11 arg12 harg12 x11 x12) (Rect.unit (s := S768x768) ![0, 0] S768x768.size (by decide)).toLoadRect) := by sl_kernel_rfl
  unfold kernelRun0_A.sl.HS1_1
  rw [View.canon_cons_unit_zero (by funext a; revert a; decide), e, readCov_whole _ _ (by decide), readCov_whole _ _ (by decide)]

/-- The second block's products. -/
theorem prod_1 : View.canon (kernelRun0_A.sl.HS1_2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg21 x0 x1 x2 x3 x4 x5 x6 x7 x8 x9 x10 x11 x12 x13 x15 x16) = prodV (View.canon (kernelRun0_A.sl.HS0_44 (F := Ideal) c arg0 harg0 arg1 harg1 arg2 harg2 arg3 harg3 arg4 harg4 arg5 harg5 arg6 harg6 arg7 harg7 arg8 harg8 arg9 harg9 arg10 harg10 arg11 harg11 arg12 harg12 arg15 harg15 arg16 harg16 arg18 arg19 arg20 arg21 x0 x1 x2 x3 x4 x5 x6 x7 x8 x9 x10 x11 x12 x15 x16)) (View.canon (kernelRun0_A.sl.HS3_26 (F := Ideal) c arg11 harg11 arg12 harg12 arg13 harg13 x11 x12 x13)) := by
  have e : (kernelRun0_A.sl.v2312 (F := Ideal) c arg0 harg0 arg1 harg1 arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg21 x0 x1 x2 x3 x4 x5 x6 x7 x8 x9 x10 x11 x12 x13 x15 x16) = prodV (arg18.view.readCov (kernelRun0_A.sl.HS0_44 (F := Ideal) c arg0 harg0 arg1 harg1 arg2 harg2 arg3 harg3 arg4 harg4 arg5 harg5 arg6 harg6 arg7 harg7 arg8 harg8 arg9 harg9 arg10 harg10 arg11 harg11 arg12 harg12 arg15 harg15 arg16 harg16 arg18 arg19 arg20 arg21 x0 x1 x2 x3 x4 x5 x6 x7 x8 x9 x10 x11 x12 x15 x16) (Rect.unit (s := S3328x768) ![0, 0] S3328x768.size (by decide)).toLoadRect)
      (arg21.view.readCov (kernelRun0_A.sl.HS3_26 (F := Ideal) c arg11 harg11 arg12 harg12 arg13 harg13 x11 x12 x13) (Rect.unit (s := S768x768) ![0, 0] S768x768.size (by decide)).toLoadRect) := by sl_kernel_rfl
  unfold kernelRun0_A.sl.HS1_2
  rw [View.canon_cons_unit_zero (by funext a; revert a; decide), e, readCov_whole _ _ (by decide), readCov_whole _ _ (by decide)]

/-- The third block's products. -/
theorem prod_2 : View.canon (kernelRun0_A.sl.HS1_3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 x0 x1 x2 x3 x4 x5 x6 x7 x8 x9 x10 x11 x12 x13 x14 x15 x16) = prodV (View.canon (kernelRun0_A.sl.HS0_76 (F := Ideal) c arg0 harg0 arg1 harg1 arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg21 x0 x1 x2 x3 x4 x5 x6 x7 x8 x9 x10 x11 x12 x13 x15 x16)) (View.canon (kernelRun0_A.sl.HS3_39 (F := Ideal) c arg11 harg11 arg12 harg12 arg13 harg13 arg14 harg14 x11 x12 x13 x14)) := by
  have e : (kernelRun0_A.sl.v2820 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 x0 x1 x2 x3 x4 x5 x6 x7 x8 x9 x10 x11 x12 x13 x14 x15 x16) = prodV (arg18.view.readCov (kernelRun0_A.sl.HS0_76 (F := Ideal) c arg0 harg0 arg1 harg1 arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg21 x0 x1 x2 x3 x4 x5 x6 x7 x8 x9 x10 x11 x12 x13 x15 x16) (Rect.unit (s := S3328x768) ![0, 0] S3328x768.size (by decide)).toLoadRect)
      (arg21.view.readCov (kernelRun0_A.sl.HS3_39 (F := Ideal) c arg11 harg11 arg12 harg12 arg13 harg13 arg14 harg14 x11 x12 x13 x14) (Rect.unit (s := S768x768) ![0, 0] S768x768.size (by decide)).toLoadRect) := by sl_kernel_rfl
  unfold kernelRun0_A.sl.HS1_3
  rw [View.canon_cons_unit_zero (by funext a; revert a; decide), e, readCov_whole _ _ (by decide), readCov_whole _ _ (by decide)]

/-- The first layer's features, as stored. -/
theorem layer_0 : View.canon (kernelRun0_A.sl.HS0_44 (F := Ideal) c arg0 harg0 arg1 harg1 arg2 harg2 arg3 harg3 arg4 harg4 arg5 harg5 arg6 harg6 arg7 harg7 arg8 harg8 arg9 harg9 arg10 harg10 arg11 harg11 arg12 harg12 arg15 harg15 arg16 harg16 arg18 arg19 arg20 arg21 x0 x1 x2 x3 x4 x5 x6 x7 x8 x9 x10 x11 x12 x15 x16) = layG (View.canon (kernelRun0_A.sl.HS2_65 (F := Ideal) c arg0 harg0 arg1 harg1 arg2 harg2 arg3 harg3 arg4 harg4 arg5 harg5 arg6 harg6 arg7 harg7 arg8 harg8 arg16 harg16 arg20 x0 x1 x2 x3 x4 x5 x6 x7 x8 x16)) (View.canon (kernelRun0_A.sl.HS1_1 (F := Ideal) c arg0 harg0 arg9 harg9 arg10 harg10 arg11 harg11 arg12 harg12 arg18 arg21 x0 x9 x10 x11 x12)) (fun q => x15 (ix3 0 0 q)) := by
  have all : Done (layG (View.canon (kernelRun0_A.sl.HS2_65 (F := Ideal) c arg0 harg0 arg1 harg1 arg2 harg2 arg3 harg3 arg4 harg4 arg5 harg5 arg6 harg6 arg7 harg7 arg8 harg8 arg16 harg16 arg20 x0 x1 x2 x3 x4 x5 x6 x7 x8 x16)) (View.canon (kernelRun0_A.sl.HS1_1 (F := Ideal) c arg0 harg0 arg9 harg9 arg10 harg10 arg11 harg11 arg12 harg12 arg18 arg21 x0 x9 x10 x11 x12)) (fun q => bias arg15 harg15 x15 0 (by decide) (ix3 0 0 q))) 3328 (kernelRun0_A.sl.HS0_44 (F := Ideal) c arg0 harg0 arg1 harg1 arg2 harg2 arg3 harg3 arg4 harg4 arg5 harg5 arg6 harg6 arg7 harg7 arg8 harg8 arg9 harg9 arg10 harg10 arg11 harg11 arg12 harg12 arg15 harg15 arg16 harg16 arg18 arg19 arg20 arg21 x0 x1 x2 x3 x4 x5 x6 x7 x8 x9 x10 x11 x12 x15 x16) := by
    iterate 32 refine Done.step (vw := arg20.view) (vg := arg19.view) (by decide) (by decide) (by decide) (by sl_kernel_rfl) ?_
    exact fun y h => absurd h (Nat.not_lt_zero _)
  funext y
  refine (all y (y 0).isLt).trans ?_
  simp only [bias_apply arg15 harg15 x15 _ (show 0 < 3 by decide)]
  rfl

/-- The second layer's features, as stored. -/
theorem layer_1 : View.canon (kernelRun0_A.sl.HS0_76 (F := Ideal) c arg0 harg0 arg1 harg1 arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg21 x0 x1 x2 x3 x4 x5 x6 x7 x8 x9 x10 x11 x12 x13 x15 x16) = layG (View.canon (kernelRun0_A.sl.HS2_65 (F := Ideal) c arg0 harg0 arg1 harg1 arg2 harg2 arg3 harg3 arg4 harg4 arg5 harg5 arg6 harg6 arg7 harg7 arg8 harg8 arg16 harg16 arg20 x0 x1 x2 x3 x4 x5 x6 x7 x8 x16)) (View.canon (kernelRun0_A.sl.HS1_2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg21 x0 x1 x2 x3 x4 x5 x6 x7 x8 x9 x10 x11 x12 x13 x15 x16)) (fun q => x15 (ix3 1 0 q)) := by
  have all : Done (layG (View.canon (kernelRun0_A.sl.HS2_65 (F := Ideal) c arg0 harg0 arg1 harg1 arg2 harg2 arg3 harg3 arg4 harg4 arg5 harg5 arg6 harg6 arg7 harg7 arg8 harg8 arg16 harg16 arg20 x0 x1 x2 x3 x4 x5 x6 x7 x8 x16)) (View.canon (kernelRun0_A.sl.HS1_2 (F := Ideal) c arg0 harg0 arg1 harg1 arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg21 x0 x1 x2 x3 x4 x5 x6 x7 x8 x9 x10 x11 x12 x13 x15 x16)) (fun q => bias arg15 harg15 x15 1 (by decide) (ix3 0 0 q))) 3328 (kernelRun0_A.sl.HS0_76 (F := Ideal) c arg0 harg0 arg1 harg1 arg2 harg2 arg3 harg3 arg4 harg4 arg5 harg5 arg6 harg6 arg7 harg7 arg8 harg8 arg9 harg9 arg10 harg10 arg11 harg11 arg12 harg12 arg13 harg13 arg15 harg15 arg16 harg16 arg18 arg19 arg20 arg21 x0 x1 x2 x3 x4 x5 x6 x7 x8 x9 x10 x11 x12 x13 x15 x16) := by
    iterate 32 refine Done.step (vw := arg20.view) (vg := arg19.view) (by decide) (by decide) (by decide) (by sl_kernel_rfl) ?_
    exact fun y h => absurd h (Nat.not_lt_zero _)
  funext y
  refine (all y (y 0).isLt).trans ?_
  simp only [bias_apply arg15 harg15 x15 _ (show 1 < 3 by decide)]
  rfl

/-- The last layer's features, as written out. -/
theorem layer_2 : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1 = lastG (View.canon (kernelRun0_A.sl.HS2_65 (F := Ideal) c arg0 harg0 arg1 harg1 arg2 harg2 arg3 harg3 arg4 harg4 arg5 harg5 arg6 harg6 arg7 harg7 arg8 harg8 arg16 harg16 arg20 x0 x1 x2 x3 x4 x5 x6 x7 x8 x16)) (View.canon (kernelRun0_A.sl.HS1_3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 x0 x1 x2 x3 x4 x5 x6 x7 x8 x9 x10 x11 x12 x13 x14 x15 x16)) (fun q => x15 (ix3 2 0 q)) := by
  have all : Out (lastG (View.canon (kernelRun0_A.sl.HS2_65 (F := Ideal) c arg0 harg0 arg1 harg1 arg2 harg2 arg3 harg3 arg4 harg4 arg5 harg5 arg6 harg6 arg7 harg7 arg8 harg8 arg16 harg16 arg20 x0 x1 x2 x3 x4 x5 x6 x7 x8 x16)) (View.canon (kernelRun0_A.sl.HS1_3 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg18 arg19 arg20 arg21 x0 x1 x2 x3 x4 x5 x6 x7 x8 x9 x10 x11 x12 x13 x14 x15 x16)) (fun q => bias arg15 harg15 x15 2 (by decide) (ix3 0 0 q))) 32 (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1 := by
    iterate 32 refine Out.step (vw := arg20.view) (vg := arg19.view) (o := 104 * _) rfl (by decide) (by decide) (by decide) (by sl_kernel_rfl) ?_
    exact fun y h => absurd h (Nat.not_lt_zero _)
  funext y
  refine (all y (y 0).isLt).trans ?_
  simp only [bias_apply arg15 harg15 x15 _ (show 2 < 3 by decide)]
  rfl

end Cert.KernelIdeal.Body

end
-- ==== Proof.FusedKernel.lean ====
module

public import proofs.«01_k».proof.Proof.FusedBlocks
public import proofs.«01_k».proof.Proof.Gen.KernelIdeal.Value
public import Idealize.ShloMosaic.Lib.Pipeline.ValueKit

@[expose] public section

set_option maxRecDepth 16384
set_option maxHeartbeats 400000

noncomputable section

namespace Cert.KernelIdeal.Body

open Idealize.ShloMosaic Idealize.ShloMosaic.TcCoe Idealize.SL.Sem Cert.KernelIdeal Cert.KernelIdeal.Gen
open Idealize.ShloMosaic.Pipeline (Dat)

/-- The recurrent states of all rows. -/
def stG (x0 : Vec Ideal S3328x12 .f32) (x1 : Vec Ideal S1x192 .f32) (x2 : Vec Ideal S192x64 .f32) (x3 x4 : Vec Ideal S1x192 .f32) :
    FVec Ideal S3328x64 .f32 := fun y =>
  Fused.last (fun k => x1 (ix2 0 k)) (fun k d => x2 (ix2 k d)) (fun k => x3 (ix2 0 k)) (fun k => x4 (ix2 0 k))
    (fun t => x0 (ix2 (show Fin 3328 from y 0) t)) (y 1)

/-- The normalised attention weights of all rows. -/
def wnG (x0 : Vec Ideal S3328x12 .f32) (x1 : Vec Ideal S1x192 .f32) (x2 : Vec Ideal S192x64 .f32) (x3 x4 : Vec Ideal S1x192 .f32)
    (x5 : Vec Ideal S64x32 .f32) (x6 : Vec Ideal S1x32 .f32) (x7 : Vec Ideal S64x32 .f32) (x8 : Vec Ideal S1x32 .f32)
    (x16 : Vec Ideal S104x1 .f32) : Vec Ideal S3328x104 .f32 :=
  nmG (k0_pay74 (scG (proj (stG x0 x1 x2 x3 x4) x5 x6) (proj (stG x0 x1 x2 x3 x4) x7 x8))) x16

/-- A block's banded matrix. -/
def matG {K : ℕ} (b : Fin 3) (x11 : Vec Ideal S3x12x64x64 .f32) (wr : Vec Ideal ⟨2, ![64, K]⟩ .f32) (p : ℕ) : Vec Ideal S768x768 .f32 := fun y =>
  band (fun τ c c' => x11 (ix4 b τ c c')) (fun c' j => wr (ix2 c' j)) p (y 0) (y 1)

/-- A stored band that is complete is the whole matrix. -/
theorem Band.whole {K : ℕ} {b : Fin 3} {x11 : Vec Ideal S3x12x64x64 .f32} {wr : Vec Ideal ⟨2, ![64, K]⟩ .f32} {p : ℕ}
    {L : List (View.Piece (Elt Ideal) S768x768 (.f32 : EltTy))}
    (h : Band (band (fun τ c c' => x11 (ix4 b τ c c')) (fun c' j => wr (ix2 c' j)) p) 12 L) : View.canon L = matG b x11 wr p := by
  funext y
  exact (h y).trans (if_pos (y 0).isLt)

/-- What the kernel computes of its operands. -/
def bodyG (x0 : Vec Ideal S3328x12 .f32) (x1 : Vec Ideal S1x192 .f32) (x2 : Vec Ideal S192x64 .f32) (x3 x4 : Vec Ideal S1x192 .f32)
    (x5 : Vec Ideal S64x32 .f32) (x6 : Vec Ideal S1x32 .f32) (x7 : Vec Ideal S64x32 .f32) (x8 : Vec Ideal S1x32 .f32)
    (x9 x10 : Vec Ideal S1x64 .f32) (x11 : Vec Ideal S3x12x64x64 .f32) (x12 : Vec Ideal S64x192 .f32) (x13 : Vec Ideal S64x320 .f32)
    (x14 : Vec Ideal S64x448 .f32) (x15 : Vec Ideal S3x1x768 .f32) (x16 : Vec Ideal S104x1 .f32) : Vec Ideal S32x100x768 .f32 :=
  lastG (wnG x0 x1 x2 x3 x4 x5 x6 x7 x8 x16)
    (prodV (layG (wnG x0 x1 x2 x3 x4 x5 x6 x7 x8 x16)
      (prodV (layG (wnG x0 x1 x2 x3 x4 x5 x6 x7 x8 x16)
        (prodV (feat x0 x9 x10) (matG 0 x11 x12 64)) (fun q => x15 (ix3 0 0 q)))
        (matG 1 x11 x13 128)) (fun q => x15 (ix3 1 0 q)))
      (matG 2 x11 x14 192)) (fun q => x15 (ix3 2 0 q))

variable (c : Dev nD) (arg0 : Memref sig .tc .vmem S3328x12 .f32) (harg0 : arg0.IsWhole) (arg1 : Memref sig .tc .vmem S1x192 .f32) (harg1 : arg1.IsWhole) (arg2 : Memref sig .tc .vmem S192x64 .f32) (harg2 : arg2.IsWhole) (arg3 : Memref sig .tc .vmem S1x192 .f32) (harg3 : arg3.IsWhole) (arg4 : Memref sig .tc .vmem S1x192 .f32) (harg4 : arg4.IsWhole) (arg5 : Memref sig .tc .vmem S64x32 .f32) (harg5 : arg5.IsWhole) (arg6 : Memref sig .tc .vmem S1x32 .f32) (harg6 : arg6.IsWhole) (arg7 : Memref sig .tc .vmem S64x32 .f32) (harg7 : arg7.IsWhole) (arg8 : Memref sig .tc .vmem S1x32 .f32) (harg8 : arg8.IsWhole) (arg9 : Memref sig .tc .vmem S1x64 .f32) (harg9 : arg9.IsWhole) (arg10 : Memref sig .tc .vmem S1x64 .f32) (harg10 : arg10.IsWhole) (arg11 : Memref sig .tc .vmem S3x12x64x64 .f32) (harg11 : arg11.IsWhole) (arg12 : Memref sig .tc .vmem S64x192 .f32) (harg12 : arg12.IsWhole) (arg13 : Memref sig .tc .vmem S64x320 .f32) (harg13 : arg13.IsWhole) (arg14 : Memref sig .tc .vmem S64x448 .f32) (harg14 : arg14.IsWhole) (arg15 : Memref sig .tc .vmem S3x1x768 .f32) (harg15 : arg15.IsWhole) (arg16 : Memref sig .tc .vmem S104x1 .f32) (harg16 : arg16.IsWhole) (arg17 : Memref sig .tc .vmem S32x100x768 .f32) (harg17 : arg17.IsWhole) (arg18 : Memref sig .tc .vmem S3328x768 .f32) (harg18 : arg18.IsWhole) (arg19 : Memref sig .tc .vmem S3328x768 .f32) (harg19 : arg19.IsWhole) (arg20 : Memref sig .tc .vmem S3328x104 .f32) (harg20 : arg20.IsWhole) (arg21 : Memref sig .tc .vmem S768x768 .f32) (harg21 : arg21.IsWhole) (x0 : Vec Ideal S3328x12 .f32) (x1 : Vec Ideal S1x192 .f32) (x2 : Vec Ideal S192x64 .f32) (x3 : Vec Ideal S1x192 .f32) (x4 : Vec Ideal S1x192 .f32) (x5 : Vec Ideal S64x32 .f32) (x6 : Vec Ideal S1x32 .f32) (x7 : Vec Ideal S64x32 .f32) (x8 : Vec Ideal S1x32 .f32) (x9 : Vec Ideal S1x64 .f32) (x10 : Vec Ideal S1x64 .f32) (x11 : Vec Ideal S3x12x64x64 .f32) (x12 : Vec Ideal S64x192 .f32) (x13 : Vec Ideal S64x320 .f32) (x14 : Vec Ideal S64x448 .f32) (x15 : Vec Ideal S3x1x768 .f32) (x16 : Vec Ideal S104x1 .f32)

/-- The pieces the kernel's one grid point leaves in the result are `bodyG` of its operands. -/
theorem body_eq : View.canon (kernelRun0_A (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16).1 = bodyG x0 x1 x2 x3 x4 x5 x6 x7 x8 x9 x10 x11 x12 x13 x14 x15 x16 := by
  have st : (kernelRun0_A.sl.v343 (F := Ideal) c arg0 harg0 arg1 harg1 arg2 harg2 arg3 harg3 arg4 harg4 x0 x1 x2 x3 x4) = stG x0 x1 x2 x3 x4 := by
    funext y
    obtain ⟨r, j, rfl⟩ : ∃ (r : Fin 3328) (j : Fin 64), y = ix2 r j := ⟨y 0, y 1, by
      funext a
      match a with
      | ⟨0, _⟩ => rfl
      | ⟨1, _⟩ => rfl⟩
    exact state_apply ..
  rw [layer_2, prod_2, layer_1, prod_1, layer_0, prod_0, feats, norms, queries, keys, st, Band.whole (band_0 _ _ _ _ _ _ _), Band.whole (band_1 _ _ _ _ _ _ _ _ _ _), Band.whole (band_2 _ _ _ _ _ _ _ _ _ _ _ _ _)]
  rfl

variable (m : (ℓ : Loc nD τ sig) → Buf (Elt Ideal) ℓ)

/-- The result of the launch: `bodyG` of the arrays the region finds. -/
def result (d : Dev nD) : Vec Ideal S32x100x768 .f32 :=
  bodyG (V m d main_v2) (V m d main_v3) (V m d main_arg4) (V m d main_v4) (V m d main_v5) (V m d main_v6) (V m d main_v8) (V m d main_v7)
    (V m d main_v9) (V m d main_v10) (V m d main_v11) (V m d main_v12) (V m d main_v15) (V m d main_v18) (V m d main_v21) (V m d main_v133) (V m d main_v139)

/-- Every window starts at the array's origin. -/
theorem origin : (∀ a, win0_0.index t0_0 a = 0)
    ∧ (∀ a, win0_1.index t0_0 a = 0)
    ∧ (∀ a, win0_2.index t0_0 a = 0)
    ∧ (∀ a, win0_3.index t0_0 a = 0)
    ∧ (∀ a, win0_4.index t0_0 a = 0)
    ∧ (∀ a, win0_5.index t0_0 a = 0)
    ∧ (∀ a, win0_6.index t0_0 a = 0)
    ∧ (∀ a, win0_7.index t0_0 a = 0)
    ∧ (∀ a, win0_8.index t0_0 a = 0)
    ∧ (∀ a, win0_9.index t0_0 a = 0)
    ∧ (∀ a, win0_10.index t0_0 a = 0)
    ∧ (∀ a, win0_11.index t0_0 a = 0)
    ∧ (∀ a, win0_12.index t0_0 a = 0)
    ∧ (∀ a, win0_13.index t0_0 a = 0)
    ∧ (∀ a, win0_14.index t0_0 a = 0)
    ∧ (∀ a, win0_15.index t0_0 a = 0)
    ∧ (∀ a, win0_16.index t0_0 a = 0) := by
  refine ⟨?_, ?_, ?_, ?_, ?_, ?_, ?_, ?_, ?_, ?_, ?_, ?_, ?_, ?_, ?_, ?_, ?_⟩ <;> decide

/-- Operand 0 is staged whole. -/
theorem staged_0 (d : Dev nD) : (iblk m d 0 t0_0 : Vec Ideal S3328x12 .f32) = V m d main_v2 := by
  funext y
  blk_ext [iblk, origin.1]

/-- Operand 1 is staged whole. -/
theorem staged_1 (d : Dev nD) : (iblk m d 1 t0_0 : Vec Ideal S1x192 .f32) = V m d main_v3 := by
  funext y
  blk_ext [iblk, origin.2.1]

/-- Operand 2 is staged whole. -/
theorem staged_2 (d : Dev nD) : (iblk m d 2 t0_0 : Vec Ideal S192x64 .f32) = V m d main_arg4 := by
  funext y
  blk_ext [iblk, origin.2.2.1]

/-- Operand 3 is staged whole. -/
theorem staged_3 (d : Dev nD) : (iblk m d 3 t0_0 : Vec Ideal S1x192 .f32) = V m d main_v4 := by
  funext y
  blk_ext [iblk, origin.2.2.2.1]

/-- Operand 4 is staged whole. -/
theorem staged_4 (d : Dev nD) : (iblk m d 4 t0_0 : Vec Ideal S1x192 .f32) = V m d main_v5 := by
  funext y
  blk_ext [iblk, origin.2.2.2.2.1]

/-- Operand 5 is staged whole. -/
theorem staged_5 (d : Dev nD) : (iblk m d 5 t0_0 : Vec Ideal S64x32 .f32) = V m d main_v6 := by
  funext y
  blk_ext [iblk, origin.2.2.2.2.2.1]

/-- Operand 6 is staged whole. -/
theorem staged_6 (d : Dev nD) : (iblk m d 6 t0_0 : Vec Ideal S1x32 .f32) = V m d main_v8 := by
  funext y
  blk_ext [iblk, origin.2.2.2.2.2.2.1]

/-- Operand 7 is staged whole. -/
theorem staged_7 (d : Dev nD) : (iblk m d 7 t0_0 : Vec Ideal S64x32 .f32) = V m d main_v7 := by
  funext y
  blk_ext [iblk, origin.2.2.2.2.2.2.2.1]

/-- Operand 8 is staged whole. -/
theorem staged_8 (d : Dev nD) : (iblk m d 8 t0_0 : Vec Ideal S1x32 .f32) = V m d main_v9 := by
  funext y
  blk_ext [iblk, origin.2.2.2.2.2.2.2.2.1]

/-- Operand 9 is staged whole. -/
theorem staged_9 (d : Dev nD) : (iblk m d 9 t0_0 : Vec Ideal S1x64 .f32) = V m d main_v10 := by
  funext y
  blk_ext [iblk, origin.2.2.2.2.2.2.2.2.2.1]

/-- Operand 10 is staged whole. -/
theorem staged_10 (d : Dev nD) : (iblk m d 10 t0_0 : Vec Ideal S1x64 .f32) = V m d main_v11 := by
  funext y
  blk_ext [iblk, origin.2.2.2.2.2.2.2.2.2.2.1]

/-- Operand 11 is staged whole. -/
theorem staged_11 (d : Dev nD) : (iblk m d 11 t0_0 : Vec Ideal S3x12x64x64 .f32) = V m d main_v12 := by
  funext y
  blk_ext [iblk, origin.2.2.2.2.2.2.2.2.2.2.2.1]

/-- Operand 12 is staged whole. -/
theorem staged_12 (d : Dev nD) : (iblk m d 12 t0_0 : Vec Ideal S64x192 .f32) = V m d main_v15 := by
  funext y
  blk_ext [iblk, origin.2.2.2.2.2.2.2.2.2.2.2.2.1]

/-- Operand 13 is staged whole. -/
theorem staged_13 (d : Dev nD) : (iblk m d 13 t0_0 : Vec Ideal S64x320 .f32) = V m d main_v18 := by
  funext y
  blk_ext [iblk, origin.2.2.2.2.2.2.2.2.2.2.2.2.2.1]

/-- Operand 14 is staged whole. -/
theorem staged_14 (d : Dev nD) : (iblk m d 14 t0_0 : Vec Ideal S64x448 .f32) = V m d main_v21 := by
  funext y
  blk_ext [iblk, origin.2.2.2.2.2.2.2.2.2.2.2.2.2.2.1]

/-- Operand 15 is staged whole. -/
theorem staged_15 (d : Dev nD) : (iblk m d 15 t0_0 : Vec Ideal S3x1x768 .f32) = V m d main_v133 := by
  funext y
  blk_ext [iblk, origin.2.2.2.2.2.2.2.2.2.2.2.2.2.2.2.1]

/-- Operand 16 is staged whole. -/
theorem staged_16 (d : Dev nD) : (iblk m d 16 t0_0 : Vec Ideal S104x1 .f32) = V m d main_v139 := by
  funext y
  blk_ext [iblk, origin.2.2.2.2.2.2.2.2.2.2.2.2.2.2.2.2]

/-- What the one grid point leaves in the result's block. -/
theorem outs_eq (d : Dev nD) : outsAt0 m d t0_0 = result m d := by
  unfold outsAt0 out0_A_17 result
  rw [View.read_writes_junk_eq_canon, body_eq, staged_0, staged_1, staged_2, staged_3, staged_4, staged_5, staged_6, staged_7, staged_8, staged_9, staged_10, staged_11, staged_12, staged_13, staged_14, staged_15, staged_16]

/-- After the run the result array holds it. -/
theorem final (d : Dev nD) : (dats m 0 d).arrAt 17 cfg0.N = result m d := by
  refine (dats m 0 d).arrAt_eq_of_after_last 17 t0_0 (by decide +kernel) (result m d) ?_
  intro j
  rw [after0_17]
  idx_vars j
  rw [outs_eq]
  show result m d (ix3 j0 j1 j2) = result m d (ix3 j0 j1 j2)
  rfl

end Cert.KernelIdeal.Body

end
-- ==== Proof.FusedReference.lean ====
module

public import proofs.«01_k».proof.Proof.Gen.ReferenceIdeal.Run
public import proofs.«01_k».proof.Proof.FusedSpec
public import Idealize.ShloMosaic.Lib.Pointwise
public import Idealize.ShloMosaic.Lib.Tactic

@[expose] public section

set_option maxRecDepth 16384
set_option maxHeartbeats 400000

noncomputable section

namespace Cert.ReferenceIdeal.Final

open Idealize.ShloMosaic Idealize.SL.Sem Cert.ReferenceIdeal Cert.ReferenceIdeal.Gen Cert.ReferenceIdeal.Value

/-- A block's aggregate: the per-time linear map of the features, gathered over the in-edges, plus a bias. -/
def agg (wt : Fin 12 → Fin 64 → Fin 64 → EReal) (f : Fin 100 → Fin 12 → Fin 64 → EReal) (w : Fin 100 → Fin 100 → EReal)
    (b : Fin 12 → Fin 64 → EReal) (s : Fin 12) (l : Fin 100) (c : Fin 64) : EReal :=
  ∑ x, (∑ d, wt s c d * f x s d) * w x l + b s c

/-- The activation. -/
def leak (o : EReal) : EReal := if 0 ≤ o then o else Ideal.ofBits .f32 0x3C23D70A#32 * o

/-- A value as it is. -/
abbrev plain (a : EReal) : EReal := a

/-- A sum of 64 products. -/
def dot64 (a b : Fin 64 → EReal) : EReal := ∑ x, a x * b x

variable (V0 : Valuation τ sig (Elt Ideal))

/-- One step of the recurrent cell on a time's column of the samples, from the state `h`. -/
def rstep (wih : Vec Ideal S192x1 .f32) (whh : Vec Ideal S192x64 .f32) (bih bhh : Vec Ideal S192 .f32) (xt : Vec Ideal S32x1x100 .f32)
    (h : Vec Ideal S32x100x64 .f32) : Vec Ideal S32x100x64 .f32 :=
  have one : FVec Ideal S32x100x64 .f32 := broadcastInDim S32x100x64 ![] bcast_S_S32x100x64 (constant S_ .f32 0x3F800000#32)
  have gi : FVec Ideal S32x100x192 .f32 := addf (Host.dotGeneral (F := Ideal) (φ₁ := .f32) (φ₂ := .f32) dot_S32x100x1_S1x192_S32x100x192_2_0_01_1_n_n none (broadcastInDim S32x100x1 ![0, 1] bcast_S32x100_S32x100x1_0_1 (shapeCast _ xt shapeCasts_S32x1x100_S32x100)) (transpose S1x192 [1, 0] wih transposes_S192x1_S1x192_1_0))
    (broadcastInDim S32x100x192 ![0, 1, 2] bcast_S1x1x192_S32x100x192_0_1_2 (broadcastInDim S1x1x192 ![2] bcast_S192_S1x1x192_2 bih))
  have gh : FVec Ideal S32x100x192 .f32 := addf (Host.dotGeneral (F := Ideal) (φ₁ := .f32) (φ₂ := .f32) dot_S32x100x64_S64x192_S32x100x192_2_0_01_1_n_n none h (transpose S64x192 [1, 0] whh transposes_S192x64_S64x192_1_0))
    (broadcastInDim S32x100x192 ![0, 1, 2] bcast_S1x1x192_S32x100x192_0_1_2 (broadcastInDim S1x1x192 ![2] bcast_S192_S1x1x192_2 bhh))
  have z : FVec Ideal S32x100x64 .f32 := Host.divf one (addf one (Host.exp (Host.negf (addf (extractStridedSlice S32x100x64 ![0, 0, 64] gi slices_S32x100x192_S32x100x64_0_0_64)
    (extractStridedSlice S32x100x64 ![0, 0, 64] gh slices_S32x100x192_S32x100x64_0_0_64)))))
  have r : FVec Ideal S32x100x64 .f32 := Host.divf one (addf one (Host.exp (Host.negf (addf (extractStridedSlice S32x100x64 ![0, 0, 0] gi slices_S32x100x192_S32x100x64_0_0_0)
    (extractStridedSlice S32x100x64 ![0, 0, 0] gh slices_S32x100x192_S32x100x64_0_0_0)))))
  addf (mulf (subf one z) (Host.tanh (addf (extractStridedSlice S32x100x64 ![0, 0, 128] gi slices_S32x100x192_S32x100x64_0_0_128)
    (mulf r (extractStridedSlice S32x100x64 ![0, 0, 128] gh slices_S32x100x192_S32x100x64_0_0_128))))) (mulf z h)

/-- A step, read at a sample, a node and a lane, is the cell of that node. -/
theorem rstep_apply (wih : Vec Ideal S192x1 .f32) (whh : Vec Ideal S192x64 .f32) (bih bhh : Vec Ideal S192 .f32) (xt : Vec Ideal S32x1x100 .f32)
    (h : Vec Ideal S32x100x64 .f32) (g : Fin 32) (r : Fin 100) (j : Fin 64) :
    rstep wih whh bih bhh xt h (ix3 g r j) = Fused.cell (fun k => wih (ix2 k 0)) (fun k d => whh (ix2 k d)) (fun k => bih (ix1 k)) (fun k => bhh (ix1 k))
      (xt (ix3 g 0 r)) (fun d => h (ix3 g r d)) j := by
  pointwise [rstep]
  simp only [Fin.sum_univ_one]
  rfl

/-- The samples' values at one time. -/
def time (x : Vec Ideal S32x12x100 .f32) (t : ℕ) (h : S32x12x100.Slices ![0, t, 0] S32x1x100) : Vec Ideal S32x1x100 .f32 :=
  extractStridedSlice S32x1x100 ![0, t, 0] x h

/-- Its entries. -/
theorem time_apply (x : Vec Ideal S32x12x100 .f32) (t : ℕ) (h) (ht : t < 12) (g : Fin 32) (r : Fin 100) : time x t h (ix3 g 0 r) = x (ix3 g ⟨t, ht⟩ r) := by
  pointwise [time]

/-- The last state, as the steps one after another. -/
theorem state_steps : res_main_v492 V0 = List.foldl (fun h xt => rstep (V0 (Proc.devRef .tc main_arg3)) (V0 (Proc.devRef .tc main_arg4)) (V0 (Proc.devRef .tc main_arg5)) (V0 (Proc.devRef .tc main_arg6)) xt h)
    (broadcastInDim S32x100x64 ![] bcast_S_S32x100x64 (constant (F := Ideal) S_ .f32 0x00000000#32))
    [time (V0 (Proc.devRef .tc main_arg0)) 0 slices_S32x12x100_S32x1x100_0_0_0, time (V0 (Proc.devRef .tc main_arg0)) 1 slices_S32x12x100_S32x1x100_0_1_0,
     time (V0 (Proc.devRef .tc main_arg0)) 2 slices_S32x12x100_S32x1x100_0_2_0, time (V0 (Proc.devRef .tc main_arg0)) 3 slices_S32x12x100_S32x1x100_0_3_0,
     time (V0 (Proc.devRef .tc main_arg0)) 4 slices_S32x12x100_S32x1x100_0_4_0, time (V0 (Proc.devRef .tc main_arg0)) 5 slices_S32x12x100_S32x1x100_0_5_0,
     time (V0 (Proc.devRef .tc main_arg0)) 6 slices_S32x12x100_S32x1x100_0_6_0, time (V0 (Proc.devRef .tc main_arg0)) 7 slices_S32x12x100_S32x1x100_0_7_0,
     time (V0 (Proc.devRef .tc main_arg0)) 8 slices_S32x12x100_S32x1x100_0_8_0, time (V0 (Proc.devRef .tc main_arg0)) 9 slices_S32x12x100_S32x1x100_0_9_0,
     time (V0 (Proc.devRef .tc main_arg0)) 10 slices_S32x12x100_S32x1x100_0_10_0, time (V0 (Proc.devRef .tc main_arg0)) 11 slices_S32x12x100_S32x1x100_0_11_0] := by
  sl_kernel_rfl

/-- The last state of a node is the cell's last state on that node's inputs. -/
theorem state_apply (g : Fin 32) (r : Fin 100) (j : Fin 64) : res_main_v492 V0 (ix3 g r j)
    = Fused.last (fun k => V0 (Proc.devRef .tc main_arg3) (ix2 k 0)) (fun k d => V0 (Proc.devRef .tc main_arg4) (ix2 k d)) (fun k => V0 (Proc.devRef .tc main_arg5) (ix1 k)) (fun k => V0 (Proc.devRef .tc main_arg6) (ix1 k))
        (fun t => V0 (Proc.devRef .tc main_arg0) (ix3 g t r)) j := by
  have z : ∀ d, (broadcastInDim S32x100x64 ![] bcast_S_S32x100x64 (constant (F := Ideal) S_ .f32 0x00000000#32) : FVec Ideal S32x100x64 .f32) (ix3 g r d) = 0 := by
    intro d; pointwise []
  rw [state_steps]
  simp only [List.foldl_cons, List.foldl_nil, rstep_apply, Fused.last, z]
  simp (disch := decide) only [time_apply]
  rfl

/-- A linear map of a node's last state. -/
def line (w : Fin 64 → EReal) (b : EReal) (s : Fin 64 → EReal) : EReal := ∑ x, s x * w x + b

/-- The scores. -/
theorem scores_apply (g : Fin 32) (r l : Fin 100) : (res_main_v507 V0 (ix3 g r l) : EReal)
    = Ideal.div (∑ d : Fin 32, line (fun x => V0 (Proc.devRef .tc main_arg7) (ix2 d x)) (V0 (Proc.devRef .tc main_arg8) (ix1 d)) (fun x => res_main_v492 V0 (ix3 g r x))
        * line (fun x => V0 (Proc.devRef .tc main_arg9) (ix2 d x)) (V0 (Proc.devRef .tc main_arg10) (ix1 d)) (fun x => res_main_v492 V0 (ix3 g l x)))
      (Ideal.sqrt (Ideal.ofBits .f32 0x42000000#32)) := by
  pointwise [res_main_v507]
  rfl

/-- A fold over a sample's row of an array is a fold over the row's lanes. -/
theorem fold_row (b : EReal) (f : S32x100x100.Idx → EReal) (g : Fin 32) (r : Fin 100) (P : S32x100x100.Idx → Prop) [DecidablePred P]
    (h : ∀ i, P i ↔ i 0 = g ∧ i 1 = r) : Finset.fold max b f {i | P i} = Finset.fold max b (fun x : Fin 100 => f (ix3 g r x)) Finset.univ := by
  have e : (Finset.univ.filter P) = Finset.univ.image (fun x : Fin 100 => (ix3 g r x : S32x100x100.Idx)) := by
    ext i
    simp only [Finset.mem_filter, Finset.mem_univ, true_and, Finset.mem_image, h]
    constructor
    · rintro ⟨h0, h1⟩
      refine ⟨i 2, ?_⟩
      funext a
      match a with
      | ⟨0, _⟩ => exact h0.symm
      | ⟨1, _⟩ => exact h1.symm
      | ⟨2, _⟩ => rfl
    · rintro ⟨x, rfl⟩
      exact ⟨rfl, rfl⟩
  rw [e, Finset.fold_image (fun x _ y _ hxy => congrFun hxy 2)]
  rfl

/-- The softmax of a row. -/
def soft (s : Fin 100 → EReal) (l : Fin 100) : EReal :=
  Ideal.div (Ideal.exp (s l - max (Ideal.ofBits .f32 0xFF800000#32) (Finset.fold max (Ideal.ofBits .f32 0xFF800000#32) s Finset.univ)))
    (∑ x, Ideal.exp (s x - max (Ideal.ofBits .f32 0xFF800000#32) (Finset.fold max (Ideal.ofBits .f32 0xFF800000#32) s Finset.univ)))

/-- The attention weights. -/
theorem weights_apply (g : Fin 32) (r l : Fin 100) : (res_main_v518 V0 (ix3 g r l) : EReal) = soft (fun x => res_main_v507 V0 (ix3 g r x)) l := by
  have e := fold_row (Ideal.ofBits .f32 0xFF800000#32) (res_main_v507 V0) g r (fun i => reducesTo_S32x100x100_S32x100_d2.drop i = ix2 g r) (by
    intro i
    constructor
    · intro h
      exact ⟨congrFun h 0, congrFun h 1⟩
    · rintro ⟨h0, h1⟩
      funext a
      match a with
      | ⟨0, _⟩ => exact h0
      | ⟨1, _⟩ => exact h1)
  pointwise [res_main_v518, res_main_v514]
  unfold soft
  rw [← e]
  rfl

/-- The in-degrees. -/
theorem deg_apply (g : Fin 32) (r : Fin 100) : (res_main_v519 V0 (ix2 g r) : EReal) = ∑ x : Fin 100, plain (res_main_v518 V0 (ix3 g x r)) := by
  pointwise [res_main_v519]

/-- One over the root of a degree, zero where it is not positive. -/
def root (d : EReal) : EReal := if 0 < d then Ideal.div 1 (Ideal.sqrt (if 0 < d then d else 1)) else 0

/-- The degrees' factors. -/
theorem dis_apply (g : Fin 32) (r : Fin 100) : (res_main_v528 V0 (ix2 g r) : EReal) = root (res_main_v519 V0 (ix2 g r)) := by
  pointwise [res_main_v528]
  unfold root
  split_ifs
  · pointwise []
  · show (Ideal.ofBits .f32 0x00000000#32 : EReal) = 0
    pointwise []

/-- The normalised weights. -/
theorem norm_apply (g : Fin 32) (r l : Fin 100) :
    (res_main_v534 V0 (ix3 g r l) : EReal) = plain (res_main_v528 V0 (ix2 g r)) * plain (res_main_v518 V0 (ix3 g r l)) * plain (res_main_v528 V0 (ix2 g l)) := by
  pointwise [res_main_v534]

/-- The result: the last block's features, a node's times side by side. -/
def out : Vec Ideal S32x100x768 .f32 :=
  shapeCast _ (transpose S32x100x12x64 [0, 2, 1, 3] (select (cmpf .oge (res_main_v687 V0) (broadcastInDim S32x12x100x64 ![] bcast_S_S32x12x100x64 (constant S_ .f32 0x00000000#32))) (res_main_v687 V0) (mulf (broadcastInDim S32x12x100x64 ![] bcast_S_S32x12x100x64 (constant S_ .f32 0x3C23D70A#32)) (res_main_v687 V0))) transposes_S32x12x100x64_S32x100x12x64_0_2_1_3) shapeCasts_S32x100x12x64_S32x100x768

/-- Its entries. -/
theorem out_apply (g : Fin 32) (l : Fin 100) (q : Fin 768) : out V0 (ix3 g l q) = leak (res_main_v687 V0 (ix4 g ⟨q.val / 64, by omega⟩ l ⟨q.val % 64, by omega⟩)) := by
  pointwise [out]
  rfl

/-- Block 0's aggregates, 1 times of zeros on either side. -/
theorem agg_0 (g : Fin 32) (s : Fin 14) (l : Fin 100) (c : Fin 64) :
    (res_main_v555 V0 (ix4 g s l c) : EReal) = if h : 1 ≤ s.val ∧ s.val - 1 < 12 then
        agg (fun s c d => V0 (Proc.devRef .tc main_arg11) (ix4 0 s c d)) (fun i s d => plain (V0 (Proc.devRef .tc main_arg0) (ix3 g s i)) * plain (V0 (Proc.devRef .tc main_arg1) (ix1 d)) + plain (V0 (Proc.devRef .tc main_arg2) (ix1 d)))
          (fun i l => res_main_v534 V0 (ix3 g i l)) (fun s c => V0 (Proc.devRef .tc main_arg12) (ix3 0 s c)) ⟨s.val - 1, h.2⟩ l c
      else (0 : EReal) := by
  have z : (FloatOps.sitofp (F := Ideal) FTy.f32 (0#32 : BitVec 32) : EReal) = 0 := by
    show ((((0#32 : BitVec 32).toInt : ℤ) : ℝ) : EReal) = 0
    simp
  pointwise [res_main_v555]
  rw [z]
  rfl

/-- Block 1's aggregates, 2 times of zeros on either side. -/
theorem agg_1 (g : Fin 32) (s : Fin 16) (l : Fin 100) (c : Fin 64) :
    (res_main_v593 V0 (ix4 g s l c) : EReal) = if h : 2 ≤ s.val ∧ s.val - 2 < 12 then
        agg (fun s c d => V0 (Proc.devRef .tc main_arg11) (ix4 1 s c d)) (fun i s d => leak (res_main_v575 V0 (ix4 g s i d)))
          (fun i l => res_main_v534 V0 (ix3 g i l)) (fun s c => V0 (Proc.devRef .tc main_arg12) (ix3 1 s c)) ⟨s.val - 2, h.2⟩ l c
      else (0 : EReal) := by
  have z : (FloatOps.sitofp (F := Ideal) FTy.f32 (0#32 : BitVec 32) : EReal) = 0 := by
    show ((((0#32 : BitVec 32).toInt : ℤ) : ℝ) : EReal) = 0
    simp
  pointwise [res_main_v593]
  rw [z]
  rfl

/-- Block 2's aggregates, 3 times of zeros on either side. -/
theorem agg_2 (g : Fin 32) (s : Fin 18) (l : Fin 100) (c : Fin 64) :
    (res_main_v643 V0 (ix4 g s l c) : EReal) = if h : 3 ≤ s.val ∧ s.val - 3 < 12 then
        agg (fun s c d => V0 (Proc.devRef .tc main_arg11) (ix4 2 s c d)) (fun i s d => leak (res_main_v625 V0 (ix4 g s i d)))
          (fun i l => res_main_v534 V0 (ix3 g i l)) (fun s c => V0 (Proc.devRef .tc main_arg12) (ix3 2 s c)) ⟨s.val - 3, h.2⟩ l c
      else (0 : EReal) := by
  have z : (FloatOps.sitofp (F := Ideal) FTy.f32 (0#32 : BitVec 32) : EReal) = 0 := by
    show ((((0#32 : BitVec 32).toInt : ℤ) : ℝ) : EReal) = 0
    simp
  pointwise [res_main_v643]
  rw [z]
  rfl

/-- Block 0's convolution over the times, before its activation. -/
theorem conv_0 (g : Fin 32) (t : Fin 12) (l : Fin 100) (o : Fin 64) :
    (res_main_v575 V0 (ix4 g t l o) : EReal) = (∑ k : Fin 3, dot64 (fun x => res_main_v555 V0 (ix4 g ⟨k.val + t.val, by omega⟩ l x)) (fun x => V0 (Proc.devRef .tc main_arg13) (ix3 o x k)))
        + plain (V0 (Proc.devRef .tc main_arg14) (ix1 o)) := by
  have first : dot64 (fun x => res_main_v555 V0 (ix4 g ⟨t.val, by omega⟩ l x)) (fun x => V0 (Proc.devRef .tc main_arg13) (ix3 o x 0))
      = dot64 (fun x => res_main_v555 V0 (ix4 g ⟨(0 : Fin 3).val + t.val, by omega⟩ l x)) (fun x => V0 (Proc.devRef .tc main_arg13) (ix3 o x 0)) := by
    simp only [Fin.val_zero, Nat.zero_add]
  rw [Fin.sum_univ_three]
  refine Eq.trans ?_ (congrArg₂ HAdd.hAdd (congrArg₂ HAdd.hAdd (congrArg₂ HAdd.hAdd (first) rfl) rfl) rfl)
  pointwise [res_main_v575]
  rfl

/-- Block 1's convolution over the times, before its activation. -/
theorem conv_1 (g : Fin 32) (t : Fin 12) (l : Fin 100) (o : Fin 64) :
    (res_main_v625 V0 (ix4 g t l o) : EReal) = (∑ k : Fin 5, dot64 (fun x => res_main_v593 V0 (ix4 g ⟨k.val + t.val, by omega⟩ l x)) (fun x => V0 (Proc.devRef .tc main_arg15) (ix3 o x k)))
        + plain (V0 (Proc.devRef .tc main_arg16) (ix1 o)) := by
  have first : dot64 (fun x => res_main_v593 V0 (ix4 g ⟨t.val, by omega⟩ l x)) (fun x => V0 (Proc.devRef .tc main_arg15) (ix3 o x 0))
      = dot64 (fun x => res_main_v593 V0 (ix4 g ⟨(0 : Fin 5).val + t.val, by omega⟩ l x)) (fun x => V0 (Proc.devRef .tc main_arg15) (ix3 o x 0)) := by
    simp only [Fin.val_zero, Nat.zero_add]
  rw [Fin.sum_univ_five]
  refine Eq.trans ?_ (congrArg₂ HAdd.hAdd (congrArg₂ HAdd.hAdd (congrArg₂ HAdd.hAdd (congrArg₂ HAdd.hAdd (congrArg₂ HAdd.hAdd (first) rfl) rfl) rfl) rfl) rfl)
  pointwise [res_main_v625]
  rfl

/-- Block 2's convolution over the times, before its activation. -/
theorem conv_2 (g : Fin 32) (t : Fin 12) (l : Fin 100) (o : Fin 64) :
    (res_main_v687 V0 (ix4 g t l o) : EReal) = (∑ k : Fin 7, dot64 (fun x => res_main_v643 V0 (ix4 g ⟨k.val + t.val, by omega⟩ l x)) (fun x => V0 (Proc.devRef .tc main_arg17) (ix3 o x k)))
        + plain (V0 (Proc.devRef .tc main_arg18) (ix1 o)) := by
  have first : dot64 (fun x => res_main_v643 V0 (ix4 g ⟨t.val, by omega⟩ l x)) (fun x => V0 (Proc.devRef .tc main_arg17) (ix3 o x 0))
      = dot64 (fun x => res_main_v643 V0 (ix4 g ⟨(0 : Fin 7).val + t.val, by omega⟩ l x)) (fun x => V0 (Proc.devRef .tc main_arg17) (ix3 o x 0)) := by
    simp only [Fin.val_zero, Nat.zero_add]
  rw [Fin.sum_univ_seven]
  refine Eq.trans ?_ (congrArg₂ HAdd.hAdd (congrArg₂ HAdd.hAdd (congrArg₂ HAdd.hAdd (congrArg₂ HAdd.hAdd (congrArg₂ HAdd.hAdd (congrArg₂ HAdd.hAdd (congrArg₂ HAdd.hAdd (first) rfl) rfl) rfl) rfl) rfl) rfl) rfl)
  pointwise [res_main_v687]
  rfl

end Cert.ReferenceIdeal.Final

end
-- ==== Proof.FusedReal.lean ====
module

public import proofs.«01_k».proof.Proof.FusedKernel
public import proofs.«01_k».proof.Proof.FusedReference

@[expose] public section

noncomputable section

namespace Cert.Fused

open Idealize.ShloMosaic

/-- Being a real number. -/
def Re (x : EReal) : Prop := ∃ r : ℝ, x = (r : EReal)

/-- A sum of reals, as an extended real. -/
theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- Sums of reals are real. -/
theorem Re.add {a b : EReal} : Re a → Re b → Re (a + b) := by
  rintro ⟨r, rfl⟩ ⟨s, rfl⟩
  exact ⟨r + s, (EReal.coe_add r s).symm⟩

/-- Products of reals are real. -/
theorem Re.mul {a b : EReal} : Re a → Re b → Re (a * b) := by
  rintro ⟨r, rfl⟩ ⟨s, rfl⟩
  exact ⟨r * s, (EReal.coe_mul r s).symm⟩

/-- Finite sums of reals are real. -/
theorem Re.sum {ι : Type} (s : Finset ι) {f : ι → EReal} (h : ∀ i, Re (f i)) : Re (∑ i ∈ s, f i) := by
  choose r hr using h
  exact ⟨∑ i ∈ s, r i, by rw [coe_sum]; exact Finset.sum_congr rfl fun i _ => hr i⟩

/-- The word for minus infinity. -/
theorem low : Ideal.ofBits .f32 0xFF800000#32 = (⊥ : EReal) := by
  simp [Ideal.ofBits, Ideal.ieee]

/-- The word for 32. -/
theorem thirtytwo : Ideal.ofBits .f32 0x42000000#32 = ((32 : ℝ) : EReal) := by
  simp [Ideal.ofBits, Ideal.ieee, -EReal.coe_mul]
  norm_num

/-- The activation's slope is real. -/
theorem slope : Re (Ideal.ofBits .f32 0x3C23D70A#32) := by
  simp only [Ideal.ofBits, Ideal.ieee]
  norm_num [-EReal.coe_mul]
  exact ⟨_, rfl⟩

/-- The activation keeps reals. -/
theorem Re.leak {a : EReal} (h : Re a) : Re (ReferenceIdeal.Final.leak a) := by
  unfold ReferenceIdeal.Final.leak
  split_ifs
  · exact h
  · exact slope.mul h

/-- Dividing by a real that is not zero. -/
theorem div_real (a b : ℝ) (h : b ≠ 0) : Ideal.div (a : EReal) (b : EReal) = ((a / b : ℝ) : EReal) := by
  rw [Ideal.div_coe h, ← EReal.coe_mul, mul_one_div]

/-- A sum over 104 rows of which the last four vanish. -/
theorem sum_pad (f : Fin 104 → EReal) (hz : ∀ i, 100 ≤ i.val → f i = 0) : ∑ i, f i = ∑ i : Fin 100, f ⟨i.val, by omega⟩ := by
  have e : ∑ i : Fin (100 + 4), f i = ∑ i : Fin 100, f (Fin.castAdd 4 i) + ∑ i : Fin 4, f (Fin.natAdd 100 i) :=
    Fin.sum_univ_add (a := 100) (b := 4) (f : Fin (100 + 4) → EReal)
  refine e.trans ?_
  rw [Finset.sum_eq_zero (s := (Finset.univ : Finset (Fin 4))) fun i _ => hz _ (Nat.le_add_right 100 i.val), add_zero]
  rfl

/-- The maximum of a family that has a largest member above minus infinity. -/
theorem fold_top {ι : Type} [Fintype ι] (f : ι → EReal) (i : ι) (h : ∀ j, f j ≤ f i) : Finset.fold max (⊥ : EReal) f Finset.univ = f i :=
  le_antisymm (Finset.fold_max_le (f i) |>.mpr ⟨bot_le, fun j _ => h j⟩) (Finset.le_fold_max (f i) |>.mpr (Or.inr ⟨i, Finset.mem_univ i, le_refl _⟩))

/-- What an attention weight can be: a real that is not negative, or minus infinity where a row's scores have no finite maximum. -/
def Weight (a : EReal) : Prop := a = ⊥ ∨ ∃ r : ℝ, 0 ≤ r ∧ a = (r : EReal)

/-- Sums of weights are like weights. -/
theorem Weight.sum {ι : Type} (s : Finset ι) {f : ι → EReal} (h : ∀ i, Weight (f i)) : Weight (∑ i ∈ s, f i) := by
  classical
  induction s using Finset.induction_on with
  | empty => exact Or.inr ⟨0, le_refl _, rfl⟩
  | insert a s ha ih =>
    rw [Finset.sum_insert ha]
    rcases h a with e | ⟨r, hr, e⟩
    · exact Or.inl (by rw [e, EReal.bot_add])
    · rcases ih with e' | ⟨r', hr', e'⟩
      · exact Or.inl (by rw [e', EReal.add_bot])
      · exact Or.inr ⟨r + r', add_nonneg hr hr', by rw [e, e', EReal.coe_add]⟩

/-- A sum that has minus infinity among its members is minus infinity. -/
theorem sum_bot {ι : Type} [Fintype ι] (f : ι → EReal) (i : ι) (h : f i = ⊥) : ∑ j, f j = ⊥ := by
  classical
  rw [← Finset.add_sum_erase _ _ (Finset.mem_univ i), h, EReal.bot_add]

/-- An exponential under the maximum: nothing, where the maximum is infinite. -/
theorem exp_under (a M : EReal) (hM : M = ⊤ ∨ M = ⊥) (h : a ≤ M) : Ideal.exp (a - M) = 0 := by
  rcases hM with rfl | rfl
  · rw [EReal.sub_top, Ideal.exp_bot]
  · rw [le_bot_iff.mp h, EReal.bot_sub, Ideal.exp_bot]

/-- Nothing over nothing. -/
theorem none_of_none : Ideal.div 0 0 = ⊥ := by
  simp [Ideal.div]

/-- An exponential under a real maximum is a real that is not negative. -/
theorem exp_under_real (a : EReal) (M : ℝ) (h : a ≤ (M : EReal)) : ∃ r : ℝ, 0 ≤ r ∧ Ideal.exp (a - (M : EReal)) = (r : EReal) := by
  induction a with
  | bot => exact ⟨0, le_refl _, by rw [EReal.bot_sub, Ideal.exp_bot]; rfl⟩
  | top => exact absurd (top_le_iff.mp h) (EReal.coe_ne_top M)
  | coe x => exact ⟨Real.exp (x - M), (Real.exp_pos _).le, by rw [← EReal.coe_sub, Ideal.exp_coe]⟩

/-- The softmax of a row of scores: the same with and without the padding, and not positive on the padding. -/
theorem soft_weight (s : Fin 100 → EReal) : (∀ l, Weight (ReferenceIdeal.Final.soft s l))
    ∧ ∀ (S : Fin 3328 → Fin 104 → EReal) (R : Fin 3328), (∀ l : Fin 104, S R l = if h : l.val < 100 then s ⟨l.val, h⟩ else ⊥) →
        (∀ (l : Fin 104) (h : l.val < 100), KernelIdeal.Body.sm S R l = ReferenceIdeal.Final.soft s ⟨l.val, h⟩)
        ∧ ∀ l : Fin 104, 100 ≤ l.val → KernelIdeal.Body.sm S R l ≤ 0 := by
  obtain ⟨i, hi⟩ := Finite.exists_max s
  have top : ∀ l, ReferenceIdeal.Final.soft s l = Ideal.div (Ideal.exp (s l - s i)) (∑ x, Ideal.exp (s x - s i)) := by
    intro l
    unfold ReferenceIdeal.Final.soft
    rw [low, fold_top s i hi, max_eq_right bot_le]
  have pad : ∀ (S : Fin 3328 → Fin 104 → EReal) (R : Fin 3328), (∀ l : Fin 104, S R l = if h : l.val < 100 then s ⟨l.val, h⟩ else ⊥) →
      ∀ l, KernelIdeal.Body.sm S R l = Ideal.div (Ideal.exp (S R l - s i)) (∑ x, Ideal.exp (s x - s i)) := by
    intro S R hS l
    have hS0 : S R ⟨i.val, by omega⟩ = s i := by rw [hS, dif_pos i.isLt]
    have below : ∀ j, S R j ≤ s i := by
      intro j
      rw [hS]
      split_ifs with h
      · exact hi _
      · exact bot_le
    have fold : Finset.fold max (⊥ : EReal) (fun x => S R x) Finset.univ = s i := by
      rw [fold_top (fun x => S R x) ⟨i.val, by omega⟩ (fun j => by rw [hS0]; exact below j), hS0]
    unfold KernelIdeal.Body.sm
    rw [low, fold, sum_pad _ (fun j hj => by rw [hS, dif_neg (by omega), EReal.bot_sub, Ideal.exp_bot])]
    exact congrArg _ (Finset.sum_congr rfl fun x _ => by rw [hS, dif_pos x.isLt])
  have same : ∀ (S : Fin 3328 → Fin 104 → EReal) (R : Fin 3328), (∀ l : Fin 104, S R l = if h : l.val < 100 then s ⟨l.val, h⟩ else ⊥) →
      ∀ (l : Fin 104) (h : l.val < 100), KernelIdeal.Body.sm S R l = ReferenceIdeal.Final.soft s ⟨l.val, h⟩ := by
    intro S R hS l h
    rw [pad S R hS, top, hS, dif_pos h]
  by_cases fin : s i = ⊤ ∨ s i = ⊥
  · have z : ∀ x, Ideal.exp (s x - s i) = 0 := fun x => exp_under _ _ fin (hi x)
    have zs : ∑ x, Ideal.exp (s x - s i) = 0 := Finset.sum_eq_zero fun x _ => z x
    refine ⟨fun l => Or.inl ?_, fun S R hS => ⟨same S R hS, fun l hl => ?_⟩⟩
    · rw [top, z, zs, none_of_none]
    · rw [pad S R hS, hS, dif_neg (by omega), exp_under _ _ fin bot_le, zs, none_of_none]
      exact bot_le
  · obtain ⟨M, hM⟩ : ∃ M : ℝ, s i = (M : EReal) := ⟨(s i).toReal, (EReal.coe_toReal (fun h => fin (Or.inl h)) (fun h => fin (Or.inr h))).symm⟩
    choose e e0 he using fun x => exp_under_real (s x) M (hM ▸ hi x)
    have ei : e i = 1 := by
      have := he i
      rw [hM, ← EReal.coe_sub, sub_self, Ideal.exp_coe, Real.exp_zero] at this
      exact (EReal.coe_eq_coe_iff.mp this).symm
    have zpos : 0 < ∑ x, e x := Finset.sum_pos' (fun x _ => e0 x) ⟨i, Finset.mem_univ i, by rw [ei]; exact one_pos⟩
    have sum : ∑ x, Ideal.exp (s x - s i) = ((∑ x, e x : ℝ) : EReal) := by
      rw [coe_sum]
      exact Finset.sum_congr rfl fun x _ => by rw [hM]; exact he x
    refine ⟨fun l => Or.inr ⟨e l / ∑ x, e x, div_nonneg (e0 l) zpos.le, ?_⟩, fun S R hS => ⟨same S R hS, fun l hl => ?_⟩⟩
    · rw [top, sum, hM, he, div_real _ _ zpos.ne']
    · rw [pad S R hS, hS, dif_neg (by omega), sum, EReal.bot_sub, Ideal.exp_bot, ← EReal.coe_zero, div_real _ _ zpos.ne', zero_div]

/-- A degree's factor: the same real on either side. -/
theorem dis_weight (d : EReal) (h : Weight d) : KernelIdeal.Body.dis d = ReferenceIdeal.Final.root d ∧ Re (ReferenceIdeal.Final.root d) := by
  by_cases h0 : 0 < d
  · obtain rfl | ⟨r, hr, rfl⟩ := h
    · exact absurd h0 not_lt_bot
    · have hp : 0 < r := EReal.coe_pos.mp h0
      have e : ReferenceIdeal.Final.root (r : EReal) = (((Real.sqrt r)⁻¹ : ℝ) : EReal) := by
        unfold ReferenceIdeal.Final.root
        rw [if_pos h0, if_pos h0, Ideal.sqrt_coe, if_neg hp.not_gt, ← EReal.coe_one, div_real _ _ (Real.sqrt_pos.mpr hp).ne', one_div]
      refine ⟨?_, _, e⟩
      rw [e]
      unfold KernelIdeal.Body.dis
      rw [if_pos h0, if_pos h0, Ideal.rsqrt_coe, if_neg hp.not_gt, if_neg hp.ne']
  · unfold KernelIdeal.Body.dis ReferenceIdeal.Final.root
    rw [if_neg h0, if_neg h0]
    exact ⟨rfl, 0, rfl⟩

/-- The normalisation of weights: real, the same on either side, and nothing on the padding's rows. -/
theorem norm_real (w : Fin 100 → Fin 100 → EReal) (hw : ∀ i l, Weight (w i l)) : ∃ n : Fin 100 → Fin 100 → ℝ,
    (∀ i l, ReferenceIdeal.Final.root (∑ x, w x i) * w i l * ReferenceIdeal.Final.root (∑ x, w x l) = (n i l : EReal))
    ∧ ∀ (W : Fin 104 → Fin 104 → EReal) (m : Fin 104 → EReal),
        (∀ (i l : Fin 104) (h : i.val < 100) (k : l.val < 100), W i l = w ⟨i.val, h⟩ ⟨l.val, k⟩) →
        (∀ i l : Fin 104, i.val < 100 → 100 ≤ l.val → W i l ≤ 0) →
        (∀ x : Fin 104, m x = if x.val < 100 then 1 else 0) →
        ∀ (i l : Fin 104) (hl : l.val < 100), W i l * KernelIdeal.Body.dis (∑ x, W x i * m x) * KernelIdeal.Body.dis (∑ x, m x * W x l)
          = if h : i.val < 100 then (n ⟨i.val, h⟩ ⟨l.val, hl⟩ : EReal) else 0 := by
  have dw : ∀ i, Weight (∑ x, w x i) := fun i => Weight.sum _ fun x => hw x i
  have real : ∀ i l, Re (ReferenceIdeal.Final.root (∑ x, w x i) * w i l * ReferenceIdeal.Final.root (∑ x, w x l)) := by
    intro i l
    rcases hw i l with e | ⟨r, _, e⟩
    · have z : ReferenceIdeal.Final.root (∑ x, w x l) = 0 := by
        rw [sum_bot (fun x => w x l) i e]
        exact if_neg not_lt_bot
      rw [z, mul_zero]
      exact ⟨0, rfl⟩
    · exact ((dis_weight _ (dw i)).2.mul ⟨r, e⟩).mul (dis_weight _ (dw l)).2
  choose n hn using real
  refine ⟨n, hn, fun W m hW hP hm i l hl => ?_⟩
  have col : ∀ i : Fin 104, ∑ x, W x i * m x = ∑ x : Fin 100, W ⟨x.val, by omega⟩ i := by
    intro i
    rw [sum_pad _ (fun j hj => by rw [hm, if_neg (by omega), mul_zero])]
    exact Finset.sum_congr rfl fun x _ => by rw [hm, if_pos x.isLt, mul_one]
  have inside : ∀ (i : Fin 104) (h : i.val < 100), ∑ x, W x i * m x = ∑ x, w x ⟨i.val, h⟩ :=
    fun i h => (col i).trans (Finset.sum_congr rfl fun x _ => hW _ _ x.isLt h)
  have row : ∑ x, m x * W x l = ∑ x, W x l * m x := Finset.sum_congr rfl fun x _ => mul_comm _ _
  rw [row]
  split_ifs with h
  · rw [inside i h, inside l hl, (dis_weight _ (dw _)).1, (dis_weight _ (dw _)).1, hW i l h hl, ← hn, mul_comm (w _ _)]
  · have z : KernelIdeal.Body.dis (∑ x, W x i * m x) = 0 := by
      rw [col]
      exact if_neg (not_lt.mpr (Finset.sum_nonpos fun x _ => hP _ _ x.isLt (by omega)))
    rw [z, mul_zero, zero_mul]

/-- A sum over 768 lanes is a sum over twelve times and 64 channels. -/
theorem sum_lanes {M : Type} [AddCommMonoid M] (f : Fin 12 → Fin 64 → M) : ∑ k : Fin 768, f ⟨k.val / 64, by omega⟩ ⟨k.val % 64, by omega⟩ = ∑ s, ∑ c, f s c := by
  rw [← Fintype.sum_prod_type']
  exact Fintype.sum_equiv (finProdFinEquiv (m := 12) (n := 64)).symm _ (fun p => f p.1 p.2) (fun k => rfl)

/-- A block before its activation and its own bias: the aggregates sent through the taps. -/
def pre (A : Fin 12 → Fin 100 → Fin 64 → ℝ) (tap : Fin 12 → Fin 12 → Fin 64 → Fin 64 → ℝ) (t : Fin 12) (l : Fin 100) (o : Fin 64) : ℝ :=
  ∑ s, ∑ c, A s l c * tap s t c o

/-- A block's aggregates, over the reals. -/
def aggr (gW : Fin 12 → Fin 64 → Fin 64 → ℝ) (f : Fin 100 → Fin 12 → Fin 64 → ℝ) (n : Fin 100 → Fin 100 → ℝ) (gb : Fin 12 → Fin 64 → ℝ)
    (s : Fin 12) (l : Fin 100) (c : Fin 64) : ℝ :=
  ∑ i, (∑ d, gW s c d * f i s d) * n i l + gb s c

/-- The aggregates of real data are real. -/
theorem agg_real (gW : Fin 12 → Fin 64 → Fin 64 → ℝ) (f : Fin 100 → Fin 12 → Fin 64 → ℝ) (n : Fin 100 → Fin 100 → ℝ) (gb : Fin 12 → Fin 64 → ℝ)
    (s : Fin 12) (l : Fin 100) (c : Fin 64) :
    ReferenceIdeal.Final.agg (fun s c d => (gW s c d : EReal)) (fun i s d => (f i s d : EReal)) (fun i l => (n i l : EReal)) (fun s c => (gb s c : EReal)) s l c
      = (aggr gW f n gb s l c : EReal) := by
  unfold ReferenceIdeal.Final.agg aggr
  simp only [EReal.coe_add, coe_sum, EReal.coe_mul]

/-- Sending the features through the banded matrix, then over the in-edges, and adding the bias sent through the taps, is the same as
    sending the aggregates through the taps. -/
theorem fused_layer (gW : Fin 12 → Fin 64 → Fin 64 → ℝ) (f : Fin 100 → Fin 12 → Fin 64 → ℝ) (n : Fin 100 → Fin 100 → ℝ) (gb : Fin 12 → Fin 64 → ℝ)
    (tap : Fin 12 → Fin 12 → Fin 64 → Fin 64 → ℝ) (t : Fin 12) (l : Fin 100) (o : Fin 64) :
    ∑ i, n i l * (∑ s, ∑ d, f i s d * ∑ c, gW s c d * tap s t c o) + ∑ s, ∑ c, gb s c * tap s t c o = pre (aggr gW f n gb) tap t l o := by
  unfold pre aggr
  simp only [add_mul, Finset.sum_add_distrib]
  congr 1
  simp only [Finset.mul_sum, Finset.sum_mul]
  rw [Finset.sum_comm]
  refine Finset.sum_congr rfl fun s _ => ?_
  rw [Finset.sum_comm (s := (Finset.univ : Finset (Fin 64))) (t := (Finset.univ : Finset (Fin 100)))]
  refine Finset.sum_congr rfl fun i _ => ?_
  rw [Finset.sum_comm]
  refine Finset.sum_congr rfl fun c _ => Finset.sum_congr rfl fun d _ => ?_
  ring

/-- The kernel's layer on real data. -/
theorem kernel_layer (gW : Fin 12 → Fin 64 → Fin 64 → ℝ) (f : Fin 100 → Fin 12 → Fin 64 → ℝ) (n : Fin 100 → Fin 100 → ℝ) (gb : Fin 12 → Fin 64 → ℝ)
    (tap : Fin 12 → Fin 12 → Fin 64 → Fin 64 → ℝ) (cb : Fin 64 → EReal)
    (W : Fin 104 → Fin 104 → EReal) (F : Fin 104 → Fin 768 → EReal) (M : Fin 768 → Fin 768 → EReal) (b : Fin 768 → EReal)
    (hW : ∀ (i l : Fin 104) (hl : l.val < 100), W i l = if h : i.val < 100 then (n ⟨i.val, h⟩ ⟨l.val, hl⟩ : EReal) else 0)
    (hF : ∀ (i : Fin 100) (k : Fin 768), F ⟨i.val, by omega⟩ k = (f i ⟨k.val / 64, by omega⟩ ⟨k.val % 64, by omega⟩ : EReal))
    (hM : ∀ k q : Fin 768, M k q = ((∑ c, gW ⟨k.val / 64, by omega⟩ c ⟨k.val % 64, by omega⟩ * tap ⟨k.val / 64, by omega⟩ ⟨q.val / 64, by omega⟩ c ⟨q.val % 64, by omega⟩ : ℝ) : EReal))
    (hb : ∀ q : Fin 768, b q = ((∑ s, ∑ c, gb s c * tap s ⟨q.val / 64, by omega⟩ c ⟨q.val % 64, by omega⟩ : ℝ) : EReal) + cb ⟨q.val % 64, by omega⟩)
    (l : Fin 100) (q : Fin 768) :
    KernelIdeal.Body.lay W (fun i q => ∑ k, F i k * M k q) b ⟨l.val, by omega⟩ q
      = ReferenceIdeal.Final.leak ((pre (aggr gW f n gb) tap ⟨q.val / 64, by omega⟩ l ⟨q.val % 64, by omega⟩ : EReal) + cb ⟨q.val % 64, by omega⟩) := by
  unfold KernelIdeal.Body.lay
  show ReferenceIdeal.Final.leak _ = _
  refine congrArg ReferenceIdeal.Final.leak ?_
  rw [hb, ← add_assoc]
  refine congrArg (· + cb ⟨q.val % 64, _⟩) ?_
  rw [sum_pad _ (fun j hj => by rw [hW _ _ l.isLt, dif_neg (by omega), zero_mul]), ← fused_layer, EReal.coe_add]
  refine congrArg₂ (· + ·) ?_ rfl
  rw [coe_sum]
  refine Finset.sum_congr rfl fun i _ => ?_
  rw [hW _ _ l.isLt, dif_pos i.isLt, EReal.coe_mul, ← sum_lanes (fun s d => f i s d * ∑ c, gW s c d * tap s ⟨q.val / 64, _⟩ c ⟨q.val % 64, _⟩), coe_sum]
  refine congrArg₂ (· * ·) rfl (Finset.sum_congr rfl fun k _ => ?_)
  rw [hF, hM, EReal.coe_mul]

/-- The tap of a convolution of width `K` with `p` zeros on either side that leads from time `s` to time `t`. -/
def tapOf {K : ℕ} (p : ℕ) (cv : Fin 64 → Fin 64 → Fin K → ℝ) (s t : Fin 12) (c o : Fin 64) : ℝ :=
  if h : t.val ≤ s.val + p ∧ s.val + p - t.val < K then cv o c ⟨s.val + p - t.val, h.2⟩ else 0

/-- Summing over the taps, with zeros outside the times, is summing over the times, with zeros outside the taps. -/
theorem reindex {K p : ℕ} (G : Fin 12 → Fin K → ℝ) (t : Fin 12) :
    (∑ k : Fin K, if h : p ≤ k.val + t.val ∧ k.val + t.val - p < 12 then G ⟨k.val + t.val - p, h.2⟩ k else 0)
      = ∑ s : Fin 12, if h : t.val ≤ s.val + p ∧ s.val + p - t.val < K then G s ⟨s.val + p - t.val, h.2⟩ else 0 := by
  have left : ∀ k : Fin K, (if h : p ≤ k.val + t.val ∧ k.val + t.val - p < 12 then G ⟨k.val + t.val - p, h.2⟩ k else 0)
      = ∑ s : Fin 12, if k.val + t.val = s.val + p then G s k else 0 := by
    intro k
    split_ifs with h
    · rw [Finset.sum_eq_single ⟨k.val + t.val - p, h.2⟩ (fun s _ hs => if_neg fun e => hs (Fin.ext (by simp only; omega))) (fun hn => absurd (Finset.mem_univ _) hn)]
      exact (if_pos (by simp only; omega)).symm
    · exact (Finset.sum_eq_zero fun s _ => if_neg fun e => h ⟨by omega, by omega⟩).symm
  have right : ∀ s : Fin 12, (if h : t.val ≤ s.val + p ∧ s.val + p - t.val < K then G s ⟨s.val + p - t.val, h.2⟩ else 0)
      = ∑ k : Fin K, if k.val + t.val = s.val + p then G s k else 0 := by
    intro s
    split_ifs with h
    · rw [Finset.sum_eq_single ⟨s.val + p - t.val, h.2⟩ (fun k _ hk => if_neg fun e => hk (Fin.ext (by simp only; omega))) (fun hn => absurd (Finset.mem_univ _) hn)]
      exact (if_pos (by simp only; omega)).symm
    · exact (Finset.sum_eq_zero fun k _ => if_neg fun e => h ⟨by omega, by omega⟩).symm
  simp only [left, right]
  exact Finset.sum_comm

/-- The reference's convolution on real data. -/
theorem reference_layer {K p N : ℕ} (hN : ∀ (k : Fin K) (t : Fin 12), k.val + t.val < N) (A : Fin 12 → Fin 100 → Fin 64 → ℝ) (cv : Fin 64 → Fin 64 → Fin K → ℝ)
    (P : Fin N → Fin 100 → Fin 64 → EReal)
    (hP : ∀ (s : Fin N) (l : Fin 100) (c : Fin 64), P s l c = if h : p ≤ s.val ∧ s.val - p < 12 then (A ⟨s.val - p, h.2⟩ l c : EReal) else 0)
    (t : Fin 12) (l : Fin 100) (o : Fin 64) :
    ∑ k : Fin K, ReferenceIdeal.Final.dot64 (fun x => P ⟨k.val + t.val, hN k t⟩ l x) (fun x => (cv o x k : EReal)) = (pre A (tapOf p cv) t l o : EReal) := by
  have e : pre A (tapOf p cv) t l o = ∑ s : Fin 12, if h : t.val ≤ s.val + p ∧ s.val + p - t.val < K then ∑ c, A s l c * cv o c ⟨s.val + p - t.val, h.2⟩ else 0 := by
    unfold pre tapOf
    refine Finset.sum_congr rfl fun s _ => ?_
    split_ifs
    · rfl
    · exact Finset.sum_eq_zero fun c _ => mul_zero _
  rw [e, ← reindex (fun s k => ∑ c, A s l c * cv o c k), coe_sum]
  refine Finset.sum_congr rfl fun k _ => ?_
  unfold ReferenceIdeal.Final.dot64
  simp only [hP]
  split_ifs
  · simp only [coe_sum, EReal.coe_mul]
  · rw [EReal.coe_zero]
    exact Finset.sum_eq_zero fun c _ => zero_mul _

/-- The kernel's banded matrix holds, from time to time, the linear map followed by the tap. -/
theorem band_real {K p : ℕ} (hK : K = 2 * p + 1) (gW : Fin 12 → Fin 64 → Fin 64 → ℝ) (cv : Fin 64 → Fin 64 → Fin K → ℝ)
    (wt : Fin 12 → Fin 64 → Fin 64 → EReal) (wr : Fin 64 → Fin (64 * K) → EReal)
    (ht : ∀ s d c, wt s d c = (gW s c d : EReal))
    (hr : ∀ (c : Fin 64) (d : Fin K) (o : Fin 64), wr c ⟨64 * d.val + o.val, by omega⟩ = (cv o c d.rev : EReal)) (k q : Fin 768) :
    KernelIdeal.Body.band wt wr (64 * p) k q
      = ((∑ c, gW ⟨k.val / 64, by omega⟩ c ⟨k.val % 64, by omega⟩ * tapOf p cv ⟨k.val / 64, by omega⟩ ⟨q.val / 64, by omega⟩ c ⟨q.val % 64, by omega⟩ : ℝ) : EReal) := by
  unfold KernelIdeal.Body.band tapOf
  by_cases h : 64 * (k.val / 64) ≤ q.val + 64 * p ∧ q.val + 64 * p - 64 * (k.val / 64) < 64 * K
  · have hd : q.val / 64 + p - k.val / 64 < K := by omega
    rw [dif_pos h]
    simp only [dif_pos (show q.val / 64 ≤ k.val / 64 + p ∧ k.val / 64 + p - q.val / 64 < K by omega)]
    rw [coe_sum]
    refine Finset.sum_congr rfl fun c _ => ?_
    rw [EReal.coe_mul, ht]
    refine congrArg₂ (· * ·) rfl ?_
    have e : (⟨q.val + 64 * p - 64 * (k.val / 64), h.2⟩ : Fin (64 * K)) = ⟨64 * (⟨q.val / 64 + p - k.val / 64, hd⟩ : Fin K).val + (⟨q.val % 64, by omega⟩ : Fin 64).val, by simp only; omega⟩ :=
      Fin.ext (by simp only; omega)
    rw [e, hr]
    refine congrArg (fun d => ((cv _ c d : ℝ) : EReal)) (Fin.ext ?_)
    rw [Fin.val_rev]
    simp only
    omega
  · rw [dif_neg h]
    simp only [dif_neg (show ¬ (q.val / 64 ≤ k.val / 64 + p ∧ k.val / 64 + p - q.val / 64 < K) by omega), mul_zero, Finset.sum_const_zero, EReal.coe_zero]

end Cert.Fused

end
-- ==== Proof.FusedHost.lean ====
module

public import proofs.«01_k».proof.Proof.Gen.KernelIdeal.Value
public import Idealize.ShloMosaic.Lib.Pointwise
public import Idealize.ShloMosaic.Lib.Tactic
public import Idealize.ShloMosaic.Lib.StableHlo.ReadAt

@[expose] public section

set_option maxRecDepth 16384
set_option maxHeartbeats 400000

noncomputable section

open Idealize.ShloMosaic Idealize.ShloMosaic.TcCoe Idealize.SL.Sem
open Idealize.ShloMosaic.Pipeline (Dat)

namespace Cert.KernelIdeal.Host

open Cert.KernelIdeal Cert.KernelIdeal.Gen

/-- The gather's dimensions: whole 64 by 64 planes of a stack, one plane for each pair of times. -/
abbrev planes (N : ℕ) (wf : GatherDims.WF ⟨3, ![N, 64, 64]⟩ S12x12x1 S12x12x64x64 [2, 3] [0] [] [0] [] 2 ![1, 64, 64]) :
    GatherDims ⟨3, ![N, 64, 64]⟩ S12x12x1 S12x12x64x64 where
  offsetDims := [2, 3]
  collapsedSliceDims := [0]
  operandBatchingDims := []
  startIndicesBatchingDims := []
  startIndexMap := [0]
  indexVectorDim := 2
  sliceSizes := ![1, 64, 64]
  wf := wf

/-- A gathered entry: the plane the index names, clamped to the stack. -/
theorem planes_apply {N : ℕ} (hN : 0 < N) (wf)
    (x : (⟨3, ![N, 64, 64]⟩ : Shape).Idx → EReal) (idx : IVec S12x12x1 32) (τ t : Fin 12) (c o : Fin 64) :
    Host.gather (planes N wf) x idx (ix4 τ t c o) = x (ix3 ⟨min (idx (ix3 τ t 0)).toInt.toNat (N - 1), by omega⟩ c o) := by
  unfold Host.gather
  congr 1
  funext a
  refine Fin.ext ?_
  show (planes N wf).start (ix4 τ t c o) idx a + (planes N wf).batchCoord (ix4 τ t c o) a + (planes N wf).offCoord (ix4 τ t c o) a = _
  rw [GatherDims.batchCoord_eq_zero _ _ _ List.not_mem_nil, Nat.add_zero]
  have cases : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases cases with rfl | h
  · rw [GatherDims.offCoord_eq_zero _ _ _ (fun h => ((GatherDims.mem_sKept _ _).mp h).1 (List.mem_singleton.mpr rfl)), Nat.add_zero]
    unfold GatherDims.start
    rw [dif_pos (show (0 : Fin 3) ∈ (planes N wf).startIndexMap from List.mem_singleton.mpr rfl)]
    refine congrArg₂ min (congrArg (fun i => (idx i).toInt.toNat) ?_) rfl
    funext b
    refine Fin.ext ?_
    match b with
    | ⟨0, _⟩ => rfl
    | ⟨1, _⟩ => rfl
    | ⟨2, _⟩ => rfl
  · have ne : a ∉ ([0] : List (Fin 3)) := by
      rcases h with rfl | rfl
      · exact fun k => absurd (congrArg Fin.val (List.mem_singleton.mp k)) (show (_ : ℕ) ≠ 0 from Nat.succ_ne_zero _)
      · exact fun k => absurd (congrArg Fin.val (List.mem_singleton.mp k)) (show (_ : ℕ) ≠ 0 from Nat.succ_ne_zero _)
    unfold GatherDims.start GatherDims.offCoord
    rw [dif_neg (show a ∉ (planes N wf).startIndexMap from ne), dif_pos ((GatherDims.mem_sKept _ _).mpr ⟨ne, List.not_mem_nil⟩), Nat.zero_add]
    rcases h with rfl | rfl <;> rfl

/-- A bias sent through taps, plus the taps' own bias. -/
def through (bias tap : Fin 12 → Fin 64 → EReal) (own : EReal) : EReal := (∑ s, ∑ c, bias s c * tap s c) + own

/-- A gather from a stack of taps with a plane of zeros behind them: the tap where there is one, else zero. -/
theorem window {K p : ℕ} (hK : K < 100) (wf) (x : (⟨3, ![K + 1, 64, 64]⟩ : Shape).Idx → EReal) (idx : IVec S12x12x1 32)
    (w : (⟨3, ![64, 64, K]⟩ : Shape).Idx → EReal)
    (hi : ∀ s t : Fin 12, idx (ix3 s t 0) = if t.val ≤ s.val + p ∧ s.val + p - t.val < K then BitVec.ofNat 32 (s.val + p - t.val) else BitVec.ofNat 32 K)
    (hx : ∀ (k : Fin (K + 1)) (c o : Fin 64), x (ix3 k c o) = if h : k.val < K then w (ix3 o c ⟨k.val, h⟩) else (0 : EReal))
    (s t : Fin 12) (c o : Fin 64) :
    Host.gather (planes (K + 1) wf) x idx (ix4 s t c o)
      = if h : t.val ≤ s.val + p ∧ s.val + p - t.val < K then w (ix3 o c ⟨s.val + p - t.val, h.2⟩) else (0 : EReal) := by
  have small : ∀ k : ℕ, k ≤ K → (BitVec.ofNat 32 k).toInt.toNat = k := by
    intro k hk
    rw [BitVec.toInt_eq_toNat_of_lt (by rw [BitVec.toNat_ofNat]; omega), BitVec.toNat_ofNat, Int.toNat_natCast]
    omega
  rw [planes_apply (Nat.succ_pos K), hx]
  by_cases h : t.val ≤ s.val + p ∧ s.val + p - t.val < K
  · have e : min (idx (ix3 s t 0)).toInt.toNat (K + 1 - 1) = s.val + p - t.val := by
      rw [hi, if_pos h, small _ h.2.le]; omega
    rw [dif_pos h, dif_pos (show min (idx (ix3 s t 0)).toInt.toNat (K + 1 - 1) < K from e ▸ h.2)]
    exact congrArg (fun k => w (ix3 o c k)) (Fin.ext e)
  · have e : min (idx (ix3 s t 0)).toInt.toNat (K + 1 - 1) = K := by
      rw [hi, if_neg h, small _ le_rfl]; omega
    rw [dif_neg h, dif_neg (show ¬ min (idx (ix3 s t 0)).toInt.toNat (K + 1 - 1) < K from by rw [e]; exact lt_irrefl K)]

variable (m : (ℓ : Loc nD τ sig) → Buf (Elt Ideal) ℓ)

/-- The recurrence's input weights, as a row. -/
theorem in_weights (c : Dev nD) (k : Fin 192) :
    (V m c main_v3 : Vec Ideal S1x192 .f32) (ix2 0 k) = (m ((c : Thread nD τ).loc main_arg3) : Vec Ideal S192x1 .f32) (ix2 k 0) := by
  unfold V
  after_reads_at

/-- The recurrence's input bias, as a row. -/
theorem in_bias (c : Dev nD) (k : Fin 192) :
    (V m c main_v4 : Vec Ideal S1x192 .f32) (ix2 0 k) = (m ((c : Thread nD τ).loc main_arg5) : Vec Ideal S192 .f32) (ix1 k) := by
  unfold V
  after_reads_at

/-- The recurrence's state bias, as a row. -/
theorem state_bias (c : Dev nD) (k : Fin 192) :
    (V m c main_v5 : Vec Ideal S1x192 .f32) (ix2 0 k) = (m ((c : Thread nD τ).loc main_arg6) : Vec Ideal S192 .f32) (ix1 k) := by
  unfold V
  after_reads_at

/-- The query weights, transposed. -/
theorem query_weights (c : Dev nD) (j : Fin 64) (d : Fin 32) :
    (V m c main_v6 : Vec Ideal S64x32 .f32) (ix2 j d) = (m ((c : Thread nD τ).loc main_arg7) : Vec Ideal S32x64 .f32) (ix2 d j) := by
  unfold V
  after_reads_at

/-- The key weights, transposed. -/
theorem key_weights (c : Dev nD) (j : Fin 64) (d : Fin 32) :
    (V m c main_v7 : Vec Ideal S64x32 .f32) (ix2 j d) = (m ((c : Thread nD τ).loc main_arg9) : Vec Ideal S32x64 .f32) (ix2 d j) := by
  unfold V
  after_reads_at

/-- The query bias, as a row. -/
theorem query_bias (c : Dev nD) (d : Fin 32) :
    (V m c main_v8 : Vec Ideal S1x32 .f32) (ix2 0 d) = (m ((c : Thread nD τ).loc main_arg8) : Vec Ideal S32 .f32) (ix1 d) := by
  unfold V
  after_reads_at

/-- The key bias, as a row. -/
theorem key_bias (c : Dev nD) (d : Fin 32) :
    (V m c main_v9 : Vec Ideal S1x32 .f32) (ix2 0 d) = (m ((c : Thread nD τ).loc main_arg10) : Vec Ideal S32 .f32) (ix1 d) := by
  unfold V
  after_reads_at

/-- The feature weights, as a row. -/
theorem lift_weights (c : Dev nD) (d : Fin 64) :
    (V m c main_v10 : Vec Ideal S1x64 .f32) (ix2 0 d) = (m ((c : Thread nD τ).loc main_arg1) : Vec Ideal S64 .f32) (ix1 d) := by
  unfold V
  after_reads_at

/-- The feature bias, as a row. -/
theorem lift_bias (c : Dev nD) (d : Fin 64) :
    (V m c main_v11 : Vec Ideal S1x64 .f32) (ix2 0 d) = (m ((c : Thread nD τ).loc main_arg2) : Vec Ideal S64 .f32) (ix1 d) := by
  unfold V
  after_reads_at

/-- The aggregation weights, each plane transposed. -/
theorem graph_weights (c : Dev nD) (b : Fin 3) (s : Fin 12) (k l : Fin 64) :
    (V m c main_v12 : Vec Ideal S3x12x64x64 .f32) (ix4 b s k l) = (m ((c : Thread nD τ).loc main_arg11) : Vec Ideal S3x12x64x64 .f32) (ix4 b s l k) := by
  unfold V
  after_reads_at

/-- The data window: one sample's nodes in 104 rows, its times in the lanes, zero past the nodes. -/
theorem data (c : Dev nD) (g : Fin 32) (n : Fin 104) (t : Fin 12) :
    (V m c main_v2 : Vec Ideal S3328x12 .f32) (ix2 ⟨104 * g.val + n.val, by omega⟩ t)
      = if h : n.val < 100 then (m ((c : Thread nD τ).loc main_arg0) : Vec Ideal S32x12x100 .f32) (ix3 g t ⟨n.val, h⟩) else (0 : EReal) := by
  unfold V
  after_reads_at
  split_ifs
  · rfl
  · show ((((0#32 : BitVec 32).toInt : ℤ) : ℝ) : EReal) = 0
    simp

/-- The column of ones over the nodes. -/
theorem mask (c : Dev nD) (n : Fin 104) :
    (V m c main_v139 : Vec Ideal S104x1 .f32) (ix2 n 0) = if n.val < 100 then (1 : EReal) else 0 := by
  unfold V
  after_reads_at
  show Scalar.select (IntOp.cmpi .slt (BitVec.ofNat 32 n.val) 100#32) (1 : EReal) 0 = _
  have e : ∀ n : Fin 104, IntOp.cmpi .slt (BitVec.ofNat 32 n.val) 100#32 = if n.val < 100 then 1#1 else 0#1 := by decide +kernel
  rw [e]
  split_ifs
  · rfl
  · rfl

/-- Block 0's plane numbers: the tap that leads from one time to the other, or the plane of zeros past the last. -/
theorem plane_0 (c : Dev nD) (s t : Fin 12) :
    (V m c main_v48 : IVec S12x12x1 32) (ix3 s t 0) = if t.val ≤ s.val + 1 ∧ s.val + 1 - t.val < 3 then BitVec.ofNat 32 (s.val + 1 - t.val) else BitVec.ofNat 32 3 := by
  unfold V
  after_reads_at
  revert s t
  decide +kernel

/-- Block 0's stack of taps, and the plane of zeros behind them. -/
theorem stack_0 (c : Dev nD) (k : Fin 4) (c' o : Fin 64) :
    (V m c main_v27 : Vec Ideal S4x64x64 .f32) (ix3 k c' o)
      = if h : k.val < 3 then (m ((c : Thread nD τ).loc main_arg13) : Vec Ideal S64x64x3 .f32) (ix3 o c' ⟨k.val, h⟩) else (0 : EReal) := by
  unfold V
  after_reads_at

/-- Block 0's gathered taps: the tap between the two times where there is one, else zero. -/
theorem taps_0 (c : Dev nD) (s t : Fin 12) (c' o : Fin 64) :
    (V m c main_v49 : Vec Ideal S12x12x64x64 .f32) (ix4 s t c' o)
      = if h : t.val ≤ s.val + 1 ∧ s.val + 1 - t.val < 3 then
          (m ((c : Thread nD τ).loc main_arg13) : Vec Ideal S64x64x3 .f32) (ix3 o c' ⟨s.val + 1 - t.val, h.2⟩) else (0 : EReal) := by
  refine Eq.trans ?_ (window (K := 3) (p := 1) (by decide) gather_S4x64x64_S12x12x1_S12x12x64x64_23_0_n_n_0_2_16464_wf _ _ _ (plane_0 m c) (stack_0 m c) s t c' o)
  unfold V
  after_reads_at
  rfl

/-- Block 0's taps as the kernel lays them out: reversed, one 64-wide strip a tap. -/
theorem strip_0 (c : Dev nD) (c' : Fin 64) (d : Fin 3) (o : Fin 64) :
    (V m c main_v15 : Vec Ideal S64x192 .f32) (ix2 c' ⟨64 * d.val + o.val, by omega⟩)
      = (m ((c : Thread nD τ).loc main_arg13) : Vec Ideal S64x64x3 .f32) (ix3 o c' d.rev) := by
  unfold V
  after_reads_at
  rfl

/-- Block 0's bias over a row: the aggregation's bias sent through the taps, plus the convolution's own. -/
theorem row_0 (c : Dev nD) (q : Fin 768) :
    (V m c main_v57 : Vec Ideal S1x768 .f32) (ix2 0 q)
      = through (fun s c' => (m ((c : Thread nD τ).loc main_arg12) : Vec Ideal S3x12x64 .f32) (ix3 0 s c'))
          (fun s c' => (V m c main_v49 : Vec Ideal S12x12x64x64 .f32) (ix4 s ⟨q.val / 64, by omega⟩ c' ⟨q.val % 64, by omega⟩))
          ((m ((c : Thread nD τ).loc main_arg14) : Vec Ideal S64 .f32) (ix1 ⟨q.val % 64, by omega⟩)) := by
  unfold V
  after_reads_at
  rfl

/-- Block 1's plane numbers: the tap that leads from one time to the other, or the plane of zeros past the last. -/
theorem plane_1 (c : Dev nD) (s t : Fin 12) :
    (V m c main_v84 : IVec S12x12x1 32) (ix3 s t 0) = if t.val ≤ s.val + 2 ∧ s.val + 2 - t.val < 5 then BitVec.ofNat 32 (s.val + 2 - t.val) else BitVec.ofNat 32 5 := by
  unfold V
  after_reads_at
  revert s t
  decide +kernel

/-- Block 1's stack of taps, and the plane of zeros behind them. -/
theorem stack_1 (c : Dev nD) (k : Fin 6) (c' o : Fin 64) :
    (V m c main_v63 : Vec Ideal S6x64x64 .f32) (ix3 k c' o)
      = if h : k.val < 5 then (m ((c : Thread nD τ).loc main_arg15) : Vec Ideal S64x64x5 .f32) (ix3 o c' ⟨k.val, h⟩) else (0 : EReal) := by
  unfold V
  after_reads_at

/-- Block 1's gathered taps: the tap between the two times where there is one, else zero. -/
theorem taps_1 (c : Dev nD) (s t : Fin 12) (c' o : Fin 64) :
    (V m c main_v85 : Vec Ideal S12x12x64x64 .f32) (ix4 s t c' o)
      = if h : t.val ≤ s.val + 2 ∧ s.val + 2 - t.val < 5 then
          (m ((c : Thread nD τ).loc main_arg15) : Vec Ideal S64x64x5 .f32) (ix3 o c' ⟨s.val + 2 - t.val, h.2⟩) else (0 : EReal) := by
  refine Eq.trans ?_ (window (K := 5) (p := 2) (by decide) gather_S6x64x64_S12x12x1_S12x12x64x64_23_0_n_n_0_2_16464_wf _ _ _ (plane_1 m c) (stack_1 m c) s t c' o)
  unfold V
  after_reads_at
  rfl

/-- Block 1's taps as the kernel lays them out: reversed, one 64-wide strip a tap. -/
theorem strip_1 (c : Dev nD) (c' : Fin 64) (d : Fin 5) (o : Fin 64) :
    (V m c main_v18 : Vec Ideal S64x320 .f32) (ix2 c' ⟨64 * d.val + o.val, by omega⟩)
      = (m ((c : Thread nD τ).loc main_arg15) : Vec Ideal S64x64x5 .f32) (ix3 o c' d.rev) := by
  unfold V
  after_reads_at
  rfl

/-- Block 1's bias over a row: the aggregation's bias sent through the taps, plus the convolution's own. -/
theorem row_1 (c : Dev nD) (q : Fin 768) :
    (V m c main_v93 : Vec Ideal S1x768 .f32) (ix2 0 q)
      = through (fun s c' => (m ((c : Thread nD τ).loc main_arg12) : Vec Ideal S3x12x64 .f32) (ix3 1 s c'))
          (fun s c' => (V m c main_v85 : Vec Ideal S12x12x64x64 .f32) (ix4 s ⟨q.val / 64, by omega⟩ c' ⟨q.val % 64, by omega⟩))
          ((m ((c : Thread nD τ).loc main_arg16) : Vec Ideal S64 .f32) (ix1 ⟨q.val % 64, by omega⟩)) := by
  unfold V
  after_reads_at
  rfl

/-- Block 2's plane numbers: the tap that leads from one time to the other, or the plane of zeros past the last. -/
theorem plane_2 (c : Dev nD) (s t : Fin 12) :
    (V m c main_v120 : IVec S12x12x1 32) (ix3 s t 0) = if t.val ≤ s.val + 3 ∧ s.val + 3 - t.val < 7 then BitVec.ofNat 32 (s.val + 3 - t.val) else BitVec.ofNat 32 7 := by
  unfold V
  after_reads_at
  revert s t
  decide +kernel

/-- Block 2's stack of taps, and the plane of zeros behind them. -/
theorem stack_2 (c : Dev nD) (k : Fin 8) (c' o : Fin 64) :
    (V m c main_v99 : Vec Ideal S8x64x64 .f32) (ix3 k c' o)
      = if h : k.val < 7 then (m ((c : Thread nD τ).loc main_arg17) : Vec Ideal S64x64x7 .f32) (ix3 o c' ⟨k.val, h⟩) else (0 : EReal) := by
  unfold V
  after_reads_at

/-- Block 2's gathered taps: the tap between the two times where there is one, else zero. -/
theorem taps_2 (c : Dev nD) (s t : Fin 12) (c' o : Fin 64) :
    (V m c main_v121 : Vec Ideal S12x12x64x64 .f32) (ix4 s t c' o)
      = if h : t.val ≤ s.val + 3 ∧ s.val + 3 - t.val < 7 then
          (m ((c : Thread nD τ).loc main_arg17) : Vec Ideal S64x64x7 .f32) (ix3 o c' ⟨s.val + 3 - t.val, h.2⟩) else (0 : EReal) := by
  refine Eq.trans ?_ (window (K := 7) (p := 3) (by decide) gather_S8x64x64_S12x12x1_S12x12x64x64_23_0_n_n_0_2_16464_wf _ _ _ (plane_2 m c) (stack_2 m c) s t c' o)
  unfold V
  after_reads_at
  rfl

/-- Block 2's taps as the kernel lays them out: reversed, one 64-wide strip a tap. -/
theorem strip_2 (c : Dev nD) (c' : Fin 64) (d : Fin 7) (o : Fin 64) :
    (V m c main_v21 : Vec Ideal S64x448 .f32) (ix2 c' ⟨64 * d.val + o.val, by omega⟩)
      = (m ((c : Thread nD τ).loc main_arg17) : Vec Ideal S64x64x7 .f32) (ix3 o c' d.rev) := by
  unfold V
  after_reads_at
  rfl

/-- Block 2's bias over a row: the aggregation's bias sent through the taps, plus the convolution's own. -/
theorem row_2 (c : Dev nD) (q : Fin 768) :
    (V m c main_v129 : Vec Ideal S1x768 .f32) (ix2 0 q)
      = through (fun s c' => (m ((c : Thread nD τ).loc main_arg12) : Vec Ideal S3x12x64 .f32) (ix3 2 s c'))
          (fun s c' => (V m c main_v121 : Vec Ideal S12x12x64x64 .f32) (ix4 s ⟨q.val / 64, by omega⟩ c' ⟨q.val % 64, by omega⟩))
          ((m ((c : Thread nD τ).loc main_arg18) : Vec Ideal S64 .f32) (ix1 ⟨q.val % 64, by omega⟩)) := by
  unfold V
  after_reads_at
  rfl

/-- Row 0 of the table of biases. -/
theorem bias_0 (c : Dev nD) (q : Fin 768) :
    (V m c main_v133 : Vec Ideal S3x1x768 .f32) (ix3 0 0 q) = (V m c main_v57 : Vec Ideal S1x768 .f32) (ix2 0 q) := by
  generalize hA : (V m c main_v57 : Vec Ideal S1x768 .f32) (ix2 0 q) = A
  unfold V at hA
  generalize hops : (List.flatten [hostOps0, hostOps0_1, hostOps0_2, hostOps0_3, hostOps0_4, hostOps0_5, hostOps0_6, hostOps0_7, hostOps0_8, hostOps0_9, hostOps0_10] : List (HloOp τ sig (Elt Ideal))) = ops at hA
  unfold V
  after_reads_at
  rw [StableHlo.unary_result]
  rw [hops]
  have : StableHlo.upto ops (fun b => m (c, b)) 159 (Proc.tc.devRef main_v57) = StableHlo.after ops (fun b => m (c, b)) (Proc.tc.devRef main_v57) := by
    subst hops
    after_reads_at
  rw [this]
  refine Eq.trans ?_ hA
  pointwise []

/-- Row 1 of the table of biases. -/
theorem bias_1 (c : Dev nD) (q : Fin 768) :
    (V m c main_v133 : Vec Ideal S3x1x768 .f32) (ix3 1 0 q) = (V m c main_v93 : Vec Ideal S1x768 .f32) (ix2 0 q) := by
  generalize hA : (V m c main_v93 : Vec Ideal S1x768 .f32) (ix2 0 q) = A
  unfold V at hA
  generalize hops : (List.flatten [hostOps0, hostOps0_1, hostOps0_2, hostOps0_3, hostOps0_4, hostOps0_5, hostOps0_6, hostOps0_7, hostOps0_8, hostOps0_9, hostOps0_10] : List (HloOp τ sig (Elt Ideal))) = ops at hA
  unfold V
  after_reads_at
  rw [StableHlo.unary_result]
  rw [hops]
  have : StableHlo.upto ops (fun b => m (c, b)) 160 (Proc.tc.devRef main_v93) = StableHlo.after ops (fun b => m (c, b)) (Proc.tc.devRef main_v93) := by
    subst hops
    after_reads_at
  rw [this]
  refine Eq.trans ?_ hA
  pointwise []

/-- Row 2 of the table of biases. -/
theorem bias_2 (c : Dev nD) (q : Fin 768) :
    (V m c main_v133 : Vec Ideal S3x1x768 .f32) (ix3 2 0 q) = (V m c main_v129 : Vec Ideal S1x768 .f32) (ix2 0 q) := by
  generalize hA : (V m c main_v129 : Vec Ideal S1x768 .f32) (ix2 0 q) = A
  unfold V at hA
  generalize hops : (List.flatten [hostOps0, hostOps0_1, hostOps0_2, hostOps0_3, hostOps0_4, hostOps0_5, hostOps0_6, hostOps0_7, hostOps0_8, hostOps0_9, hostOps0_10] : List (HloOp τ sig (Elt Ideal))) = ops at hA
  unfold V
  after_reads_at
  rw [StableHlo.unary_result]
  rw [hops]
  have : StableHlo.upto ops (fun b => m (c, b)) 161 (Proc.tc.devRef main_v129) = StableHlo.after ops (fun b => m (c, b)) (Proc.tc.devRef main_v129) := by
    subst hops
    after_reads_at
  rw [this]
  refine Eq.trans ?_ hA
  pointwise []

end Cert.KernelIdeal.Host

end
-- ==== Proof.FusedSame.lean ====
module

public import proofs.«01_k».proof.Proof.FusedReal
public import proofs.«01_k».proof.Proof.FusedHost

@[expose] public section

set_option maxRecDepth 16384

noncomputable section

namespace Cert.Fused

open Idealize.ShloMosaic Idealize.ShloMosaic.TcCoe Idealize.SL.Sem

/-- The arguments' values: extended reals where the claim asks nothing of them, reals elsewhere. -/
structure Data where
  x : Fin 32 → Fin 12 → Fin 100 → ℝ
  lw : Fin 64 → ℝ
  lb : Fin 64 → ℝ
  wih : Fin 192 → EReal
  whh : Fin 192 → Fin 64 → EReal
  bih : Fin 192 → EReal
  bhh : Fin 192 → EReal
  qw : Fin 32 → Fin 64 → EReal
  qb : Fin 32 → EReal
  kw : Fin 32 → Fin 64 → EReal
  kb : Fin 32 → EReal
  gw : Fin 3 → Fin 12 → Fin 64 → Fin 64 → ℝ
  gb : Fin 3 → Fin 12 → Fin 64 → ℝ
  c0 : Fin 64 → Fin 64 → Fin 3 → ℝ
  b0 : Fin 64 → ℝ
  c1 : Fin 64 → Fin 64 → Fin 5 → ℝ
  b1 : Fin 64 → ℝ
  c2 : Fin 64 → Fin 64 → Fin 7 → ℝ
  b2 : Fin 64 → EReal

/-- Nineteen argument arrays hold the data. -/
structure Holds (D : Data) (a0 : Vec Ideal ⟨3, ![32, 12, 100]⟩ .f32) (a1 a2 : Vec Ideal ⟨1, ![64]⟩ .f32) (a3 : Vec Ideal ⟨2, ![192, 1]⟩ .f32)
    (a4 : Vec Ideal ⟨2, ![192, 64]⟩ .f32) (a5 a6 : Vec Ideal ⟨1, ![192]⟩ .f32) (a7 : Vec Ideal ⟨2, ![32, 64]⟩ .f32) (a8 : Vec Ideal ⟨1, ![32]⟩ .f32)
    (a9 : Vec Ideal ⟨2, ![32, 64]⟩ .f32) (a10 : Vec Ideal ⟨1, ![32]⟩ .f32) (a11 : Vec Ideal ⟨4, ![3, 12, 64, 64]⟩ .f32) (a12 : Vec Ideal ⟨3, ![3, 12, 64]⟩ .f32)
    (a13 : Vec Ideal ⟨3, ![64, 64, 3]⟩ .f32) (a14 : Vec Ideal ⟨1, ![64]⟩ .f32) (a15 : Vec Ideal ⟨3, ![64, 64, 5]⟩ .f32) (a16 : Vec Ideal ⟨1, ![64]⟩ .f32)
    (a17 : Vec Ideal ⟨3, ![64, 64, 7]⟩ .f32) (a18 : Vec Ideal ⟨1, ![64]⟩ .f32) : Prop where
  x : ∀ g t i, a0 (ix3 g t i) = (D.x g t i : EReal)
  lw : ∀ c, a1 (ix1 c) = (D.lw c : EReal)
  lb : ∀ c, a2 (ix1 c) = (D.lb c : EReal)
  wih : ∀ k, a3 (ix2 k 0) = D.wih k
  whh : ∀ k j, a4 (ix2 k j) = D.whh k j
  bih : ∀ k, a5 (ix1 k) = D.bih k
  bhh : ∀ k, a6 (ix1 k) = D.bhh k
  qw : ∀ k j, a7 (ix2 k j) = D.qw k j
  qb : ∀ k, a8 (ix1 k) = D.qb k
  kw : ∀ k j, a9 (ix2 k j) = D.kw k j
  kb : ∀ k, a10 (ix1 k) = D.kb k
  gw : ∀ b s c d, a11 (ix4 b s c d) = (D.gw b s c d : EReal)
  gb : ∀ b s c, a12 (ix3 b s c) = (D.gb b s c : EReal)
  c0 : ∀ o c k, a13 (ix3 o c k) = (D.c0 o c k : EReal)
  b0 : ∀ o, a14 (ix1 o) = (D.b0 o : EReal)
  c1 : ∀ o c k, a15 (ix3 o c k) = (D.c1 o c k : EReal)
  b1 : ∀ o, a16 (ix1 o) = (D.b1 o : EReal)
  c2 : ∀ o c k, a17 (ix3 o c k) = (D.c2 o c k : EReal)
  b2 : ∀ o, a18 (ix1 o) = D.b2 o

/-- The kernel's arguments hold the data. -/
def KHolds (D : Data) (m : (ℓ : Loc KernelIdeal.nD KernelIdeal.τ KernelIdeal.sig) → Buf (Elt Ideal) ℓ) (d : Dev KernelIdeal.nD) : Prop :=
  Holds D (m ((d : Thread KernelIdeal.nD KernelIdeal.τ).loc KernelIdeal.main_arg0)) (m ((d : Thread KernelIdeal.nD KernelIdeal.τ).loc KernelIdeal.main_arg1))
    (m ((d : Thread KernelIdeal.nD KernelIdeal.τ).loc KernelIdeal.main_arg2)) (m ((d : Thread KernelIdeal.nD KernelIdeal.τ).loc KernelIdeal.main_arg3))
    (m ((d : Thread KernelIdeal.nD KernelIdeal.τ).loc KernelIdeal.main_arg4)) (m ((d : Thread KernelIdeal.nD KernelIdeal.τ).loc KernelIdeal.main_arg5))
    (m ((d : Thread KernelIdeal.nD KernelIdeal.τ).loc KernelIdeal.main_arg6)) (m ((d : Thread KernelIdeal.nD KernelIdeal.τ).loc KernelIdeal.main_arg7))
    (m ((d : Thread KernelIdeal.nD KernelIdeal.τ).loc KernelIdeal.main_arg8)) (m ((d : Thread KernelIdeal.nD KernelIdeal.τ).loc KernelIdeal.main_arg9))
    (m ((d : Thread KernelIdeal.nD KernelIdeal.τ).loc KernelIdeal.main_arg10)) (m ((d : Thread KernelIdeal.nD KernelIdeal.τ).loc KernelIdeal.main_arg11))
    (m ((d : Thread KernelIdeal.nD KernelIdeal.τ).loc KernelIdeal.main_arg12)) (m ((d : Thread KernelIdeal.nD KernelIdeal.τ).loc KernelIdeal.main_arg13))
    (m ((d : Thread KernelIdeal.nD KernelIdeal.τ).loc KernelIdeal.main_arg14)) (m ((d : Thread KernelIdeal.nD KernelIdeal.τ).loc KernelIdeal.main_arg15))
    (m ((d : Thread KernelIdeal.nD KernelIdeal.τ).loc KernelIdeal.main_arg16)) (m ((d : Thread KernelIdeal.nD KernelIdeal.τ).loc KernelIdeal.main_arg17))
    (m ((d : Thread KernelIdeal.nD KernelIdeal.τ).loc KernelIdeal.main_arg18))

/-- The reference's arguments hold the data. -/
def RHolds (D : Data) (V0 : Valuation ReferenceIdeal.τ ReferenceIdeal.sig (Elt Ideal)) : Prop :=
  Holds D (V0 (Proc.devRef .tc ReferenceIdeal.main_arg0)) (V0 (Proc.devRef .tc ReferenceIdeal.main_arg1)) (V0 (Proc.devRef .tc ReferenceIdeal.main_arg2))
    (V0 (Proc.devRef .tc ReferenceIdeal.main_arg3)) (V0 (Proc.devRef .tc ReferenceIdeal.main_arg4)) (V0 (Proc.devRef .tc ReferenceIdeal.main_arg5))
    (V0 (Proc.devRef .tc ReferenceIdeal.main_arg6)) (V0 (Proc.devRef .tc ReferenceIdeal.main_arg7)) (V0 (Proc.devRef .tc ReferenceIdeal.main_arg8))
    (V0 (Proc.devRef .tc ReferenceIdeal.main_arg9)) (V0 (Proc.devRef .tc ReferenceIdeal.main_arg10)) (V0 (Proc.devRef .tc ReferenceIdeal.main_arg11))
    (V0 (Proc.devRef .tc ReferenceIdeal.main_arg12)) (V0 (Proc.devRef .tc ReferenceIdeal.main_arg13)) (V0 (Proc.devRef .tc ReferenceIdeal.main_arg14))
    (V0 (Proc.devRef .tc ReferenceIdeal.main_arg15)) (V0 (Proc.devRef .tc ReferenceIdeal.main_arg16)) (V0 (Proc.devRef .tc ReferenceIdeal.main_arg17))
    (V0 (Proc.devRef .tc ReferenceIdeal.main_arg18))

/-- Row `i` of sample `g`. -/
abbrev row (g : Fin 32) (i : Fin 104) : Fin 3328 := ⟨104 * g.val + i.val, by omega⟩

/-- A node's row. -/
abbrev node (i : Fin 100) : Fin 104 := ⟨i.val, by omega⟩

/-- The rows of a row's block. -/
theorem blk_row (g : Fin 32) (i l : Fin 104) : KernelIdeal.Body.blk (row g i) l = row g l :=
  Fin.ext (by show (104 * g.val + i.val) / 104 * 104 + l.val = 104 * g.val + l.val; omega)

/-- A row's lane. -/
theorem lane_row (g : Fin 32) (i : Fin 104) : KernelIdeal.Body.lane (row g i) = i :=
  Fin.ext (by show (104 * g.val + i.val) % 104 = i.val; omega)

/-- A node's last state. -/
def st (D : Data) (g : Fin 32) (i : Fin 100) (j : Fin 64) : EReal := last D.wih D.whh D.bih D.bhh (fun t => (D.x g t i : EReal)) j

section Kernel

open KernelIdeal KernelIdeal.Gen KernelIdeal.Body

variable (D : Data) (m : (ℓ : Loc nD τ sig) → Buf (Elt Ideal) ℓ) (d : Dev nD)

/-- The kernel's last states of the nodes. -/
theorem kernel_state (h : KHolds D m d) (g : Fin 32) (i : Fin 100) (j : Fin 64) :
    stG (V m d main_v2) (V m d main_v3) (V m d main_arg4) (V m d main_v4) (V m d main_v5) (ix2 (row g (node i)) j) = st D g i j := by
  have e4 : (V m d main_arg4 : Vec Ideal S192x64 .f32) = m ((d : Thread nD τ).loc main_arg4) := V_main_arg4 m d
  show last _ _ _ _ _ j = _
  unfold st
  congr 1
  · funext k; exact (Host.in_weights m d k).trans (h.wih k)
  · funext k j; rw [e4]; exact h.whh k j
  · funext k; exact (Host.in_bias m d k).trans (h.bih k)
  · funext k; exact (Host.state_bias m d k).trans (h.bhh k)
  · funext t; exact ((Host.data m d g (node i) t).trans (dif_pos i.isLt)).trans (h.x g t i)

/-- A projection of the kernel's states. -/
theorem kernel_line (S : FVec Ideal S3328x64 .f32) (g : Fin 32) (hS : ∀ i j, S (ix2 (row g (node i)) j) = st D g i j)
    (w : Vec Ideal S64x32 .f32) (b : Vec Ideal S1x32 .f32) (w' : Fin 32 → Fin 64 → EReal) (b' : Fin 32 → EReal)
    (hw : ∀ j k, w (ix2 j k) = w' k j) (hb : ∀ k, b (ix2 0 k) = b' k) (i : Fin 100) (k : Fin 32) :
    proj S w b (ix2 (row g (node i)) k) = ReferenceIdeal.Final.line (w' k) (b' k) (st D g i) := by
  rw [proj_apply]
  unfold ReferenceIdeal.Final.line
  congr 1
  · exact Finset.sum_congr rfl fun j _ => by rw [hS i j, hw]
  · exact hb k

/-- The scores of a sample. -/
def score (D : Data) (g : Fin 32) (i l : Fin 100) : EReal :=
  (∑ k : Fin 32, ReferenceIdeal.Final.line (D.qw k) (D.qb k) (st D g i) * ReferenceIdeal.Final.line (D.kw k) (D.kb k) (st D g l)) * (((Real.sqrt 32)⁻¹ : ℝ) : EReal)

/-- The kernel's attention scores of a sample. -/
theorem kernel_score (q k : FVec Ideal S3328x32 .f32) (g : Fin 32)
    (hq : ∀ i x, q (ix2 (row g (node i)) x) = ReferenceIdeal.Final.line (D.qw x) (D.qb x) (st D g i))
    (hk : ∀ i x, k (ix2 (row g (node i)) x) = ReferenceIdeal.Final.line (D.kw x) (D.kb x) (st D g i)) (i : Fin 100) (l : Fin 104) :
    scG q k (ix2 (row g (node i)) l) = if h : l.val < 100 then score D g i ⟨l.val, h⟩ else ⊥ := by
  show sc _ _ (row g (node i)) l = _
  unfold sc
  by_cases h : l.val < 100
  · rw [if_pos h, dif_pos h, add_zero, blk_row]
    unfold score
    congr 1
    exact Finset.sum_congr rfl fun x _ => congrArg₂ HMul.hMul (hq i x) (hk ⟨l.val, h⟩ x)
  · rw [if_neg h, dif_neg h, EReal.add_bot]

end Kernel

section Reference

open ReferenceIdeal ReferenceIdeal.Gen ReferenceIdeal.Value ReferenceIdeal.Final

variable (D : Data) (V0 : Valuation τ sig (Elt Ideal))

/-- The reference's last states. -/
theorem reference_state (h : RHolds D V0) (g : Fin 32) (i : Fin 100) (j : Fin 64) : res_main_v492 V0 (ix3 g i j) = st D g i j := by
  rw [state_apply]
  unfold st
  congr 1
  · funext k; exact h.wih k
  · funext k j; exact h.whh k j
  · funext k; exact h.bih k
  · funext k; exact h.bhh k
  · funext t; exact h.x g t i

/-- A projection of the reference's states. -/
theorem reference_line (h : RHolds D V0) (g : Fin 32) (i : Fin 100) (w : Fin 64 → EReal) (b : EReal) (w' : Fin 64 → EReal) (b' : EReal)
    (hw : ∀ j, w j = w' j) (hb : b = b') :
    line w b (fun x => res_main_v492 V0 (ix3 g i x)) = line w' b' (st D g i) := by
  rw [show w = w' from funext hw, hb, show (fun x => res_main_v492 V0 (ix3 g i x)) = st D g i from funext (reference_state D V0 h g i)]

/-- The reference's attention scores. -/
theorem reference_score (h : RHolds D V0) (g : Fin 32) (i l : Fin 100) : (res_main_v507 V0 (ix3 g i l) : EReal) = score D g i l := by
  have r : Ideal.sqrt ((32 : ℝ) : EReal) = ((Real.sqrt 32 : ℝ) : EReal) := if_neg (by norm_num)
  rw [scores_apply, thirtytwo, r, Ideal.div_coe (by positivity), one_div]
  unfold score
  congr 1
  refine Finset.sum_congr rfl fun x _ => ?_
  rw [reference_line D V0 h g i _ _ (D.qw x) (D.qb x) (h.qw x) (h.qb x), reference_line D V0 h g l _ _ (D.kw x) (D.kb x) (h.kw x) (h.kb x)]

end Reference

/-- The kernel's windows and the reference's arguments normalise to the same real weights. -/
theorem attention (D : Data) : ∃ n : Fin 32 → Fin 100 → Fin 100 → ℝ,
    (∀ (x0 : Vec Ideal KernelIdeal.S3328x12 .f32) (x1 : Vec Ideal KernelIdeal.S1x192 .f32) (x2 : Vec Ideal KernelIdeal.S192x64 .f32) (x3 x4 : Vec Ideal KernelIdeal.S1x192 .f32)
      (x5 : Vec Ideal KernelIdeal.S64x32 .f32) (x6 : Vec Ideal KernelIdeal.S1x32 .f32) (x7 : Vec Ideal KernelIdeal.S64x32 .f32) (x8 : Vec Ideal KernelIdeal.S1x32 .f32)
      (x16 : Vec Ideal KernelIdeal.S104x1 .f32),
      (∀ g i j, KernelIdeal.Body.stG x0 x1 x2 x3 x4 (ix2 (row g (node i)) j) = st D g i j) →
      (∀ j k, x5 (ix2 j k) = D.qw k j) → (∀ k, x6 (ix2 0 k) = D.qb k) →
      (∀ j k, x7 (ix2 j k) = D.kw k j) → (∀ k, x8 (ix2 0 k) = D.kb k) →
      (∀ x : Fin 104, x16 (ix2 x 0) = if x.val < 100 then (1 : EReal) else 0) →
      ∀ (g : Fin 32) (i l : Fin 104) (hl : l.val < 100),
        KernelIdeal.Body.wnG x0 x1 x2 x3 x4 x5 x6 x7 x8 x16 (ix2 (row g i) l) = if h : i.val < 100 then (n g ⟨i.val, h⟩ ⟨l.val, hl⟩ : EReal) else 0)
    ∧ ∀ V0, RHolds D V0 → ∀ g i l, (ReferenceIdeal.Value.res_main_v534 V0 (ix3 g i l) : EReal) = (n g i l : EReal) := by
  choose n nR nK using fun g => norm_real (fun i => ReferenceIdeal.Final.soft (score D g i)) (fun i => (soft_weight (score D g i)).1)
  refine ⟨n, fun x0 x1 x2 x3 x4 x5 x6 x7 x8 x16 hS h5 h6 h7 h8 h16 g i l hl => ?_, fun V0 h g i l => ?_⟩
  · unfold KernelIdeal.Body.wnG
    generalize KernelIdeal.Body.stG x0 x1 x2 x3 x4 = S at hS ⊢
    have hq := kernel_line D S g (hS g) x5 x6 D.qw D.qb h5 h6
    have hk := kernel_line D S g (hS g) x7 x8 D.kw D.kb h7 h8
    have hs : ∀ (i : Fin 104) (hi : i.val < 100) (l : Fin 104), _ := fun i hi l => kernel_score D _ _ g hq hk ⟨i.val, hi⟩ l
    have hw := fun (i : Fin 104) (hi : i.val < 100) => (soft_weight (score D g ⟨i.val, hi⟩)).2
      (fun R l => KernelIdeal.Body.scG (KernelIdeal.Body.proj S x5 x6) (KernelIdeal.Body.proj S x7 x8) (ix2 R l)) (row g i) (hs i hi)
    have e := nK g (fun i l => KernelIdeal.Gen.k0_pay74 (KernelIdeal.Body.scG (KernelIdeal.Body.proj S x5 x6) (KernelIdeal.Body.proj S x7 x8)) (ix2 (row g i) l))
      (fun x => x16 (ix2 x 0)) (fun i l hi hl => (KernelIdeal.Body.sm_apply _ _ _).trans ((hw i hi).1 l hl))
      (fun i l hi hl => le_of_eq_of_le (KernelIdeal.Body.sm_apply _ _ _) ((hw i hi).2 l hl))
      h16 i l hl
    refine Eq.trans ?_ e
    show KernelIdeal.Body.nm _ _ (row g i) l = _
    unfold KernelIdeal.Body.nm
    simp only [blk_row, lane_row]
  · have hw : ∀ i l, (ReferenceIdeal.Value.res_main_v518 V0 (ix3 g i l) : EReal) = ReferenceIdeal.Final.soft (score D g i) l := by
      intro i l
      rw [ReferenceIdeal.Final.weights_apply, show (fun x => (ReferenceIdeal.Value.res_main_v507 V0 (ix3 g i x) : EReal)) = score D g i from
        funext (reference_score D V0 h g i)]
    have hd : ∀ i, (ReferenceIdeal.Value.res_main_v528 V0 (ix2 g i) : EReal) = ReferenceIdeal.Final.root (∑ x, ReferenceIdeal.Final.soft (score D g x) i) := by
      intro i
      rw [ReferenceIdeal.Final.dis_apply, ReferenceIdeal.Final.deg_apply]
      exact congrArg _ (Finset.sum_congr rfl fun x _ => hw x i)
    rw [ReferenceIdeal.Final.norm_apply]
    unfold ReferenceIdeal.Final.plain
    rw [hd, hd, hw]
    exact nR g i l

end Cert.Fused

end
-- ==== Proof.FusedLayers.lean ====
module

public import proofs.«01_k».proof.Proof.FusedSame

@[expose] public section

set_option maxRecDepth 16384

noncomputable section

namespace Cert.Fused

open Idealize.ShloMosaic

section Kernel

open KernelIdeal KernelIdeal.Body

/-- A layer's row, from its sample's rows. -/
theorem layG_row (w : Vec Ideal S3328x104 .f32) (g : Vec Ideal S3328x768 .f32) (b : Fin 768 → EReal) (s : Fin 32) (l : Fin 104) (q : Fin 768) :
    layG w g b (ix2 (row s l) q) = lay (fun i l => w (ix2 (row s i) l)) (fun i q => g (ix2 (row s i) q)) b l q := by
  show lay (fun i l' => w (ix2 (blk (row s l) i) l')) (fun i q => g (ix2 (blk (row s l) i) q)) b (lane (row s l)) q = _
  simp only [blk_row, lane_row]

/-- A kernel's block on real data. -/
theorem kernel_block {K p : ℕ} (hK : K = 2 * p + 1) (gW : Fin 12 → Fin 64 → Fin 64 → ℝ) (f : Fin 100 → Fin 12 → Fin 64 → ℝ) (n : Fin 100 → Fin 100 → ℝ)
    (gb : Fin 12 → Fin 64 → ℝ) (cv : Fin 64 → Fin 64 → Fin K → ℝ) (cb : Fin 64 → EReal) (b : Fin 3) (x11 : Vec Ideal S3x12x64x64 .f32)
    (wr : Vec Ideal ⟨2, ![64, 64 * K]⟩ .f32) (W : Vec Ideal S3328x104 .f32) (F : Vec Ideal S3328x768 .f32) (bias : Fin 768 → EReal) (g : Fin 32)
    (hW : ∀ (i l : Fin 104) (hl : l.val < 100), W (ix2 (row g i) l) = if h : i.val < 100 then (n ⟨i.val, h⟩ ⟨l.val, hl⟩ : EReal) else 0)
    (hF : ∀ (i : Fin 100) (k : Fin 768), F (ix2 (row g (node i)) k) = (f i ⟨k.val / 64, by omega⟩ ⟨k.val % 64, by omega⟩ : EReal))
    (hg : ∀ s k l, x11 (ix4 b s k l) = (gW s l k : EReal))
    (hr : ∀ (c : Fin 64) (d : Fin K) (o : Fin 64), wr (ix2 c ⟨64 * d.val + o.val, by omega⟩) = (cv o c d.rev : EReal))
    (hb : ∀ q : Fin 768, bias q = ((∑ s, ∑ c, gb s c * tapOf p cv s ⟨q.val / 64, by omega⟩ c ⟨q.val % 64, by omega⟩ : ℝ) : EReal) + cb ⟨q.val % 64, by omega⟩)
    (l : Fin 100) (q : Fin 768) :
    lay (fun i l => W (ix2 (row g i) l)) (fun i q => prodV F (matG b x11 wr (64 * p)) (ix2 (row g i) q)) bias (node l) q
      = ReferenceIdeal.Final.leak ((pre (aggr gW f n gb) (tapOf p cv) ⟨q.val / 64, by omega⟩ l ⟨q.val % 64, by omega⟩ : EReal) + cb ⟨q.val % 64, by omega⟩) := by
  rw [show (fun (i : Fin 104) (q : Fin 768) => (prodV F (matG b x11 wr (64 * p)) (ix2 (row g i) q) : EReal))
    = fun i q => ∑ k, F (ix2 (row g i) k) * matG b x11 wr (64 * p) (ix2 k q) from funext fun i => funext fun q => prodV_apply _ _ _ _]
  exact kernel_layer gW f n gb (tapOf p cv) cb (fun i l => W (ix2 (row g i) l)) (fun i k => F (ix2 (row g i) k)) (fun k q => matG b x11 wr (64 * p) (ix2 k q)) bias
    hW hF (fun k q => band_real hK gW cv (fun s c c' => x11 (ix4 b s c c')) (fun c j => wr (ix2 c j)) (fun s d c => hg s d c) hr k q) hb l q

/-- A row of biases on real data. -/
theorem through_real {K p : ℕ} (gb : Fin 12 → Fin 64 → ℝ) (cv : Fin 64 → Fin 64 → Fin K → ℝ) (cb : EReal) (t : Fin 12) (o : Fin 64)
    (bias tap : Fin 12 → Fin 64 → EReal) (own : EReal) (cv' : Fin 64 → Fin 64 → Fin K → EReal)
    (hb : ∀ s c, bias s c = (gb s c : EReal)) (hc : ∀ o c k, cv' o c k = (cv o c k : EReal))
    (ht : ∀ s c, tap s c = if h : t.val ≤ s.val + p ∧ s.val + p - t.val < K then cv' o c ⟨s.val + p - t.val, h.2⟩ else (0 : EReal)) (ho : own = cb) :
    Host.through bias tap own = ((∑ s, ∑ c, gb s c * tapOf p cv s t c o : ℝ) : EReal) + cb := by
  unfold Host.through
  rw [ho]
  congr 1
  simp only [coe_sum, EReal.coe_mul]
  refine Finset.sum_congr rfl fun s _ => Finset.sum_congr rfl fun c _ => ?_
  rw [hb, ht]
  unfold tapOf
  split_ifs with h
  · rw [hc]
  · rfl

end Kernel

/-- A reference's block on real data. -/
theorem reference_block {K p N : ℕ} (hN : ∀ (k : Fin K) (t : Fin 12), k.val + t.val < N) (gW : Fin 12 → Fin 64 → Fin 64 → ℝ) (f : Fin 100 → Fin 12 → Fin 64 → ℝ)
    (n : Fin 100 → Fin 100 → ℝ) (gb : Fin 12 → Fin 64 → ℝ) (cv : Fin 64 → Fin 64 → Fin K → ℝ)
    (P : Fin N → Fin 100 → Fin 64 → EReal) (wt : Fin 12 → Fin 64 → Fin 64 → EReal) (fe : Fin 100 → Fin 12 → Fin 64 → EReal) (w : Fin 100 → Fin 100 → EReal)
    (b : Fin 12 → Fin 64 → EReal) (cv' : Fin 64 → Fin 64 → Fin K → EReal)
    (hP : ∀ (s : Fin N) (l : Fin 100) (c : Fin 64), P s l c = if h : p ≤ s.val ∧ s.val - p < 12 then ReferenceIdeal.Final.agg wt fe w b ⟨s.val - p, h.2⟩ l c else (0 : EReal))
    (ht : ∀ s c d, wt s c d = (gW s c d : EReal)) (hf : ∀ i s d, fe i s d = (f i s d : EReal)) (hw : ∀ i l, w i l = (n i l : EReal))
    (hb : ∀ s c, b s c = (gb s c : EReal)) (hc : ∀ o c k, cv' o c k = (cv o c k : EReal)) (t : Fin 12) (l : Fin 100) (o : Fin 64) :
    ∑ k : Fin K, ReferenceIdeal.Final.dot64 (fun x => P ⟨k.val + t.val, hN k t⟩ l x) (fun x => cv' o x k)
      = (pre (aggr gW f n gb) (tapOf p cv) t l o : EReal) := by
  obtain rfl : wt = fun s c d => (gW s c d : EReal) := funext fun s => funext fun c => funext fun d => ht s c d
  obtain rfl : fe = fun i s d => (f i s d : EReal) := funext fun s => funext fun c => funext fun d => hf s c d
  obtain rfl : w = fun i l => (n i l : EReal) := funext fun s => funext fun c => hw s c
  obtain rfl : b = fun s c => (gb s c : EReal) := funext fun s => funext fun c => hb s c
  obtain rfl : cv' = fun o c k => (cv o c k : EReal) := funext fun s => funext fun c => funext fun d => hc s c d
  refine reference_layer hN (aggr gW f n gb) cv P (fun s l c => ?_) t l o
  rw [hP]
  simp only [agg_real]

/-- The lifted features. -/
def f0 (D : Data) (g : Fin 32) (i : Fin 100) (s : Fin 12) (c : Fin 64) : ℝ := D.x g s i * D.lw c + D.lb c

/-- Block 0's convolutions, from the normalised weights `n`. -/
def z0 (D : Data) (n : Fin 32 → Fin 100 → Fin 100 → ℝ) (g : Fin 32) (i : Fin 100) (t : Fin 12) (o : Fin 64) : EReal :=
  (pre (aggr (D.gw 0) (f0 D g) (n g) (D.gb 0)) (tapOf 1 D.c0) t i o : EReal) + (D.b0 o : EReal)

/-- Block 1's, from the features `f`. -/
def z1 (D : Data) (n : Fin 32 → Fin 100 → Fin 100 → ℝ) (f : Fin 32 → Fin 100 → Fin 12 → Fin 64 → ℝ) (g : Fin 32) (i : Fin 100) (t : Fin 12) (o : Fin 64) : EReal :=
  (pre (aggr (D.gw 1) (f g) (n g) (D.gb 1)) (tapOf 2 D.c1) t i o : EReal) + (D.b1 o : EReal)

/-- Block 2's, from the features `f`. -/
def z2 (D : Data) (n : Fin 32 → Fin 100 → Fin 100 → ℝ) (f : Fin 32 → Fin 100 → Fin 12 → Fin 64 → ℝ) (g : Fin 32) (i : Fin 100) (t : Fin 12) (o : Fin 64) : EReal :=
  (pre (aggr (D.gw 2) (f g) (n g) (D.gb 2)) (tapOf 3 D.c2) t i o : EReal) + D.b2 o

section Reference

open ReferenceIdeal ReferenceIdeal.Gen ReferenceIdeal.Value ReferenceIdeal.Final

variable (D : Data) (V0 : Valuation τ sig (Elt Ideal)) (n : Fin 32 → Fin 100 → Fin 100 → ℝ)

/-- The reference's convolutions of block 0. -/
theorem reference_0 (h : RHolds D V0) (hn : ∀ g i l, (res_main_v534 V0 (ix3 g i l) : EReal) = (n g i l : EReal)) (g : Fin 32) (t : Fin 12) (l : Fin 100) (o : Fin 64) :
    (res_main_v575 V0 (ix4 g t l o) : EReal) = z0 D n g l t o := by
  rw [conv_0]
  refine congrArg₂ HAdd.hAdd ?_ (h.b0 o)
  refine reference_block (K := 3) (p := 1) (N := 14) (fun k t => by omega) (D.gw 0) (f0 D g) (n g) (D.gb 0) D.c0 (fun s l x => res_main_v555 V0 (ix4 g s l x)) _ _ _ _ (fun o x k => V0 (Proc.devRef .tc main_arg13) (ix3 o x k))
    (fun s l c => agg_0 V0 g s l c) (h.gw 0) (fun i s d => ?_) (hn g) (h.gb 0) h.c0 t l o
  rw [plain, plain, plain, h.x, h.lw, h.lb]
  unfold f0
  rw [EReal.coe_add, EReal.coe_mul]

/-- The reference's convolutions of block 1. -/
theorem reference_1 (h : RHolds D V0) (hn : ∀ g i l, (res_main_v534 V0 (ix3 g i l) : EReal) = (n g i l : EReal)) (f : Fin 32 → Fin 100 → Fin 12 → Fin 64 → ℝ)
    (hf : ∀ g i t o, leak (z0 D n g i t o) = (f g i t o : EReal)) (g : Fin 32) (t : Fin 12) (l : Fin 100) (o : Fin 64) :
    (res_main_v625 V0 (ix4 g t l o) : EReal) = z1 D n f g l t o := by
  rw [conv_1]
  refine congrArg₂ HAdd.hAdd ?_ (h.b1 o)
  exact reference_block (K := 5) (p := 2) (N := 16) (fun k t => by omega) (D.gw 1) (f g) (n g) (D.gb 1) D.c1 (fun s l x => res_main_v593 V0 (ix4 g s l x)) _ _ _ _ (fun o x k => V0 (Proc.devRef .tc main_arg15) (ix3 o x k))
    (fun s l c => agg_1 V0 g s l c) (h.gw 1) (fun i s d => (congrArg leak (reference_0 D V0 n h hn g s i d)).trans (hf g i s d)) (hn g) (h.gb 1) h.c1 t l o

/-- The reference's convolutions of block 2. -/
theorem reference_2 (h : RHolds D V0) (hn : ∀ g i l, (res_main_v534 V0 (ix3 g i l) : EReal) = (n g i l : EReal)) (f f' : Fin 32 → Fin 100 → Fin 12 → Fin 64 → ℝ)
    (hf : ∀ g i t o, leak (z0 D n g i t o) = (f g i t o : EReal)) (hf' : ∀ g i t o, leak (z1 D n f g i t o) = (f' g i t o : EReal))
    (g : Fin 32) (t : Fin 12) (l : Fin 100) (o : Fin 64) :
    (res_main_v687 V0 (ix4 g t l o) : EReal) = z2 D n f' g l t o := by
  rw [conv_2]
  refine congrArg₂ HAdd.hAdd ?_ (h.b2 o)
  exact reference_block (K := 7) (p := 3) (N := 18) (fun k t => by omega) (D.gw 2) (f' g) (n g) (D.gb 2) D.c2 (fun s l x => res_main_v643 V0 (ix4 g s l x)) _ _ _ _ (fun o x k => V0 (Proc.devRef .tc main_arg17) (ix3 o x k))
    (fun s l c => agg_2 V0 g s l c) (h.gw 2) (fun i s d => (congrArg leak (reference_1 D V0 n h hn f hf g s i d)).trans (hf' g i s d)) (hn g) (h.gb 2) h.c2 t l o

end Reference

end Cert.Fused

end
-- ==== Proof.FusedMath.lean ====
module

public import proofs.«01_k».proof.Proof.FusedLayers
public import proofs.«01_k».proof.Proof.Gen.Pre_finite
public import proofs.«01_k».proof.Defs

@[expose] public section

set_option maxRecDepth 16384

noncomputable section

namespace Cert.Fused

open Idealize.ShloMosaic Idealize.ShloMosaic.TcCoe Idealize.SL.Sem

section Kernel

open KernelIdeal KernelIdeal.Body

/-- The kernel's body on windows that hold the data. -/
theorem kernel_values (D : Data) (n : Fin 32 → Fin 100 → Fin 100 → ℝ) (f f' : Fin 32 → Fin 100 → Fin 12 → Fin 64 → ℝ)
    (hf : ∀ g i t o, ReferenceIdeal.Final.leak (z0 D n g i t o) = (f g i t o : EReal)) (hf' : ∀ g i t o, ReferenceIdeal.Final.leak (z1 D n f g i t o) = (f' g i t o : EReal))
    (W : Vec Ideal S3328x104 .f32) (x0 : Vec Ideal S3328x12 .f32) (x9 x10 : Vec Ideal S1x64 .f32) (x11 : Vec Ideal S3x12x64x64 .f32) (x12 : Vec Ideal S64x192 .f32)
    (x13 : Vec Ideal S64x320 .f32) (x14 : Vec Ideal S64x448 .f32) (x15 : Vec Ideal S3x1x768 .f32)
    (hW : ∀ (g : Fin 32) (i l : Fin 104) (hl : l.val < 100), W (ix2 (row g i) l) = if h : i.val < 100 then (n g ⟨i.val, h⟩ ⟨l.val, hl⟩ : EReal) else 0)
    (h0 : ∀ g i t, x0 (ix2 (row g (node i)) t) = (D.x g t i : EReal)) (h9 : ∀ c, x9 (ix2 0 c) = (D.lw c : EReal)) (h10 : ∀ c, x10 (ix2 0 c) = (D.lb c : EReal))
    (h11 : ∀ b s k l, x11 (ix4 b s k l) = (D.gw b s l k : EReal))
    (h12 : ∀ (c : Fin 64) (d : Fin 3) (o : Fin 64), x12 (ix2 c ⟨64 * d.val + o.val, by omega⟩) = (D.c0 o c d.rev : EReal))
    (h13 : ∀ (c : Fin 64) (d : Fin 5) (o : Fin 64), x13 (ix2 c ⟨64 * d.val + o.val, by omega⟩) = (D.c1 o c d.rev : EReal))
    (h14 : ∀ (c : Fin 64) (d : Fin 7) (o : Fin 64), x14 (ix2 c ⟨64 * d.val + o.val, by omega⟩) = (D.c2 o c d.rev : EReal))
    (hb0 : ∀ q : Fin 768, x15 (ix3 0 0 q) = ((∑ s, ∑ c, D.gb 0 s c * tapOf 1 D.c0 s ⟨q.val / 64, by omega⟩ c ⟨q.val % 64, by omega⟩ : ℝ) : EReal) + (D.b0 ⟨q.val % 64, by omega⟩ : EReal))
    (hb1 : ∀ q : Fin 768, x15 (ix3 1 0 q) = ((∑ s, ∑ c, D.gb 1 s c * tapOf 2 D.c1 s ⟨q.val / 64, by omega⟩ c ⟨q.val % 64, by omega⟩ : ℝ) : EReal) + (D.b1 ⟨q.val % 64, by omega⟩ : EReal))
    (hb2 : ∀ q : Fin 768, x15 (ix3 2 0 q) = ((∑ s, ∑ c, D.gb 2 s c * tapOf 3 D.c2 s ⟨q.val / 64, by omega⟩ c ⟨q.val % 64, by omega⟩ : ℝ) : EReal) + D.b2 ⟨q.val % 64, by omega⟩)
    (g : Fin 32) (l : Fin 100) (q : Fin 768) :
    lastG W (prodV (layG W (prodV (layG W (prodV (feat x0 x9 x10) (matG 0 x11 x12 64)) (fun q => x15 (ix3 0 0 q))) (matG 1 x11 x13 128)) (fun q => x15 (ix3 1 0 q)))
      (matG 2 x11 x14 192)) (fun q => x15 (ix3 2 0 q)) (ix3 g l q)
      = ReferenceIdeal.Final.leak (z2 D n f' g l ⟨q.val / 64, by omega⟩ ⟨q.val % 64, by omega⟩) := by
  have e0 : ∀ (i : Fin 100) (k : Fin 768), feat x0 x9 x10 (ix2 (row g (node i)) k) = (f0 D g i ⟨k.val / 64, by omega⟩ ⟨k.val % 64, by omega⟩ : EReal) := by
    intro i k
    unfold f0
    rw [EReal.coe_add, EReal.coe_mul, ← h0, ← h9, ← h10]
    rfl
  have e1 : ∀ (i : Fin 100) (k : Fin 768), layG W (prodV (feat x0 x9 x10) (matG 0 x11 x12 64)) (fun q => x15 (ix3 0 0 q)) (ix2 (row g (node i)) k)
      = (f g i ⟨k.val / 64, by omega⟩ ⟨k.val % 64, by omega⟩ : EReal) := by
    intro i k
    rw [layG_row, ← hf]
    exact kernel_block (K := 3) (p := 1) rfl (D.gw 0) (f0 D g) (n g) (D.gb 0) D.c0 (fun o => (D.b0 o : EReal)) 0 x11 x12 W _ _ g (hW g) e0 (h11 0) h12 hb0 i k
  generalize layG W (prodV (feat x0 x9 x10) (matG 0 x11 x12 64)) (fun q => x15 (ix3 0 0 q)) = F1 at e1 ⊢
  have e2 : ∀ (i : Fin 100) (k : Fin 768), layG W (prodV F1 (matG 1 x11 x13 128)) (fun q => x15 (ix3 1 0 q)) (ix2 (row g (node i)) k)
      = (f' g i ⟨k.val / 64, by omega⟩ ⟨k.val % 64, by omega⟩ : EReal) := by
    intro i k
    rw [layG_row, ← hf']
    exact kernel_block (K := 5) (p := 2) rfl (D.gw 1) (f g) (n g) (D.gb 1) D.c1 (fun o => (D.b1 o : EReal)) 1 x11 x13 W _ _ g (hW g) e1 (h11 1) h13 hb1 i k
  generalize layG W (prodV F1 (matG 1 x11 x13 128)) (fun q => x15 (ix3 1 0 q)) = F2 at e2 ⊢
  exact kernel_block (K := 7) (p := 3) rfl (D.gw 2) (f' g) (n g) (D.gb 2) D.c2 D.b2 2 x11 x14 W _ _ g (hW g) e2 (h11 2) h14 hb2 l q

end Kernel

/-- On arguments that hold the same data, kernel and reference end with the same array. -/
theorem values (D : Data) (m : (ℓ : Loc KernelIdeal.nD KernelIdeal.τ KernelIdeal.sig) → Buf (Elt Ideal) ℓ) (d : Dev KernelIdeal.nD)
    (V0 : Valuation ReferenceIdeal.τ ReferenceIdeal.sig (Elt Ideal)) (h : KHolds D m d) (h' : RHolds D V0) :
    ReferenceIdeal.Final.out V0 = KernelIdeal.Body.result m d := by
  obtain ⟨n, nK, nR⟩ := attention D
  have r1 : ∀ g i t o, Re (ReferenceIdeal.Final.leak (z0 D n g i t o)) := fun g i t o => Re.leak (Re.add ⟨_, rfl⟩ ⟨_, rfl⟩)
  choose f hf using r1
  have r2 : ∀ g i t o, Re (ReferenceIdeal.Final.leak (z1 D n f g i t o)) := fun g i t o => Re.leak (Re.add ⟨_, rfl⟩ ⟨_, rfl⟩)
  choose f' hf' using r2
  have hW := nK _ _ _ _ _ _ _ _ _ _ (kernel_state D m d h) (fun j k => (KernelIdeal.Host.query_weights m d j k).trans (h.qw k j)) (fun k => (KernelIdeal.Host.query_bias m d k).trans (h.qb k))
    (fun j k => (KernelIdeal.Host.key_weights m d j k).trans (h.kw k j)) (fun k => (KernelIdeal.Host.key_bias m d k).trans (h.kb k)) (KernelIdeal.Host.mask m d)
  funext y
  idx_vars y
  refine (ReferenceIdeal.Final.out_apply V0 y0 y1 y2).trans ?_
  refine (congrArg ReferenceIdeal.Final.leak (reference_2 D V0 n h' (nR V0 h') f f' hf hf' y0 _ y1 _)).trans ?_
  refine (kernel_values D n f f' hf hf' _ _ _ _ _ _ _ _ _ hW
    (fun g i t => ((KernelIdeal.Host.data m d g (node i) t).trans (dif_pos i.isLt)).trans (h.x g t i))
    (fun c => (KernelIdeal.Host.lift_weights m d c).trans (h.lw c)) (fun c => (KernelIdeal.Host.lift_bias m d c).trans (h.lb c))
    (fun b s k l => (KernelIdeal.Host.graph_weights m d b s k l).trans (h.gw b s l k))
    (fun c k o => (KernelIdeal.Host.strip_0 m d c k o).trans (h.c0 o c k.rev))
    (fun c k o => (KernelIdeal.Host.strip_1 m d c k o).trans (h.c1 o c k.rev))
    (fun c k o => (KernelIdeal.Host.strip_2 m d c k o).trans (h.c2 o c k.rev))
    (fun q => ((KernelIdeal.Host.bias_0 m d q).trans (KernelIdeal.Host.row_0 m d q)).trans
      (through_real (K := 3) (p := 1) _ D.c0 _ _ _ _ _ _ (fun o c k => m ((d : Thread KernelIdeal.nD KernelIdeal.τ).loc KernelIdeal.main_arg13) (ix3 o c k)) (h.gb 0) h.c0 (fun s c => KernelIdeal.Host.taps_0 m d s _ c _) (h.b0 _)))
    (fun q => ((KernelIdeal.Host.bias_1 m d q).trans (KernelIdeal.Host.row_1 m d q)).trans
      (through_real (K := 5) (p := 2) _ D.c1 _ _ _ _ _ _ (fun o c k => m ((d : Thread KernelIdeal.nD KernelIdeal.τ).loc KernelIdeal.main_arg15) (ix3 o c k)) (h.gb 1) h.c1 (fun s c => KernelIdeal.Host.taps_1 m d s _ c _) (h.b1 _)))
    (fun q => ((KernelIdeal.Host.bias_2 m d q).trans (KernelIdeal.Host.row_2 m d q)).trans
      (through_real (K := 7) (p := 3) _ D.c2 _ _ _ _ _ _ (fun o c k => m ((d : Thread KernelIdeal.nD KernelIdeal.τ).loc KernelIdeal.main_arg17) (ix3 o c k)) (h.gb 2) h.c2 (fun s c => KernelIdeal.Host.taps_2 m d s _ c _) (h.b2 _)))
    y0 y1 y2).symm

/-- The word for infinity. -/
theorem infinity : Ideal.ofBits .f32 0x7F800000#32 = (⊤ : EReal) := by
  simp [Ideal.ofBits, Ideal.ieee]

/-- A value whose magnitude compares below infinity is real. -/
theorem real_of_below (a : EReal) (h : Ideal.cmp .olt (max a (-a)) ⊤ = 1#1) : Re a := by
  induction a with
  | bot => simp [Ideal.cmp] at h
  | top => simp [Ideal.cmp] at h
  | coe r => exact ⟨r, rfl⟩

/-- An array of which all the magnitudes compare below infinity is real. -/
theorem real_of_finite {s : Shape} (a : FVec Ideal s .f32) (hb : (⟨0, ![]⟩ : Shape).BroadcastsInDim s (![] : Fin 0 → Fin s.rank))
    (h : (cmpf .olt (Host.absf a) (broadcastInDim s ![] hb (constant (F := Ideal) ⟨0, ![]⟩ .f32 0x7F800000#32)) : IVec s 1) = fun _ => 1#1) (i : s.Idx) : Re (a i) := by
  refine real_of_below (a i) ?_
  rw [← infinity]
  exact congrFun h i

/-- Real arguments hold some data. -/
theorem data_exists (a0 : Vec Ideal ⟨3, ![32, 12, 100]⟩ .f32) (a1 a2 : Vec Ideal ⟨1, ![64]⟩ .f32) (a3 : Vec Ideal ⟨2, ![192, 1]⟩ .f32)
    (a4 : Vec Ideal ⟨2, ![192, 64]⟩ .f32) (a5 a6 : Vec Ideal ⟨1, ![192]⟩ .f32) (a7 : Vec Ideal ⟨2, ![32, 64]⟩ .f32) (a8 : Vec Ideal ⟨1, ![32]⟩ .f32)
    (a9 : Vec Ideal ⟨2, ![32, 64]⟩ .f32) (a10 : Vec Ideal ⟨1, ![32]⟩ .f32) (a11 : Vec Ideal ⟨4, ![3, 12, 64, 64]⟩ .f32) (a12 : Vec Ideal ⟨3, ![3, 12, 64]⟩ .f32)
    (a13 : Vec Ideal ⟨3, ![64, 64, 3]⟩ .f32) (a14 : Vec Ideal ⟨1, ![64]⟩ .f32) (a15 : Vec Ideal ⟨3, ![64, 64, 5]⟩ .f32) (a16 : Vec Ideal ⟨1, ![64]⟩ .f32)
    (a17 : Vec Ideal ⟨3, ![64, 64, 7]⟩ .f32) (a18 : Vec Ideal ⟨1, ![64]⟩ .f32)
    (h0 : ∀ i, Re (a0 i)) (h1 : ∀ i, Re (a1 i)) (h2 : ∀ i, Re (a2 i))
    (h11 : ∀ i, Re (a11 i)) (h12 : ∀ i, Re (a12 i)) (h13 : ∀ i, Re (a13 i)) (h14 : ∀ i, Re (a14 i)) (h15 : ∀ i, Re (a15 i)) (h16 : ∀ i, Re (a16 i)) (h17 : ∀ i, Re (a17 i)) :
    ∃ D, Holds D a0 a1 a2 a3 a4 a5 a6 a7 a8 a9 a10 a11 a12 a13 a14 a15 a16 a17 a18 := by
  choose r0 e0 using h0
  choose r1 e1 using h1
  choose r2 e2 using h2
  choose r11 e11 using h11
  choose r12 e12 using h12
  choose r13 e13 using h13
  choose r14 e14 using h14
  choose r15 e15 using h15
  choose r16 e16 using h16
  choose r17 e17 using h17
  exact ⟨{ x := fun g t i => r0 (ix3 g t i), lw := fun c => r1 (ix1 c), lb := fun c => r2 (ix1 c)
           wih := fun k => a3 (ix2 k 0), whh := fun k j => a4 (ix2 k j), bih := fun k => a5 (ix1 k), bhh := fun k => a6 (ix1 k)
           qw := fun k j => a7 (ix2 k j), qb := fun k => a8 (ix1 k), kw := fun k j => a9 (ix2 k j), kb := fun k => a10 (ix1 k)
           gw := fun b s c d => r11 (ix4 b s c d), gb := fun b s c => r12 (ix3 b s c)
           c0 := fun o c k => r13 (ix3 o c k), b0 := fun o => r14 (ix1 o), c1 := fun o c k => r15 (ix3 o c k), b1 := fun o => r16 (ix1 o)
           c2 := fun o c k => r17 (ix3 o c k), b2 := fun o => a18 (ix1 o) },
    { x := fun _ _ _ => e0 _, lw := fun _ => e1 _, lb := fun _ => e2 _, wih := fun _ => rfl, whh := fun _ _ => rfl, bih := fun _ => rfl, bhh := fun _ => rfl
      qw := fun _ _ => rfl, qb := fun _ => rfl, kw := fun _ _ => rfl, kb := fun _ => rfl, gw := fun _ _ _ _ => e11 _, gb := fun _ _ _ => e12 _
      c0 := fun _ _ _ => e13 _, b0 := fun _ => e14 _, c1 := fun _ _ _ => e15 _, b1 := fun _ => e16 _, c2 := fun _ _ _ => e17 _, b2 := fun _ => rfl }⟩

/-- Under the precondition the kernel's arguments hold some data. -/
theorem data_of_finite (m : (ℓ : Loc KernelIdeal.nD KernelIdeal.τ KernelIdeal.sig) → Buf (Elt Ideal) ℓ) (h : Cert.Pre_KernelIdeal_finite m) (c : Dev KernelIdeal.nD) :
    ∃ D, KHolds D m c := by
  obtain ⟨h0, h1, h2, h11, h12, h13, h14, h15, h16, h17⟩ := h c
  exact data_exists _ _ _ _ _ _ _ _ _ _ _ _ _ _ _ _ _ _ _
    (real_of_finite _ _ h0) (real_of_finite _ _ h1) (real_of_finite _ _ h2)
    (real_of_finite _ _ h11) (real_of_finite _ _ h12) (real_of_finite _ _ h13) (real_of_finite _ _ h14) (real_of_finite _ _ h15) (real_of_finite _ _ h16) (real_of_finite _ _ h17)

/-- Arguments equal to the kernel's hold the kernel's data. -/
theorem holds_of_eq (D : Data) (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (c : Dev KernelIdeal.nD) (h : KHolds D m c)
    (e : m' ((c.tc : Thread ReferenceIdeal.nD ReferenceIdeal.τ).loc ReferenceIdeal.main_arg0) = m ((c.tc : Thread KernelIdeal.nD KernelIdeal.τ).loc KernelIdeal.main_arg0) ∧ m' ((c.tc : Thread ReferenceIdeal.nD ReferenceIdeal.τ).loc ReferenceIdeal.main_arg1) = m ((c.tc : Thread KernelIdeal.nD KernelIdeal.τ).loc KernelIdeal.main_arg1) ∧ m' ((c.tc : Thread ReferenceIdeal.nD ReferenceIdeal.τ).loc ReferenceIdeal.main_arg2) = m ((c.tc : Thread KernelIdeal.nD KernelIdeal.τ).loc KernelIdeal.main_arg2)
      ∧ m' ((c.tc : Thread ReferenceIdeal.nD ReferenceIdeal.τ).loc ReferenceIdeal.main_arg3) = m ((c.tc : Thread KernelIdeal.nD KernelIdeal.τ).loc KernelIdeal.main_arg3) ∧ m' ((c.tc : Thread ReferenceIdeal.nD ReferenceIdeal.τ).loc ReferenceIdeal.main_arg4) = m ((c.tc : Thread KernelIdeal.nD KernelIdeal.τ).loc KernelIdeal.main_arg4) ∧ m' ((c.tc : Thread ReferenceIdeal.nD ReferenceIdeal.τ).loc ReferenceIdeal.main_arg5) = m ((c.tc : Thread KernelIdeal.nD KernelIdeal.τ).loc KernelIdeal.main_arg5)
      ∧ m' ((c.tc : Thread ReferenceIdeal.nD ReferenceIdeal.τ).loc ReferenceIdeal.main_arg6) = m ((c.tc : Thread KernelIdeal.nD KernelIdeal.τ).loc KernelIdeal.main_arg6) ∧ m' ((c.tc : Thread ReferenceIdeal.nD ReferenceIdeal.τ).loc ReferenceIdeal.main_arg7) = m ((c.tc : Thread KernelIdeal.nD KernelIdeal.τ).loc KernelIdeal.main_arg7) ∧ m' ((c.tc : Thread ReferenceIdeal.nD ReferenceIdeal.τ).loc ReferenceIdeal.main_arg8) = m ((c.tc : Thread KernelIdeal.nD KernelIdeal.τ).loc KernelIdeal.main_arg8)
      ∧ m' ((c.tc : Thread ReferenceIdeal.nD ReferenceIdeal.τ).loc ReferenceIdeal.main_arg9) = m ((c.tc : Thread KernelIdeal.nD KernelIdeal.τ).loc KernelIdeal.main_arg9) ∧ m' ((c.tc : Thread ReferenceIdeal.nD ReferenceIdeal.τ).loc ReferenceIdeal.main_arg10) = m ((c.tc : Thread KernelIdeal.nD KernelIdeal.τ).loc KernelIdeal.main_arg10) ∧ m' ((c.tc : Thread ReferenceIdeal.nD ReferenceIdeal.τ).loc ReferenceIdeal.main_arg11) = m ((c.tc : Thread KernelIdeal.nD KernelIdeal.τ).loc KernelIdeal.main_arg11)
      ∧ m' ((c.tc : Thread ReferenceIdeal.nD ReferenceIdeal.τ).loc ReferenceIdeal.main_arg12) = m ((c.tc : Thread KernelIdeal.nD KernelIdeal.τ).loc KernelIdeal.main_arg12) ∧ m' ((c.tc : Thread ReferenceIdeal.nD ReferenceIdeal.τ).loc ReferenceIdeal.main_arg13) = m ((c.tc : Thread KernelIdeal.nD KernelIdeal.τ).loc KernelIdeal.main_arg13) ∧ m' ((c.tc : Thread ReferenceIdeal.nD ReferenceIdeal.τ).loc ReferenceIdeal.main_arg14) = m ((c.tc : Thread KernelIdeal.nD KernelIdeal.τ).loc KernelIdeal.main_arg14)
      ∧ m' ((c.tc : Thread ReferenceIdeal.nD ReferenceIdeal.τ).loc ReferenceIdeal.main_arg15) = m ((c.tc : Thread KernelIdeal.nD KernelIdeal.τ).loc KernelIdeal.main_arg15) ∧ m' ((c.tc : Thread ReferenceIdeal.nD ReferenceIdeal.τ).loc ReferenceIdeal.main_arg16) = m ((c.tc : Thread KernelIdeal.nD KernelIdeal.τ).loc KernelIdeal.main_arg16) ∧ m' ((c.tc : Thread ReferenceIdeal.nD ReferenceIdeal.τ).loc ReferenceIdeal.main_arg17) = m ((c.tc : Thread KernelIdeal.nD KernelIdeal.τ).loc KernelIdeal.main_arg17)
      ∧ m' ((c.tc : Thread ReferenceIdeal.nD ReferenceIdeal.τ).loc ReferenceIdeal.main_arg18) = m ((c.tc : Thread KernelIdeal.nD KernelIdeal.τ).loc KernelIdeal.main_arg18)) : RHolds D (StableHlo.launchContents m' c) := by
  obtain ⟨e0, e1, e2, e3, e4, e5, e6, e7, e8, e9, e10, e11, e12, e13, e14, e15, e16, e17, e18⟩ := e
  unfold KHolds at h
  rw [← e0, ← e1, ← e2, ← e3, ← e4, ← e5, ← e6, ← e7, ← e8, ← e9, ← e10, ← e11, ← e12, ← e13, ← e14, ← e15, ← e16, ← e17, ← e18] at h
  exact h

end Cert.Fused

namespace Cert.Proof.FusedClaims

open Idealize.ShloMosaic Idealize.SL.Sem

/-- The kernel and the plain mathematics of the same finite arguments end with the same extended reals. -/
theorem algebraic : Cert.algebraic_KernelIdeal_ReferenceIdeal_pre_finite := by
  intro m ρ m' ρ' hpre hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨D, hD⟩ := Cert.Fused.data_of_finite m hpre c
  rw [Cert.KernelIdeal.Body.final]
  exact Cert.Fused.values D m c _ hD (Cert.Fused.holds_of_eq D m m' c hD (hagree c))

end Cert.Proof.FusedClaims

end
-- ==== Proof.LinValue.lean ====
module

public import proofs.«01_k».proof.Proof.Gen.LinIdeal.Value
public import proofs.«01_k».proof.Proof.Gen.LinReferenceIdeal.Run
public import Idealize.ShloMosaic.Lib.Pipeline.ValueKit
public import Idealize.ShloMosaic.Lib.Pointwise
public import Idealize.ShloMosaic.Lib.Tactic
public import Idealize.ShloMosaic.Lib.StableHlo.ReadAt
public import Idealize.ShloMosaic.Lib.Quiescent
public import proofs.«01_k».proof.Defs

@[expose] public section

set_option maxRecDepth 16384

noncomputable section

open Idealize.ShloMosaic Idealize.ShloMosaic.TcCoe Idealize.SL.Sem
open Idealize.ShloMosaic.Pipeline (Dat)

/-! The last linear layer: twelve partial products summed over the grid are the one long product. -/

namespace Cert.LinIdeal.Final

open Cert.LinIdeal Cert.LinIdeal.Gen

variable (m : (ℓ : Loc nD τ sig) → Buf (Elt Ideal) ℓ)

/-- The flattened features at the region's entry. -/
abbrev xs (c : Dev nD) : Vec Ideal S32x76800 .f32 := V m c main_v0
/-- The weights at the region's entry. -/
abbrev ws (c : Dev nD) : Vec Ideal S300x76800 .f32 := V m c main_arg1
/-- The bias row at the region's entry. -/
abbrev bs (c : Dev nD) : Vec Ideal S1x300 .f32 := V m c main_v1

/-- A partial product read at an index. -/
theorem part_apply (x : Vec Ideal S32x6400 .f32) (w : Vec Ideal S300x6400 .f32) (r : Fin 32) (o : Fin 300) :
    k0_pay1 x w (ix2 r o) = ∑ k : Fin 6400, x (ix2 r k) * w (ix2 o k) := by
  pointwise [k0_pay1]

/-- The first point adds its partial product to the bias. -/
theorem first_apply (x : Vec Ideal S32x6400 .f32) (w : Vec Ideal S300x6400 .f32) (b : Vec Ideal S1x300 .f32) (r : Fin 32) (o : Fin 300) :
    k0_pay2 x w b (ix2 r o) = b (ix2 0 o) + k0_pay1 x w (ix2 r o) := by
  rw [add_comm]
  pointwise [k0_pay2]

/-- A later point adds its partial product to what is there. -/
theorem next_apply (x : Vec Ideal S32x6400 .f32) (w : Vec Ideal S300x6400 .f32) (a : Vec Ideal S32x300 .f32) (r : Fin 32) (o : Fin 300) :
    k0_pay3 x w a (ix2 r o) = a (ix2 r o) + k0_pay1 x w (ix2 r o) := by
  pointwise [k0_pay3]

/-- There are twelve points. -/
theorem N12 : cfg0.N = 12 := N_0

/-- Which blocks a point stages: columns `t` of the features and of the weights, the one bias block. -/
theorem idx (t : Fin cfg0.N) : (win0_0.index t 0 = 0 ∧ win0_0.index t 1 = t.val) ∧
    (win0_1.index t 0 = 0 ∧ win0_1.index t 1 = t.val) ∧ (win0_2.index t 0 = 0 ∧ win0_2.index t 1 = 0) := by
  rcases fin_N0 t with rfl | rfl | rfl | rfl | rfl | rfl | rfl | rfl | rfl | rfl | rfl | rfl <;> decide

/-- Each point stages the one bias block. -/
theorem bias_blk (c : Dev nD) (t : Fin cfg0.N) (o : Fin 300) :
    (iblk m c 2 t : Vec Ideal S1x300 .f32) (ix2 0 o) = bs m c (ix2 0 o) := by
  blk_ext [iblk, idx t]

/-- After the last point the block holds the bias and the sum of the partial products. -/
theorem outs_apply (c : Dev nD) (r : Fin 32) (o : Fin 300) :
    outsAt0 m c 11 (by rw [N12]; decide) (ix2 r o) = bs m c (ix2 0 o) + ∑ t : Fin cfg0.N, k0_pay1 (iblk m c 0 t) (iblk m c 1 t) (ix2 r o) := by
  have := Pipeline.eq_sum_fin_of_reset_step_apply_last (fun n h => outsAt0 m c n h) 12
    (fun j : S32x300.Idx => (bs m c (ix2 0 (show Fin 300 from j 1)) : EReal))
    (fun t j => (k0_pay1 (F := Ideal) (iblk m c 0 t) (iblk m c 1 t) j : EReal))
    (fun t h j => by
      have h1 : ¬ 1 ≤ t.val := by have := lt_of_lt_of_eq t.isLt N12; omega
      rw [outsAt0_A m c t h h1]; frame_out
      idx_vars j
      rw [first_apply, bias_blk])
    (fun t h j => by
      have h1 : 1 ≤ t.val := by omega
      rw [outsAt0_B m c t h h1]; frame_out
      idx_vars j
      rw [next_apply])
    (le_of_eq N_0) t0_11 rfl (ix2 r o)
  exact this

/-- The sum of the partial products is the whole product. -/
theorem sum_apply (c : Dev nD) (r : Fin 32) (o : Fin 300) :
    (∑ t : Fin cfg0.N, k0_pay1 (F := Ideal) (iblk m c 0 t) (iblk m c 1 t) (ix2 r o) : EReal)
      = ∑ k : Fin 76800, xs m c (ix2 r k) * ws m c (ix2 o k) := by
  have : (∑ t : Fin cfg0.N, k0_pay1 (F := Ideal) (iblk m c 0 t) (iblk m c 1 t) (ix2 r o) : EReal)
      = ∑ a : Fin 1, ∑ k : Fin 76800, xs m c (ix2 r k) * ws m c (ix2 o k) := by
    simp only [part_apply]
    refine Eq.trans (Finset.sum_congr rfl fun t _ => Finset.sum_congr rfl fun k _ => ?_)
      (Fin.sum_points_lanes_fin (M := EReal) (N := cfg0.N) (n := 6400) (A := 1) (L := 76800) 12
        (fun _ k => xs m c (ix2 r k) * ws m c (ix2 o k)) N12 (by norm_num))
    refine congrArg₂ (fun a b : EReal => a * b) ?_ ?_ <;> blk_ext [iblk, idx t]
  rw [this]; simp

/-- What the accumulated block holds after the last point: the bias and the whole product. -/
def result (c : Dev nD) : Vec Ideal S32x300 .f32 := fun i =>
  bs m c (ix2 0 (show Fin 300 from i 1)) + ∑ k : Fin 76800, xs m c (ix2 (show Fin 32 from i 0) k) * ws m c (ix2 (show Fin 300 from i 1) k)

/-- The result array after the last point. -/
theorem final_o (c : Dev nD) : (dats m 0 c).arrAt 3 cfg0.N = result m c := by
  refine (dats m 0 c).arrAt_eq_of_after_last 3 t0_11 (by decide +kernel) (result m c) ?_
  intro j
  rw [after0_3]
  idx_vars j
  have key := outs_apply m c j0 j1
  rw [sum_apply] at key
  generalize hX : outsAt0 m c t0_11.val _ = X
  rw [show outsAt0 m c 11 (by rw [N12]; decide) = X from hX] at key
  show X (ix2 j0 j1) = result m c (ix2 j0 j1)
  exact key

/-- The features at the region's entry are the argument, flattened. -/
theorem xs_eq (c : Dev nD) : xs m c = shapeCast S32x76800 (m ((c : Thread nD τ).loc main_arg0)) Cert.LinIdeal.Gen.facts.shapeCasts_S32x100x768_S32x76800 := by
  show StableHlo.after hostOps0 (fun b => m (c, b)) main_v0 = _
  unfold hostOps0
  after_results <;> rfl

/-- The bias row at the region's entry is the argument. -/
theorem bs_apply (c : Dev nD) (o : Fin 300) : bs m c (ix2 0 o) = (m ((c : Thread nD τ).loc main_arg2) : Vec Ideal S300 .f32) (ix1 o) := by
  unfold bs V
  unfold hostOps0
  after_reads_at

end Cert.LinIdeal.Final

namespace Cert.LinReferenceIdeal.Final

open Cert.LinReferenceIdeal Cert.LinReferenceIdeal.Gen

/-- The reference's term read at an index: the bias and the whole product. -/
theorem result_apply (x : Vec Ideal S32x100x768 .f32) (w : Vec Ideal S300x76800 .f32) (b : Vec Ideal S300 .f32)
    (r : Fin 32) (o : Fin 300) :
    addf (Host.dotGeneral (F := Ideal) (φ₁ := .f32) (φ₂ := .f32) dot_S32x76800_S76800x300_S32x300_1_0_0_1_n_n none (shapeCast S32x76800 x shapeCasts_S32x100x768_S32x76800) (transpose S76800x300 [1, 0] w transposes_S300x76800_S76800x300_1_0)) (broadcastInDim S32x300 ![0, 1] bcast_S1x300_S32x300_0_1 (broadcastInDim S1x300 ![1] bcast_S300_S1x300_1 b)) (ix2 r o)
    = b (ix1 o) + ∑ k : Fin 76800, (shapeCast S32x76800 x shapeCasts_S32x100x768_S32x76800 : Vec Ideal S32x76800 .f32) (ix2 r k) * w (ix2 o k) := by
  rw [add_comm]
  generalize shapeCast S32x76800 x shapeCasts_S32x100x768_S32x76800 = y
  pointwise []

end Cert.LinReferenceIdeal.Final

namespace Cert.Proof.LinClaims

/-- The accumulated product and the one long product of the same arguments are the same function. -/
theorem algebraic : Cert.algebraic_LinIdeal_LinReferenceIdeal := by
  intro m ρ m' ρ' _ hagree
  refine ⟨_, Cert.LinIdeal.Value.run_blocks (F := Ideal) m ρ, ?_⟩
  refine (θ_run Cert.LinReferenceIdeal.defs _ _).mono (fun _ h c => ⟨(h c).1.trans ?_, (h c).2⟩)
    (Cert.LinReferenceIdeal.Value.run (F := Ideal) m' ρ')
  obtain ⟨h0, h1, h2⟩ := hagree c
  rw [h0, h1, h2, Cert.LinIdeal.Final.final_o]
  funext i
  idx_vars i
  refine (Cert.LinReferenceIdeal.Final.result_apply _ _ _ i0 i1).trans ?_
  show _ = Cert.LinIdeal.Final.bs m c (ix2 0 i1) + ∑ k : Fin 76800, Cert.LinIdeal.Final.xs m c (ix2 i0 k) * Cert.LinIdeal.Final.ws m c (ix2 i1 k)
  rw [Cert.LinIdeal.Final.bs_apply, Cert.LinIdeal.Final.xs_eq, show Cert.LinIdeal.Final.ws m c = _ from Cert.LinIdeal.Gen.V_main_arg1 m c]

end Cert.Proof.LinClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Lin
public import proofs.«01_k».proof.Proof.Gen.Lin.Skeleton
public import proofs.«01_k».proof.Proof.Gen.Lin.Launch
public import proofs.«01_k».proof.Proof.Gen.Lin.Points
public import proofs.«01_k».proof.Proof.Gen.Lin.Frame
public import proofs.«01_k».proof.Proof.Gen.LinIdeal
public import proofs.«01_k».proof.Proof.Gen.LinIdeal.Skeleton
public import proofs.«01_k».proof.Proof.Gen.LinIdeal.Launch
public import proofs.«01_k».proof.Proof.Gen.LinIdeal.Points
public import proofs.«01_k».proof.Proof.Gen.LinIdeal.Frame
public import proofs.«01_k».proof.Proof.Gen.LinIdeal.Value
public import proofs.«01_k».proof.Proof.Gen.LinReferenceIdeal
public import proofs.«01_k».proof.Proof.Gen.LinReferenceIdeal.Run
public import proofs.«01_k».proof.Proof.Gen.Pre_finite
public import proofs.«01_k».proof.Proof.FusedMath
public import proofs.«01_k».proof.Proof.LinValue
public import Idealize.ShloMosaic.Adequacy
public import Idealize.ShloMosaic.Init

@[expose] public section

noncomputable section

namespace Cert.Proof

open Idealize.ShloMosaic Idealize.SL.Sem Cert.Kernel

/-- The reference of the fused part runs, keeps its arguments and leaves every semaphore at zero. -/
theorem reference_frame : Cert.quiescent_ReferenceIdeal :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The same under the precondition of the value claim. -/
theorem reference_frame_finite : Cert.quiescent_ReferenceIdeal_pre_finite :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The reference of the last linear layer runs, keeps its arguments and leaves every semaphore at zero. -/
theorem linear_reference_frame : Cert.quiescent_LinReferenceIdeal :=
  fun m ρ _ => (θ_run Cert.LinReferenceIdeal.defs _ _).mono
    (fun r h => ⟨fun c => (h c).2, Idealize.ShloMosaic.sem_eq_zero_of_no_sems (by decide) r.2⟩)
    (Cert.LinReferenceIdeal.Value.run (F := Ideal) m ρ)

/-- The mask's finite stand-in may be read as minus infinity and the scale as one over the square root of 32. -/
theorem constants : Cert.preserves_Kernel_KernelIdeal :=
  ⟨IdealRules.named_const.statement _ _ _ _ _ rfl, IdealRules.named_const.statement _ _ _ _ _ rfl⟩

theorem claim : Cert.Claim := ⟨Cert.Kernel.Gen.facts, Cert.KernelIdeal.Gen.facts, Cert.ReferenceIdeal.Gen.facts, Cert.Lin.Gen.facts, Cert.LinIdeal.Gen.facts, Cert.LinReferenceIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  reference_frame,
  reference_frame_finite,
  fun m ρ _ => Cert.Lin.Gen.frame m ρ,
  fun m ρ _ => Cert.LinIdeal.Gen.frame m ρ,
  linear_reference_frame,
  constants,
  FusedClaims.algebraic,
  trivial,
  LinClaims.algebraic⟩

end Cert.Proof

end
